-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v87_0)) (v1 : (c : Dev Cert.Kernel2Ideal.nD) → Buf (Elt Ideal) ((c.tc : Thread Cert.Kernel2Ideal.nD Cert.Kernel2Ideal.τ).loc Cert.Kernel2Ideal.main_v87_1)) (v2 : (c : Dev Cert.Kernel2Ideal.nD) → Buf (Elt Ideal) ((c.tc : Thread Cert.Kernel2Ideal.nD Cert.Kernel2Ideal.τ).loc Cert.Kernel2Ideal.main_v87_2)) (v3 : (c : Dev Cert.Kernel2Ideal.nD) → Buf (Elt Ideal) ((c.tc : Thread Cert.Kernel2Ideal.nD Cert.Kernel2Ideal.τ).loc Cert.Kernel2Ideal.main_v87_3)) (v4 : (c : Dev Cert.Kernel2Ideal.nD) → Buf (Elt Ideal) ((c.tc : Thread Cert.Kernel2Ideal.nD Cert.Kernel2Ideal.τ).loc Cert.Kernel2Ideal.main_v87_4)) (v5 : (c : Dev Cert.Kernel2Ideal.nD) → Buf (Elt Ideal) ((c.tc : Thread Cert.Kernel2Ideal.nD Cert.Kernel2Ideal.τ).loc Cert.Kernel2Ideal.main_v87_5)) (v6 : (c : Dev Cert.Kernel2Ideal.nD) → Buf (Elt Ideal) ((c.tc : Thread Cert.Kernel2Ideal.nD Cert.Kernel2Ideal.τ).loc Cert.Kernel2Ideal.main_v87_6)) (v7 : (c : Dev Cert.Kernel2Ideal.nD) → Buf (Elt Ideal) ((c.tc : Thread Cert.Kernel2Ideal.nD Cert.Kernel2Ideal.τ).loc Cert.Kernel2Ideal.main_v87_7)) (v8 : (c : Dev Cert.Kernel2Ideal.nD) → Buf (Elt Ideal) ((c.tc : Thread Cert.Kernel2Ideal.nD Cert.Kernel2Ideal.τ).loc Cert.Kernel2Ideal.main_v87_8)) (v9 : (c : Dev Cert.Kernel2Ideal.nD) → Buf (Elt Ideal) ((c.tc : Thread Cert.Kernel2Ideal.nD Cert.Kernel2Ideal.τ).loc Cert.Kernel2Ideal.main_v87_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v87_0) = v0 c
          ∧ r.2.mem ((c.tc : Thread Cert.Kernel2Ideal.nD Cert.Kernel2Ideal.τ).loc Cert.Kernel2Ideal.main_v87_1) = v1 c
          ∧ r.2.mem ((c.tc : Thread Cert.Kernel2Ideal.nD Cert.Kernel2Ideal.τ).loc Cert.Kernel2Ideal.main_v87_2) = v2 c
          ∧ r.2.mem ((c.tc : Thread Cert.Kernel2Ideal.nD Cert.Kernel2Ideal.τ).loc Cert.Kernel2Ideal.main_v87_3) = v3 c
          ∧ r.2.mem ((c.tc : Thread Cert.Kernel2Ideal.nD Cert.Kernel2Ideal.τ).loc Cert.Kernel2Ideal.main_v87_4) = v4 c
          ∧ r.2.mem ((c.tc : Thread Cert.Kernel2Ideal.nD Cert.Kernel2Ideal.τ).loc Cert.Kernel2Ideal.main_v87_5) = v5 c
          ∧ r.2.mem ((c.tc : Thread Cert.Kernel2Ideal.nD Cert.Kernel2Ideal.τ).loc Cert.Kernel2Ideal.main_v87_6) = v6 c
          ∧ r.2.mem ((c.tc : Thread Cert.Kernel2Ideal.nD Cert.Kernel2Ideal.τ).loc Cert.Kernel2Ideal.main_v87_7) = v7 c
          ∧ r.2.mem ((c.tc : Thread Cert.Kernel2Ideal.nD Cert.Kernel2Ideal.τ).loc Cert.Kernel2Ideal.main_v87_8) = v8 c
          ∧ r.2.mem ((c.tc : Thread Cert.Kernel2Ideal.nD Cert.Kernel2Ideal.τ).loc Cert.Kernel2Ideal.main_v87_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v224) = v0 c
          ∧ r.2.mem ((c.tc : Thread Cert.Reference2Ideal.nD Cert.Reference2Ideal.τ).loc Cert.Reference2Ideal.main_v225) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_v221) = v6 c
          ∧ r.2.mem ((c.tc : Thread Cert.Reference2Ideal.nD Cert.Reference2Ideal.τ).loc Cert.Reference2Ideal.main_v223) = v7 c
          ∧ r.2.mem ((c.tc : Thread Cert.Reference2Ideal.nD Cert.Reference2Ideal.τ).loc Cert.Reference2Ideal.main_v160) = v8 c
          ∧ r.2.mem ((c.tc : Thread Cert.Reference2Ideal.nD Cert.Reference2Ideal.τ).loc Cert.Reference2Ideal.main_v199) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v89_0)) (v1 : (c : Dev Cert.Kernel3Ideal.nD) → Buf (Elt Ideal) ((c.tc : Thread Cert.Kernel3Ideal.nD Cert.Kernel3Ideal.τ).loc Cert.Kernel3Ideal.main_v89_1)) (v2 : (c : Dev Cert.Kernel3Ideal.nD) → Buf (Elt Ideal) ((c.tc : Thread Cert.Kernel3Ideal.nD Cert.Kernel3Ideal.τ).loc Cert.Kernel3Ideal.main_v89_2)) (v3 : (c : Dev Cert.Kernel3Ideal.nD) → Buf (Elt Ideal) ((c.tc : Thread Cert.Kernel3Ideal.nD Cert.Kernel3Ideal.τ).loc Cert.Kernel3Ideal.main_v89_3)) (v4 : (c : Dev Cert.Kernel3Ideal.nD) → Buf (Elt Ideal) ((c.tc : Thread Cert.Kernel3Ideal.nD Cert.Kernel3Ideal.τ).loc Cert.Kernel3Ideal.main_v89_4)) (v5 : (c : Dev Cert.Kernel3Ideal.nD) → Buf (Elt Ideal) ((c.tc : Thread Cert.Kernel3Ideal.nD Cert.Kernel3Ideal.τ).loc Cert.Kernel3Ideal.main_v89_5)) (v6 : (c : Dev Cert.Kernel3Ideal.nD) → Buf (Elt Ideal) ((c.tc : Thread Cert.Kernel3Ideal.nD Cert.Kernel3Ideal.τ).loc Cert.Kernel3Ideal.main_v89_6)) (v7 : (c : Dev Cert.Kernel3Ideal.nD) → Buf (Elt Ideal) ((c.tc : Thread Cert.Kernel3Ideal.nD Cert.Kernel3Ideal.τ).loc Cert.Kernel3Ideal.main_v89_7)) (v8 : (c : Dev Cert.Kernel3Ideal.nD) → Buf (Elt Ideal) ((c.tc : Thread Cert.Kernel3Ideal.nD Cert.Kernel3Ideal.τ).loc Cert.Kernel3Ideal.main_v89_8)) (v9 : (c : Dev Cert.Kernel3Ideal.nD) → Buf (Elt Ideal) ((c.tc : Thread Cert.Kernel3Ideal.nD Cert.Kernel3Ideal.τ).loc Cert.Kernel3Ideal.main_v89_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v89_0) = v0 c
          ∧ r.2.mem ((c.tc : Thread Cert.Kernel3Ideal.nD Cert.Kernel3Ideal.τ).loc Cert.Kernel3Ideal.main_v89_1) = v1 c
          ∧ r.2.mem ((c.tc : Thread Cert.Kernel3Ideal.nD Cert.Kernel3Ideal.τ).loc Cert.Kernel3Ideal.main_v89_2) = v2 c
          ∧ r.2.mem ((c.tc : Thread Cert.Kernel3Ideal.nD Cert.Kernel3Ideal.τ).loc Cert.Kernel3Ideal.main_v89_3) = v3 c
          ∧ r.2.mem ((c.tc : Thread Cert.Kernel3Ideal.nD Cert.Kernel3Ideal.τ).loc Cert.Kernel3Ideal.main_v89_4) = v4 c
          ∧ r.2.mem ((c.tc : Thread Cert.Kernel3Ideal.nD Cert.Kernel3Ideal.τ).loc Cert.Kernel3Ideal.main_v89_5) = v5 c
          ∧ r.2.mem ((c.tc : Thread Cert.Kernel3Ideal.nD Cert.Kernel3Ideal.τ).loc Cert.Kernel3Ideal.main_v89_6) = v6 c
          ∧ r.2.mem ((c.tc : Thread Cert.Kernel3Ideal.nD Cert.Kernel3Ideal.τ).loc Cert.Kernel3Ideal.main_v89_7) = v7 c
          ∧ r.2.mem ((c.tc : Thread Cert.Kernel3Ideal.nD Cert.Kernel3Ideal.τ).loc Cert.Kernel3Ideal.main_v89_8) = v8 c
          ∧ r.2.mem ((c.tc : Thread Cert.Kernel3Ideal.nD Cert.Kernel3Ideal.τ).loc Cert.Kernel3Ideal.main_v89_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v224) = v0 c
          ∧ r.2.mem ((c.tc : Thread Cert.Reference3Ideal.nD Cert.Reference3Ideal.τ).loc Cert.Reference3Ideal.main_v225) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v29) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_v222) = v6 c
          ∧ r.2.mem ((c.tc : Thread Cert.Reference3Ideal.nD Cert.Reference3Ideal.τ).loc Cert.Reference3Ideal.main_v223) = v7 c
          ∧ r.2.mem ((c.tc : Thread Cert.Reference3Ideal.nD Cert.Reference3Ideal.τ).loc Cert.Reference3Ideal.main_v162) = v8 c
          ∧ r.2.mem ((c.tc : Thread Cert.Reference3Ideal.nD Cert.Reference3Ideal.τ).loc Cert.Reference3Ideal.main_v201) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S2x8x8192x256 : Shape := ⟨4, ![2, 8, 8192, 256]⟩
abbrev S2x8192x256 : Shape := ⟨3, ![2, 8192, 256]⟩
abbrev S128x8x128 : Shape := ⟨3, ![128, 8, 128]⟩
abbrev S1024 : Shape := ⟨1, ![1024]⟩
abbrev S_ : Shape := ⟨0, ![]⟩

class Facts : Prop where
  bitsLt_bf16_f32 : FTy.bits .bf16 < FTy.bits .f32
  bcast_S_S2x8x8192x256 : S_.BroadcastsInDim S2x8x8192x256 (![] : Fin 0 → Fin S2x8x8192x256.rank)
  bcast_S_S2x8192x256 : S_.BroadcastsInDim S2x8192x256 (![] : Fin 0 → Fin S2x8192x256.rank)

variable [Facts]

def fn {F : FTy → Type} [FloatOps F] (main_arg0 : FVec F S2x8x8192x256 .bf16) (main_arg1 : FVec F S2x8192x256 .bf16) (main_arg2 : FVec F S128x8x128 .f32) (main_arg3 : FVec F S1024 .f32) : IVec S2x8x8192x256 1 × IVec S2x8192x256 1 :=
  let main_v0 : FVec F S2x8x8192x256 .f32 := (extf .f32 · bitsLt_bf16_f32) main_arg0
  let main_v1 : FVec F S2x8x8192x256 .f32 := Host.absf main_v0
  let main_cst : FVec F S_ .f32 := constant S_ .f32 0x7F800000#32
  let main_v2 : FVec F S2x8x8192x256 .f32 := broadcastInDim S2x8x8192x256 ![] bcast_S_S2x8x8192x256 main_cst
  let main_v3 : IVec S2x8x8192x256 1 := cmpf .olt main_v1 main_v2
  let main_v4 : FVec F S2x8192x256 .f32 := (extf .f32 · bitsLt_bf16_f32) main_arg1
  let main_v5 : FVec F S2x8192x256 .f32 := Host.absf main_v4
  let main_cst_0 : FVec F S_ .f32 := constant S_ .f32 0x7F800000#32
  let main_v6 : FVec F S2x8192x256 .f32 := broadcastInDim S2x8192x256 ![] bcast_S_S2x8192x256 main_cst_0
  let main_v7 : IVec S2x8192x256 1 := cmpf .olt main_v5 main_v6
  (main_v3, main_v7)
-- ==== Kernel.lean ====
abbrev S2x8x8192x256 : Shape := ⟨4, ![2, 8, 8192, 256]⟩
abbrev S2x8192x256 : Shape := ⟨3, ![2, 8192, 256]⟩
abbrev S128x8x128 : Shape := ⟨3, ![128, 8, 128]⟩
abbrev S1024 : Shape := ⟨1, ![1024]⟩
abbrev S128x8x64 : Shape := ⟨3, ![128, 8, 64]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S8x128x512 : Shape := ⟨3, ![8, 128, 512]⟩
abbrev S512 : Shape := ⟨1, ![512]⟩
abbrev S1x512 : Shape := ⟨2, ![1, 512]⟩
abbrev S2x8192x512 : Shape := ⟨3, ![2, 8192, 512]⟩
abbrev S1x8x256x256 : Shape := ⟨4, ![1, 8, 256, 256]⟩
abbrev S1x8192x256 : Shape := ⟨3, ![1, 8192, 256]⟩
abbrev S1x256x512 : Shape := ⟨3, ![1, 256, 512]⟩
abbrev S2048x128 : Shape := ⟨2, ![2048, 128]⟩
abbrev S8x256x256 : Shape := ⟨3, ![8, 256, 256]⟩
abbrev S2048x256 : Shape := ⟨2, ![2048, 256]⟩
abbrev S1024x256 : Shape := ⟨2, ![1024, 256]⟩
abbrev S1x1024x256 : Shape := ⟨3, ![1, 1024, 256]⟩
abbrev S1024x128 : Shape := ⟨2, ![1024, 128]⟩
abbrev S1024x1024 : Shape := ⟨2, ![1024, 1024]⟩
abbrev S1024x1 : Shape := ⟨2, ![1024, 1]⟩
abbrev S1x512x256 : Shape := ⟨3, ![1, 512, 256]⟩
abbrev S512x256 : Shape := ⟨2, ![512, 256]⟩
abbrev S512x128 : Shape := ⟨2, ![512, 128]⟩
abbrev S1024x512 : Shape := ⟨2, ![1024, 512]⟩
abbrev S256x128 : Shape := ⟨2, ![256, 128]⟩
abbrev S1x128x512 : Shape := ⟨3, ![1, 128, 512]⟩
abbrev S128x512 : Shape := ⟨2, ![128, 512]⟩
abbrev S256x512 : Shape := ⟨2, ![256, 512]⟩
abbrev S256 : Shape := ⟨1, ![256]⟩
abbrev S256x1 : Shape := ⟨2, ![256, 1]⟩

abbrev nBuf : Space → Nat
  | .hbm => 23
  | .vmem => 11
  | .smem => 0
  | _ => 0

abbrev bufTy : (tb : Table) → Fin (tcTables nBuf tb) → BufTy
  | .hbm, ⟨0, _⟩ => ⟨S2x8x8192x256, .bf16⟩
  | .hbm, ⟨1, _⟩ => ⟨S2x8192x256, .bf16⟩
  | .hbm, ⟨2, _⟩ => ⟨S128x8x128, .f32⟩
  | .hbm, ⟨3, _⟩ => ⟨S1024, .f32⟩
  | .hbm, ⟨4, _⟩ => ⟨S128x8x64, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x128x64, .f32⟩
  | .hbm, ⟨13, _⟩ => ⟨S8x128x1x64, .f32⟩
  | .hbm, ⟨14, _⟩ => ⟨S8x1x8x1, .f32⟩
  | .hbm, ⟨15, _⟩ => ⟨S8x128x8x64, .f32⟩
  | .hbm, ⟨16, _⟩ => ⟨S8x128x8x64, .f32⟩
  | .hbm, ⟨17, _⟩ => ⟨S8x128x8x64, .f32⟩
  | .hbm, ⟨18, _⟩ => ⟨S8x128x512, .f32⟩
  | .hbm, ⟨19, _⟩ => ⟨S8x128x512, .bf16⟩
  | .hbm, ⟨20, _⟩ => ⟨S512, .f32⟩
  | .hbm, ⟨21, _⟩ => ⟨S1x512, .f32⟩
  | .hbm, ⟨22, _⟩ => ⟨S2x8192x512, .f32⟩
  | .local _ .vmem, ⟨0, _⟩ => ⟨S1x8x256x256, .bf16⟩
  | .local _ .vmem, ⟨1, _⟩ => ⟨S1x8x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S8x128x512, .bf16⟩
  | .local _ .vmem, ⟨5, _⟩ => ⟨S1x512, .f32⟩
  | .local _ .vmem, ⟨6, _⟩ => ⟨S1x256x512, .f32⟩
  | .local _ .vmem, ⟨7, _⟩ => ⟨S1x256x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | _, _ => ⟨S2x8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_16 : BitVec 32 := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v35 : BitVec 32 := Scalar.subi v29 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_18 : BitVec 32 := 1#32
  ⟨c0_i32_16, v39, c1_i32_18⟩
def k0_mult1 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c1024_i32_108 : BitVec 32 := 1024#32
  let v225 : BitVec 32 := Scalar.muli arg10 c1024_i32_108
  v225
def k0_off1 (i : grid0.Coords) (k0_t1 : Fin (k0_t1_loop i).trips) : Fin 3 → Nat :=
  let c0_109 : Index := 0#32
  let c0_i32_16 : BitVec 32 := 0#32
  let c1_i32_18 : BitVec 32 := 1#32
  let arg10 : BitVec 32 := Scf.iv c0_i32_16 c1_i32_18 k0_t1
  let c1024_i32_108 : BitVec 32 := 1024#32
  let v225 : BitVec 32 := Scalar.muli arg10 c1024_i32_108
  let v226 : BitVec 32 := v225
  let v227 : Index := Scalar.indexCast v226
  let c0_110 : Index := 0#32
  ![0, v227.toNat, 0]
@[reducible] def k0_t2_loop (i : grid0.Coords) : Scf.Loop 32 :=
  let c0_i32_16 : BitVec 32 := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v35 : BitVec 32 := Scalar.subi v29 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let v36 : BitVec 32 := Scalar.addi c0_i32_16 v35
  let c1_i32_19 : BitVec 32 := 1#32
  ⟨v39, v36, c1_i32_19⟩
def k0_mult2 (i : grid0.Coords) (k0_t2 : Fin (k0_t2_loop i).trips) : BitVec 32 :=
  let c0_i32_16 : BitVec 32 := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v35 : BitVec 32 := Scalar.subi v29 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let c1024_i32_108 : BitVec 32 := 1024#32
  let v225 : BitVec 32 := Scalar.muli arg10 c1024_i32_108
  v225
def k0_off2 (i : grid0.Coords) (k0_t2 : Fin (k0_t2_loop i).trips) : Fin 3 → Nat :=
  let c0_109 : Index := 0#32
  let c0_i32_16 : BitVec 32 := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let v35 : BitVec 32 := Scalar.subi v29 c0_i32_16
  let c1_i32_17 : BitVec 32 := 1#32
  let v37 : BitVec 32 := Scalar.divsi v35 c1_i32_17
  let v38 : BitVec 32 := Scalar.muli v37 c1_i32_17
  let v39 : BitVec 32 := Scalar.addi c0_i32_16 v38
  let c1_i32_19 : BitVec 32 := 1#32
  let arg10 : BitVec 32 := Scf.iv v39 c1_i32_19 k0_t2
  let c1024_i32_108 : BitVec 32 := 1024#32
  let v225 : BitVec 32 := Scalar.muli arg10 c1024_i32_108
  let v226 : BitVec 32 := v225
  let v227 : Index := Scalar.indexCast v226
  let c0_110 : Index := 0#32
  ![0, v227.toNat, 0]
def k0_mult3 (i : grid0.Coords) : BitVec 32 :=
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let c1024_i32_20 : BitVec 32 := 1024#32
  let v40 : BitVec 32 := Scalar.muli v29 c1024_i32_20
  v40
def k0_cond1 (i : grid0.Coords) : BitVec 1 :=
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let c1024_i32_20 : BitVec 32 := 1024#32
  let v40 : BitVec 32 := Scalar.muli v29 c1024_i32_20
  let v41 : BitVec 32 := v40
  let v42 : BitVec 32 := Scalar.subi v12 v41
  let c512_i32 : BitVec 32 := 512#32
  let v43 : BitVec 1 := Scalar.cmpi .sge v42 c512_i32
  let v44 : BitVec 32 := Scalar.extui v43
  let c0_i32_21 : BitVec 32 := 0#32
  let v45 : BitVec 1 := Scalar.cmpi .ne v44 c0_i32_21
  v45

def k0_off3 (i : grid0.Coords) : Fin 3 → Nat :=
  let c0_108 : Index := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let c1024_i32_20 : BitVec 32 := 1024#32
  let v40 : BitVec 32 := Scalar.muli v29 c1024_i32_20
  let v41 : BitVec 32 := v40
  let v225 : Index := Scalar.indexCast v41
  let c0_109 : Index := 0#32
  ![0, v225.toNat, 0]
def k0_mult4 (i : grid0.Coords) : BitVec 32 :=
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let c1024_i32_20 : BitVec 32 := 1024#32
  let v40 : BitVec 32 := Scalar.muli v29 c1024_i32_20
  let v41 : BitVec 32 := v40
  let v42 : BitVec 32 := Scalar.subi v12 v41
  let c512_i32 : BitVec 32 := 512#32
  let v43 : BitVec 1 := Scalar.cmpi .sge v42 c512_i32
  let c512_i32_22 : BitVec 32 := 512#32
  let c0_i32_23 : BitVec 32 := 0#32
  let v46 : BitVec 32 := Scalar.select v43 c512_i32_22 c0_i32_23
  let v47 : BitVec 32 := Scalar.addi v41 v46
  v47
def k0_off4 (i : grid0.Coords) : Fin 3 → Nat :=
  let c0_24 : Index := 0#32
  let arg1 : BitVec 32 := BitVec.ofNat 32 (i 1).val
  let c256_i32 : BitVec 32 := 256#32
  let v12 : BitVec 32 := Scalar.muli arg1 c256_i32
  let c0_i32 : BitVec 32 := 0#32
  let v14 : BitVec 1 := Scalar.cmpi .sgt v12 c0_i32
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c1024_i32 : BitVec 32 := 1024#32
  let c0_i32_8 : BitVec 32 := 0#32
  let v19 : BitVec 1 := Scalar.cmpi .sgt c1024_i32 c0_i32_8
  let v20 : BitVec 32 := Scalar.extui v19
  let c0_i32_9 : BitVec 32 := 0#32
  let v21 : BitVec 1 := Scalar.cmpi .slt c1024_i32 c0_i32_9
  let v22 : BitVec 32 := Scalar.extui v21
  let v23 : BitVec 32 := Scalar.subi v20 v22
  let v24 : BitVec 1 := Scalar.cmpi .ne v18 v23
  let v25 : BitVec 32 := Scalar.remsi v12 c1024_i32
  let c0_i32_10 : BitVec 32 := 0#32
  let v26 : BitVec 1 := Scalar.cmpi .ne v25 c0_i32_10
  let v27 : BitVec 1 := Scalar.andi v24 v26
  let v13 : BitVec 32 := Scalar.divsi v12 c1024_i32
  let c1_i32 : BitVec 32 := 1#32
  let v28 : BitVec 32 := Scalar.subi v13 c1_i32
  let v29 : BitVec 32 := Scalar.select v27 v28 v13
  let c1024_i32_20 : BitVec 32 := 1024#32
  let v40 : BitVec 32 := Scalar.muli v29 c1024_i32_20
  let v41 : BitVec 32 := v40
  let v42 : BitVec 32 := Scalar.subi v12 v41
  let c512_i32 : BitVec 32 := 512#32
  let v43 : BitVec 1 := Scalar.cmpi .sge v42 c512_i32
  let c512_i32_22 : BitVec 32 := 512#32
  let c0_i32_23 : BitVec 32 := 0#32
  let v46 : BitVec 32 := Scalar.select v43 c512_i32_22 c0_i32_23
  let v47 : BitVec 32 := Scalar.addi v41 v46
  let v48 : BitVec 32 := v47
  let v49 : Index := Scalar.indexCast v48
  let c0_25 : Index := 0#32
  ![0, v49.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8x8192x256 : Shape := ⟨4, ![2, 8, 8192, 256]⟩
abbrev S2x8192x256 : Shape := ⟨3, ![2, 8192, 256]⟩
abbrev S128x8x128 : Shape := ⟨3, ![128, 8, 128]⟩
abbrev S1024 : Shape := ⟨1, ![1024]⟩
abbrev S2x8192x128 : Shape := ⟨3, ![2, 8192, 128]⟩
abbrev S128x8x64 : Shape := ⟨3, ![128, 8, 64]⟩
abbrev S512 : Shape := ⟨1, ![512]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x8192x128 : Shape := ⟨4, ![2, 8, 8192, 128]⟩
abbrev S8x64x2x8192 : Shape := ⟨4, ![8, 64, 2, 8192]⟩
abbrev S2x8192x8x64 : Shape := ⟨4, ![2, 8192, 8, 64]⟩
abbrev S2x8192x512 : Shape := ⟨3, ![2, 8192, 512]⟩
abbrev S2x8192 : Shape := ⟨2, ![2, 8192]⟩
abbrev S2x8192x1 : Shape := ⟨3, ![2, 8192, 1]⟩
abbrev S1x1x512 : Shape := ⟨3, ![1, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S2x8x8192x256, .bf16⟩
  | .hbm, ⟨1, _⟩ => ⟨S2x8192x256, .bf16⟩
  | .hbm, ⟨2, _⟩ => ⟨S128x8x128, .f32⟩
  | .hbm, ⟨3, _⟩ => ⟨S1024, .f32⟩
  | .hbm, ⟨4, _⟩ => ⟨S2x8x8192x256, .f32⟩
  | .hbm, ⟨5, _⟩ => ⟨S2x8192x256, .f32⟩
  | .hbm, ⟨6, _⟩ => ⟨S2x8192x128, .f32⟩
  | .hbm, ⟨7, _⟩ => ⟨S128x8x64, .f32⟩
  | .hbm, ⟨8, _⟩ => ⟨S512, .f32⟩
  | .hbm, ⟨9, _⟩ => ⟨S2x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x8x8192x8192, .i1⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192, .f32⟩
  | .hbm, ⟨23, _⟩ => ⟨S_, .f32⟩
  | .hbm, ⟨24, _⟩ => ⟨S2x8x8192, .f32⟩
  | .hbm, ⟨25, _⟩ => ⟨S2x8x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S2x8x8192x1, .f32⟩
  | .hbm, ⟨33, _⟩ => ⟨S2x8x8192x8192, .f32⟩
  | .hbm, ⟨34, _⟩ => ⟨S2x8x8192x8192, .f32⟩
  | .hbm, ⟨35, _⟩ => ⟨S2x8x8192x128, .f32⟩
  | .hbm, ⟨36, _⟩ => ⟨S8x64x2x8192, .f32⟩
  | .hbm, ⟨37, _⟩ => ⟨S2x8192x8x64, .f32⟩
  | .hbm, ⟨38, _⟩ => ⟨S2x8192x512, .f32⟩
  | .hbm, ⟨39, _⟩ => ⟨S2x8192x512, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x512, .f32⟩
  | .hbm, ⟨51, _⟩ => ⟨S2x8192x512, .f32⟩
  | .hbm, ⟨52, _⟩ => ⟨S1x1x512, .f32⟩
  | .hbm, ⟨53, _⟩ => ⟨S2x8192x512, .f32⟩
  | .hbm, ⟨54, _⟩ => ⟨S2x8192x512, .f32⟩
  | _, _ => ⟨S2x8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S1024 : Shape := ⟨1, ![1024]⟩
abbrev S1024x2464 : Shape := ⟨2, ![1024, 2464]⟩
abbrev S128x8x128 : Shape := ⟨3, ![128, 8, 128]⟩
abbrev S128 : Shape := ⟨1, ![128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16 : Shape := ⟨1, ![16]⟩
abbrev S1x16 : Shape := ⟨2, ![1, 16]⟩
abbrev S8192x16 : Shape := ⟨2, ![8192, 16]⟩
abbrev S1x8192x1x32 : Shape := ⟨4, ![1, 8192, 1, 32]⟩
abbrev S1x8192x4x32 : Shape := ⟨4, ![1, 8192, 4, 32]⟩
abbrev S1x1024x2464 : Shape := ⟨3, ![1, 1024, 2464]⟩
abbrev S1x1024x768 : Shape := ⟨3, ![1, 1024, 768]⟩
abbrev S1x1024x8x96 : Shape := ⟨4, ![1, 1024, 8, 96]⟩
abbrev S1x1024x8x64 : Shape := ⟨4, ![1, 1024, 8, 64]⟩
abbrev S1x1024x512 : Shape := ⟨3, ![1, 1024, 512]⟩
abbrev S1x1024x8x32 : Shape := ⟨4, ![1, 1024, 8, 32]⟩
abbrev S1x1024x256 : Shape := ⟨3, ![1, 1024, 256]⟩
abbrev S1x1024x128 : Shape := ⟨3, ![1, 1024, 128]⟩
abbrev S1x1024x32 : Shape := ⟨3, ![1, 1024, 32]⟩
abbrev S1x1024x1536 : Shape := ⟨3, ![1, 1024, 1536]⟩
abbrev S1x1024x2560 : Shape := ⟨3, ![1, 1024, 2560]⟩
abbrev S1024x2560 : Shape := ⟨2, ![1024, 2560]⟩
abbrev S128x8x64 : Shape := ⟨3, ![128, 8, 64]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S2x1x1024 : Shape := ⟨3, ![2, 1, 1024]⟩
abbrev S1x1x1024 : Shape := ⟨3, ![1, 1, 1024]⟩
abbrev S1x128 : Shape := ⟨2, ![1, 128]⟩
abbrev S2x8192x256 : Shape := ⟨3, ![2, 8192, 256]⟩
abbrev S2x8x8192x256 : Shape := ⟨4, ![2, 8, 8192, 256]⟩
abbrev S2x8192x128 : Shape := ⟨3, ![2, 8192, 128]⟩
abbrev S2x8192x32 : Shape := ⟨3, ![2, 8192, 32]⟩
abbrev S1x512x1024 : Shape := ⟨3, ![1, 512, 1024]⟩
abbrev S512x128 : Shape := ⟨2, ![512, 128]⟩
abbrev S1x512x256 : Shape := ⟨3, ![1, 512, 256]⟩
abbrev S1x8x512x256 : Shape := ⟨4, ![1, 8, 512, 256]⟩
abbrev S1x512x128 : Shape := ⟨3, ![1, 512, 128]⟩
abbrev S1x512x32 : Shape := ⟨3, ![1, 512, 32]⟩
abbrev S1x512 : Shape := ⟨2, ![1, 512]⟩
abbrev S1x512x1 : Shape := ⟨3, ![1, 512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S1x1x512x256 : Shape := ⟨4, ![1, 1, 512, 256]⟩
abbrev S1024x128 : Shape := ⟨2, ![1024, 128]⟩
abbrev S512 : Shape := ⟨1, ![512]⟩
abbrev S512x1 : Shape := ⟨2, ![512, 1]⟩
abbrev S512x32 : Shape := ⟨2, ![512, 32]⟩

abbrev nBuf : Space → Nat
  | .hbm => 113
  | .vmem => 38
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x2464, .f32⟩
  | .hbm, ⟨5, _⟩ => ⟨S128x8x128, .f32⟩
  | .hbm, ⟨6, _⟩ => ⟨S128, .f32⟩
  | .hbm, ⟨7, _⟩ => ⟨S8192, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S8192x32, .f32⟩
  | .hbm, ⟨35, _⟩ => ⟨S8192x64, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S8192, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x32, .f32⟩
  | .hbm, ⟨62, _⟩ => ⟨S1x8192x1x32, .f32⟩
  | .hbm, ⟨63, _⟩ => ⟨S1x8192x4x32, .f32⟩
  | .hbm, ⟨64, _⟩ => ⟨S8192x128, .f32⟩
  | .hbm, ⟨65, _⟩ => ⟨S8192x16, .f32⟩
  | .hbm, ⟨66, _⟩ => ⟨S8192x32, .f32⟩
  | .hbm, ⟨67, _⟩ => ⟨S1x8192x1x32, .f32⟩
  | .hbm, ⟨68, _⟩ => ⟨S1x8192x4x32, .f32⟩
  | .hbm, ⟨69, _⟩ => ⟨S8192x128, .f32⟩
  | .hbm, ⟨70, _⟩ => ⟨S1x1024x2464, .f32⟩
  | .hbm, ⟨71, _⟩ => ⟨S1x1024x768, .f32⟩
  | .hbm, ⟨72, _⟩ => ⟨S1x1024x8x96, .f32⟩
  | .hbm, ⟨73, _⟩ => ⟨S1x1024x8x64, .f32⟩
  | .hbm, ⟨74, _⟩ => ⟨S1x1024x512, .f32⟩
  | .hbm, ⟨75, _⟩ => ⟨S1x1024x8x32, .f32⟩
  | .hbm, ⟨76, _⟩ => ⟨S1x1024x256, .f32⟩
  | .hbm, ⟨77, _⟩ => ⟨S1x1024x128, .f32⟩
  | .hbm, ⟨78, _⟩ => ⟨S1x1024x32, .f32⟩
  | .hbm, ⟨79, _⟩ => ⟨S1x1024x1536, .f32⟩
  | .hbm, ⟨80, _⟩ => ⟨S1x1024x2560, .f32⟩
  | .hbm, ⟨81, _⟩ => ⟨S1x1024x2560, .bf16⟩
  | .hbm, ⟨82, _⟩ => ⟨S1024x2560, .bf16⟩
  | .hbm, ⟨83, _⟩ => ⟨S128x8x64, .f32⟩
  | .hbm, ⟨84, _⟩ => ⟨S8x64x128, .f32⟩
  | .hbm, ⟨85, _⟩ => ⟨S8x8, .i32⟩
  | .hbm, ⟨86, _⟩ => ⟨S8x8, .i32⟩
  | .hbm, ⟨87, _⟩ => ⟨S_, .i32⟩
  | .hbm, ⟨88, _⟩ => ⟨S8x8, .i32⟩
  | .hbm, ⟨89, _⟩ => ⟨S8x8, .i32⟩
  | .hbm, ⟨90, _⟩ => ⟨S8x8, .i1⟩
  | .hbm, ⟨91, _⟩ => ⟨S8x8, .f32⟩
  | .hbm, ⟨92, _⟩ => ⟨S8x1x8x1, .f32⟩
  | .hbm, ⟨93, _⟩ => ⟨S8x64x1x128, .f32⟩
  | .hbm, ⟨94, _⟩ => ⟨S8x64x8x128, .f32⟩
  | .hbm, ⟨95, _⟩ => ⟨S8x64x8x128, .f32⟩
  | .hbm, ⟨96, _⟩ => ⟨S8x64x8x128, .f32⟩
  | .hbm, ⟨97, _⟩ => ⟨S512x1024, .f32⟩
  | .hbm, ⟨98, _⟩ => ⟨S512x1024, .bf16⟩
  | .hbm, ⟨99, _⟩ => ⟨S2x1x1024, .f32⟩
  | .hbm, ⟨100, _⟩ => ⟨S2x1x1024, .f32⟩
  | .hbm, ⟨101, _⟩ => ⟨S1x1x1024, .f32⟩
  | .hbm, ⟨102, _⟩ => ⟨S1x128, .f32⟩
  | .hbm, ⟨103, _⟩ => ⟨S2x8192x256, .f32⟩
  | .hbm, ⟨104, _⟩ => ⟨S2x8192x256, .f32⟩
  | .hbm, ⟨105, _⟩ => ⟨S2x8192x256, .f32⟩
  | .hbm, ⟨106, _⟩ => ⟨S2x8192x256, .f32⟩
  | .hbm, ⟨107, _⟩ => ⟨S2x8192x256, .f32⟩
  | .hbm, ⟨108, _⟩ => ⟨S2x8192x256, .f32⟩
  | .hbm, ⟨109, _⟩ => ⟨S2x8x8192x256, .bf16⟩
  | .hbm, ⟨110, _⟩ => ⟨S2x8192x256, .bf16⟩
  | .hbm, ⟨111, _⟩ => ⟨S2x8192x128, .f32⟩
  | .hbm, ⟨112, _⟩ => ⟨S2x8192x32, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S512x1024, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x256, .f32⟩
  | .local _ .vmem, ⟨30, _⟩ => ⟨S1x8x512x256, .bf16⟩
  | .local _ .vmem, ⟨31, _⟩ => ⟨S1x8x512x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x128, .f32⟩
  | .local _ .vmem, ⟨35, _⟩ => ⟨S1x512x128, .f32⟩
  | .local _ .vmem, ⟨36, _⟩ => ⟨S1x512x32, .f32⟩
  | .local _ .vmem, ⟨37, _⟩ => ⟨S1x512x32, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87_0 : Ref sig .tc := ⟨.hbm, 103, rfl⟩
abbrev main_v87_1 : Ref sig .tc := ⟨.hbm, 104, rfl⟩
abbrev main_v87_2 : Ref sig .tc := ⟨.hbm, 105, rfl⟩
abbrev main_v87_3 : Ref sig .tc := ⟨.hbm, 106, rfl⟩
abbrev main_v87_4 : Ref sig .tc := ⟨.hbm, 107, rfl⟩
abbrev main_v87_5 : Ref sig .tc := ⟨.hbm, 108, rfl⟩
abbrev main_v87_6 : Ref sig .tc := ⟨.hbm, 109, rfl⟩
abbrev main_v87_7 : Ref sig .tc := ⟨.hbm, 110, rfl⟩
abbrev main_v87_8 : Ref sig .tc := ⟨.hbm, 111, rfl⟩
abbrev main_v87_9 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x8192x1024 : Shape := ⟨3, ![2, 8192, 1024]⟩
abbrev S2x1024 : Shape := ⟨2, ![2, 1024]⟩
abbrev S1024 : Shape := ⟨1, ![1024]⟩
abbrev S1024x2464 : Shape := ⟨2, ![1024, 2464]⟩
abbrev S128x8x128 : Shape := ⟨3, ![128, 8, 128]⟩
abbrev S128 : Shape := ⟨1, ![128]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2464 : Shape := ⟨3, ![2, 8192, 2464]⟩
abbrev S2x8192x256 : Shape := ⟨3, ![2, 8192, 256]⟩
abbrev S2x8192x768 : Shape := ⟨3, ![2, 8192, 768]⟩
abbrev S2x8192x128 : Shape := ⟨3, ![2, 8192, 128]⟩
abbrev S2x8192x32 : Shape := ⟨3, ![2, 8192, 32]⟩
abbrev S2x8192x4x64 : Shape := ⟨4, ![2, 8192, 4, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x4x32 : Shape := ⟨4, ![2, 8192, 4, 32]⟩
abbrev S1x8192x1x32 : Shape := ⟨4, ![1, 8192, 1, 32]⟩
abbrev S2x8192x8x96 : Shape := ⟨4, ![2, 8192, 8, 96]⟩
abbrev S2x8192x8x64 : Shape := ⟨4, ![2, 8192, 8, 64]⟩
abbrev S2x8192x8x32 : Shape := ⟨4, ![2, 8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S1x1x128 : Shape := ⟨3, ![1, 1, 128]⟩
abbrev S2x8192x1x32 : Shape := ⟨4, ![2, 8192, 1, 32]⟩
abbrev S2x8192x1x16 : Shape := ⟨4, ![2, 8192, 1, 16]⟩
abbrev S128x8x64 : Shape := ⟨3, ![128, 8, 64]⟩
abbrev S8x128x2x8192 : Shape := ⟨4, ![8, 128, 2, 8192]⟩
abbrev S2x8x8192x128 : Shape := ⟨4, ![2, 8, 8192, 128]⟩
abbrev S2x8x8192x32 : Shape := ⟨4, ![2, 8, 8192, 32]⟩
abbrev S8 : Shape := ⟨1, ![8]⟩
abbrev S8x1 : Shape := ⟨2, ![8, 1]⟩
abbrev S4 : Shape := ⟨1, ![4]⟩
abbrev S1x4 : Shape := ⟨2, ![1, 4]⟩
abbrev S8x4 : Shape := ⟨2, ![8, 4]⟩
abbrev S8x1x4x1 : Shape := ⟨4, ![8, 1, 4, 1]⟩
abbrev S2x8x8192x1x32 : Shape := ⟨5, ![2, 8, 8192, 1, 32]⟩
abbrev S2x8x8192x4x32 : Shape := ⟨5, ![2, 8, 8192, 4, 32]⟩
abbrev S2x8x8192x256 : Shape := ⟨4, ![2, 8, 8192, 256]⟩

abbrev nBuf : Space → Nat
  | .hbm => 284
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024, .f32⟩
  | 3 => ⟨S1024, .f32⟩
  | 4 => ⟨S1024x2464, .f32⟩
  | 5 => ⟨S128x8x128, .f32⟩
  | 6 => ⟨S128, .f32⟩
  | 7 => ⟨S8192, .i32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x1x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x1x1024, .f32⟩
  | 31 => ⟨S2x8192x1024, .f32⟩
  | 32 => ⟨S2x8192x1024, .f32⟩
  | 33 => ⟨S2x8192x2464, .f32⟩
  | 34 => ⟨S2x8192x256, .f32⟩
  | 35 => ⟨S2x8192x256, .f32⟩
  | 36 => ⟨S2x8192x256, .f32⟩
  | 37 => ⟨S2x8192x256, .f32⟩
  | 38 => ⟨S2x8192x256, .f32⟩
  | 39 => ⟨S2x8192x256, .f32⟩
  | 40 => ⟨S2x8192x768, .f32⟩
  | 41 => ⟨S2x8192x128, .f32⟩
  | 42 => ⟨S2x8192x32, .f32⟩
  | 43 => ⟨S2x8192x4x64, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S8192, .f32⟩
  | 59 => ⟨S8192x1, .f32⟩
  | 60 => ⟨S1x32, .f32⟩
  | 61 => ⟨S8192x32, .f32⟩
  | 62 => ⟨S8192x32, .f32⟩
  | 63 => ⟨S8192x32, .f32⟩
  | 64 => ⟨S8192x32, .f32⟩
  | 65 => ⟨S8192x1x32, .f32⟩
  | 66 => ⟨S8192x32, .f32⟩
  | 67 => ⟨S8192x1x32, .f32⟩
  | 68 => ⟨S2x8192x4x32, .f32⟩
  | 69 => ⟨S2x8192x4x32, .f32⟩
  | 70 => ⟨S1x8192x1x32, .f32⟩
  | 71 => ⟨S2x8192x4x32, .f32⟩
  | 72 => ⟨S2x8192x4x32, .f32⟩
  | 73 => ⟨S1x8192x1x32, .f32⟩
  | 74 => ⟨S2x8192x4x32, .f32⟩
  | 75 => ⟨S2x8192x4x32, .f32⟩
  | 76 => ⟨S2x8192x4x32, .f32⟩
  | 77 => ⟨S1x8192x1x32, .f32⟩
  | 78 => ⟨S2x8192x4x32, .f32⟩
  | 79 => ⟨S2x8192x4x32, .f32⟩
  | 80 => ⟨S1x8192x1x32, .f32⟩
  | 81 => ⟨S2x8192x4x32, .f32⟩
  | 82 => ⟨S2x8192x4x32, .f32⟩
  | 83 => ⟨S2x8192x4x32, .f32⟩
  | 84 => ⟨S2x8192x4x64, .f32⟩
  | 85 => ⟨S2x8192x4x64, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8192, .f32⟩
  | 101 => ⟨S8192x1, .f32⟩
  | 102 => ⟨S1x32, .f32⟩
  | 103 => ⟨S8192x32, .f32⟩
  | 104 => ⟨S8192x32, .f32⟩
  | 105 => ⟨S8192x32, .f32⟩
  | 106 => ⟨S8192x32, .f32⟩
  | 107 => ⟨S8192x1x32, .f32⟩
  | 108 => ⟨S8192x32, .f32⟩
  | 109 => ⟨S8192x1x32, .f32⟩
  | 110 => ⟨S2x8192x4x32, .f32⟩
  | 111 => ⟨S2x8192x4x32, .f32⟩
  | 112 => ⟨S1x8192x1x32, .f32⟩
  | 113 => ⟨S2x8192x4x32, .f32⟩
  | 114 => ⟨S2x8192x4x32, .f32⟩
  | 115 => ⟨S1x8192x1x32, .f32⟩
  | 116 => ⟨S2x8192x4x32, .f32⟩
  | 117 => ⟨S2x8192x4x32, .f32⟩
  | 118 => ⟨S2x8192x4x32, .f32⟩
  | 119 => ⟨S1x8192x1x32, .f32⟩
  | 120 => ⟨S2x8192x4x32, .f32⟩
  | 121 => ⟨S2x8192x4x32, .f32⟩
  | 122 => ⟨S1x8192x1x32, .f32⟩
  | 123 => ⟨S2x8192x4x32, .f32⟩
  | 124 => ⟨S2x8192x4x32, .f32⟩
  | 125 => ⟨S2x8192x4x32, .f32⟩
  | 126 => ⟨S2x8192x4x64, .f32⟩
  | 127 => ⟨S2x8192x8x96, .f32⟩
  | _ => ⟨S2x8192x1024, .f32⟩

abbrev hbmTy0_1 (i : Nat) : BufTy := match i % 128 with
  | 0 => ⟨S2x8192x8x64, .f32⟩
  | 1 => ⟨S2x8192x8x32, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192, .f32⟩
  | 17 => ⟨S8192x1, .f32⟩
  | 18 => ⟨S1x16, .f32⟩
  | 19 => ⟨S8192x16, .f32⟩
  | 20 => ⟨S8192x16, .f32⟩
  | 21 => ⟨S8192x16, .f32⟩
  | 22 => ⟨S8192x16, .f32⟩
  | 23 => ⟨S8192x1x16, .f32⟩
  | 24 => ⟨S8192x16, .f32⟩
  | 25 => ⟨S8192x1x16, .f32⟩
  | 26 => ⟨S2x8192x8x16, .f32⟩
  | 27 => ⟨S2x8192x8x16, .f32⟩
  | 28 => ⟨S1x8192x1x16, .f32⟩
  | 29 => ⟨S2x8192x8x16, .f32⟩
  | 30 => ⟨S2x8192x8x16, .f32⟩
  | 31 => ⟨S1x8192x1x16, .f32⟩
  | 32 => ⟨S2x8192x8x16, .f32⟩
  | 33 => ⟨S2x8192x8x16, .f32⟩
  | 34 => ⟨S2x8192x8x16, .f32⟩
  | 35 => ⟨S1x8192x1x16, .f32⟩
  | 36 => ⟨S2x8192x8x16, .f32⟩
  | 37 => ⟨S2x8192x8x16, .f32⟩
  | 38 => ⟨S1x8192x1x16, .f32⟩
  | 39 => ⟨S2x8192x8x16, .f32⟩
  | 40 => ⟨S2x8192x8x16, .f32⟩
  | 41 => ⟨S2x8192x8x16, .f32⟩
  | 42 => ⟨S2x8192x8x32, .f32⟩
  | 43 => ⟨S2x8192x128, .f32⟩
  | 44 => ⟨S_, .f32⟩
  | 45 => ⟨S2x8192, .f32⟩
  | 46 => ⟨S2x8192x1, .f32⟩
  | 47 => ⟨S_, .f32⟩
  | 48 => ⟨S2x8192x1, .f32⟩
  | 49 => ⟨S2x8192x1, .f32⟩
  | 50 => ⟨S_, .f32⟩
  | 51 => ⟨S2x8192x1, .f32⟩
  | 52 => ⟨S2x8192x1, .f32⟩
  | 53 => ⟨S2x8192x1, .f32⟩
  | 54 => ⟨S2x8192x128, .f32⟩
  | 55 => ⟨S2x8192x128, .f32⟩
  | 56 => ⟨S1x1x128, .f32⟩
  | 57 => ⟨S2x8192x128, .f32⟩
  | 58 => ⟨S2x8192x128, .f32⟩
  | 59 => ⟨S2x8192x1x32, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S8192, .f32⟩
  | 75 => ⟨S8192x1, .f32⟩
  | 76 => ⟨S1x16, .f32⟩
  | 77 => ⟨S8192x16, .f32⟩
  | 78 => ⟨S8192x16, .f32⟩
  | 79 => ⟨S8192x16, .f32⟩
  | 80 => ⟨S8192x16, .f32⟩
  | 81 => ⟨S8192x1x16, .f32⟩
  | 82 => ⟨S8192x16, .f32⟩
  | 83 => ⟨S8192x1x16, .f32⟩
  | 84 => ⟨S2x8192x1x16, .f32⟩
  | 85 => ⟨S2x8192x1x16, .f32⟩
  | 86 => ⟨S1x8192x1x16, .f32⟩
  | 87 => ⟨S2x8192x1x16, .f32⟩
  | 88 => ⟨S2x8192x1x16, .f32⟩
  | 89 => ⟨S1x8192x1x16, .f32⟩
  | 90 => ⟨S2x8192x1x16, .f32⟩
  | 91 => ⟨S2x8192x1x16, .f32⟩
  | 92 => ⟨S2x8192x1x16, .f32⟩
  | 93 => ⟨S1x8192x1x16, .f32⟩
  | 94 => ⟨S2x8192x1x16, .f32⟩
  | 95 => ⟨S2x8192x1x16, .f32⟩
  | 96 => ⟨S1x8192x1x16, .f32⟩
  | 97 => ⟨S2x8192x1x16, .f32⟩
  | 98 => ⟨S2x8192x1x16, .f32⟩
  | 99 => ⟨S2x8192x1x16, .f32⟩
  | 100 => ⟨S2x8192x1x32, .f32⟩
  | 101 => ⟨S2x8192x32, .f32⟩
  | 102 => ⟨S128x8x64, .f32⟩
  | 103 => ⟨S8x128x2x8192, .f32⟩
  | 104 => ⟨S2x8x8192x128, .f32⟩
  | 105 => ⟨S_, .f32⟩
  | 106 => ⟨S2x8x8192x128, .f32⟩
  | 107 => ⟨S2x8x8192x128, .f32⟩
  | 108 => ⟨S_, .f32⟩
  | 109 => ⟨S2x8192x8x32, .f32⟩
  | 110 => ⟨S2x8192x8x32, .f32⟩
  | 111 => ⟨S2x8x8192x32, .f32⟩
  | 112 => ⟨S8, .i32⟩
  | 113 => ⟨S8x1, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S8x1, .i32⟩
  | 121 => ⟨S8x1, .i32⟩
  | 122 => ⟨S_, .i32⟩
  | 123 => ⟨S8x1, .i32⟩
  | 124 => ⟨S8x1, .i1⟩
  | 125 => ⟨S_, .i32⟩
  | 126 => ⟨S8x1, .i32⟩
  | 127 => ⟨S8x1, .i1⟩
  | _ => ⟨S2x8192x1024, .f32⟩

abbrev hbmTy0_2 (i : Nat) : BufTy := match i % 128 with
  | 0 => ⟨S_, .i32⟩
  | 1 => ⟨S_, .i1⟩
  | 2 => ⟨S8x1, .i1⟩
  | 3 => ⟨S8x1, .i1⟩
  | 4 => ⟨S8x1, .i1⟩
  | 5 => ⟨S8x1, .i32⟩
  | 6 => ⟨S8x1, .i32⟩
  | 7 => ⟨S8x1, .i32⟩
  | 8 => ⟨S4, .i32⟩
  | 9 => ⟨S1x4, .i32⟩
  | 10 => ⟨S8x4, .i32⟩
  | 11 => ⟨S8x4, .i32⟩
  | 12 => ⟨S8x4, .i1⟩
  | 13 => ⟨S8x1x4x1, .i1⟩
  | 14 => ⟨S2x8x8192x1x32, .f32⟩
  | 15 => ⟨S_, .f32⟩
  | 16 => ⟨S_, .f32⟩
  | 17 => ⟨S2x8x8192x4x32, .i1⟩
  | 18 => ⟨S2x8x8192x4x32, .f32⟩
  | 19 => ⟨S2x8x8192x4x32, .f32⟩
  | 20 => ⟨S2x8x8192x4x32, .f32⟩
  | 21 => ⟨S2x8x8192x128, .f32⟩
  | 22 => ⟨S2x8x8192x256, .f32⟩
  | 23 => ⟨S2x8x8192x256, .bf16⟩
  | 24 => ⟨S2x8192x256, .f32⟩
  | 25 => ⟨S2x8192x256, .bf16⟩
  | 26 => ⟨S2x8192x256, .f32⟩
  | 27 => ⟨S2x8192x256, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_11 : Ref sig .tc := ⟨.hbm, 131, rfl⟩
abbrev main_v112 : Ref sig .tc := ⟨.hbm, 132, rfl⟩
abbrev main_v113 : Ref sig .tc := ⟨.hbm, 133, rfl⟩
abbrev main_cst_12 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_15 : Ref sig .tc := ⟨.hbm, 172, rfl⟩
abbrev main_v149 : Ref sig .tc := ⟨.hbm, 173, rfl⟩
abbrev main_v150 : Ref sig .tc := ⟨.hbm, 174, rfl⟩
abbrev main_cst_16 : Ref sig .tc := ⟨.hbm, 175, rfl⟩
abbrev main_v151 : Ref sig .tc := ⟨.hbm, 176, rfl⟩
abbrev main_v152 : Ref sig .tc := ⟨.hbm, 177, rfl⟩
abbrev main_cst_17 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_cst_18 : Ref sig .tc := ⟨.hbm, 189, rfl⟩
abbrev main_v163 : Ref sig .tc := ⟨.hbm, 190, rfl⟩
abbrev main_v164 : Ref sig .tc := ⟨.hbm, 191, rfl⟩
abbrev main_cst_19 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_cst_20 : Ref sig .tc := ⟨.hbm, 196, rfl⟩
abbrev main_v168 : Ref sig .tc := ⟨.hbm, 197, rfl⟩
abbrev main_v169 : Ref sig .tc := ⟨.hbm, 198, rfl⟩
abbrev main_cst_21 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_cst_22 : Ref sig .tc := ⟨.hbm, 233, rfl⟩
abbrev main_v203 : Ref sig .tc := ⟨.hbm, 234, rfl⟩
abbrev main_v204 : Ref sig .tc := ⟨.hbm, 235, rfl⟩
abbrev main_cst_23 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_c : Ref sig .tc := ⟨.hbm, 242, rfl⟩
abbrev main_call0_v0 : Ref sig .tc := ⟨.hbm, 243, rfl⟩
abbrev main_call0_c : Ref sig .tc := ⟨.hbm, 244, rfl⟩
abbrev main_call0_v1 : Ref sig .tc := ⟨.hbm, 245, rfl⟩
abbrev main_call0_c_0 : Ref sig .tc := ⟨.hbm, 246, rfl⟩
abbrev main_call0_v2 : Ref sig .tc := ⟨.hbm, 247, rfl⟩
abbrev main_call0_v3 : Ref sig .tc := ⟨.hbm, 248, rfl⟩
abbrev main_call0_v4 : Ref sig .tc := ⟨.hbm, 249, rfl⟩
abbrev main_call0_c_1 : Ref sig .tc := ⟨.hbm, 250, rfl⟩
abbrev main_call0_v5 : Ref sig .tc := ⟨.hbm, 251, rfl⟩
abbrev main_call0_v6 : Ref sig .tc := ⟨.hbm, 252, rfl⟩
abbrev main_call0_c_2 : Ref sig .tc := ⟨.hbm, 253, rfl⟩
abbrev main_call0_v7 : Ref sig .tc := ⟨.hbm, 254, rfl⟩
abbrev main_call0_v8 : Ref sig .tc := ⟨.hbm, 255, rfl⟩
abbrev main_call0_c_3 : Ref sig .tc := ⟨.hbm, 256, rfl⟩
abbrev main_call0_v9 : Ref sig .tc := ⟨.hbm, 257, rfl⟩
abbrev main_call0_v10 : Ref sig .tc := ⟨.hbm, 258, rfl⟩
abbrev main_call0_v11 : Ref sig .tc := ⟨.hbm, 259, rfl⟩
abbrev main_call0_v12 : Ref sig .tc := ⟨.hbm, 260, rfl⟩
abbrev main_call0_v13 : Ref sig .tc := ⟨.hbm, 261, rfl⟩
abbrev main_call0_v14 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_cst_24 : Ref sig .tc := ⟨.hbm, 271, rfl⟩
abbrev main_call1_v0 : Ref sig .tc := ⟨.hbm, 272, rfl⟩
abbrev main_call1_v1 : Ref sig .tc := ⟨.hbm, 273, rfl⟩
abbrev main_call1_v2 : Ref sig .tc := ⟨.hbm, 274, rfl⟩
abbrev main_call1_v3 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩

abbrev nD : Nat := 1
abbrev τ : Topo := Topo.v7x

variable {F : FTy → Type} [FloatOps F]
-- ==== Kernel3.lean ====
abbrev S128x8x1024 : Shape := ⟨3, ![128, 8, 1024]⟩
abbrev S128x1024 : Shape := ⟨2, ![128, 1024]⟩
abbrev S1024 : Shape := ⟨1, ![1024]⟩
abbrev S1024x2464 : Shape := ⟨2, ![1024, 2464]⟩
abbrev S128x8x128 : Shape := ⟨3, ![128, 8, 128]⟩
abbrev S128 : Shape := ⟨1, ![128]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S16 : Shape := ⟨1, ![16]⟩
abbrev S1x16 : Shape := ⟨2, ![1, 16]⟩
abbrev S8x16 : Shape := ⟨2, ![8, 16]⟩
abbrev S1x8x1x32 : Shape := ⟨4, ![1, 8, 1, 32]⟩
abbrev S1x8x4x32 : Shape := ⟨4, ![1, 8, 4, 32]⟩
abbrev S1x1024x2464 : Shape := ⟨3, ![1, 1024, 2464]⟩
abbrev S1x1024x768 : Shape := ⟨3, ![1, 1024, 768]⟩
abbrev S1x1024x8x96 : Shape := ⟨4, ![1, 1024, 8, 96]⟩
abbrev S1x1024x8x64 : Shape := ⟨4, ![1, 1024, 8, 64]⟩
abbrev S1x1024x512 : Shape := ⟨3, ![1, 1024, 512]⟩
abbrev S1x1024x8x32 : Shape := ⟨4, ![1, 1024, 8, 32]⟩
abbrev S1x1024x256 : Shape := ⟨3, ![1, 1024, 256]⟩
abbrev S1x1024x128 : Shape := ⟨3, ![1, 1024, 128]⟩
abbrev S1x1024x32 : Shape := ⟨3, ![1, 1024, 32]⟩
abbrev S1x1024x1536 : Shape := ⟨3, ![1, 1024, 1536]⟩
abbrev S1x1024x2560 : Shape := ⟨3, ![1, 1024, 2560]⟩
abbrev S1024x2560 : Shape := ⟨2, ![1024, 2560]⟩
abbrev S128x8x64 : Shape := ⟨3, ![128, 8, 64]⟩
abbrev S8x64x128 : Shape := ⟨3, ![8, 64, 128]⟩
abbrev S8x8 : Shape := ⟨2, ![8, 8]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S128x1x1024 : Shape := ⟨3, ![128, 1, 1024]⟩
abbrev S1x1x1024 : Shape := ⟨3, ![1, 1, 1024]⟩
abbrev S1x128 : Shape := ⟨2, ![1, 128]⟩
abbrev S128x8x256 : Shape := ⟨3, ![128, 8, 256]⟩
abbrev S128x8x8x256 : Shape := ⟨4, ![128, 8, 8, 256]⟩
abbrev S128x8x32 : Shape := ⟨3, ![128, 8, 32]⟩
abbrev S32x8x1024 : Shape := ⟨3, ![32, 8, 1024]⟩
abbrev S32x1x1024 : Shape := ⟨3, ![32, 1, 1024]⟩
abbrev S32x8x256 : Shape := ⟨3, ![32, 8, 256]⟩
abbrev S32x8x8x256 : Shape := ⟨4, ![32, 8, 8, 256]⟩
abbrev S32x8x128 : Shape := ⟨3, ![32, 8, 128]⟩
abbrev S32x8x32 : Shape := ⟨3, ![32, 8, 32]⟩
abbrev S32x8 : Shape := ⟨2, ![32, 8]⟩
abbrev S32x8x1 : Shape := ⟨3, ![32, 8, 1]⟩
abbrev S256x1024 : Shape := ⟨2, ![256, 1024]⟩
abbrev S1x8x128 : Shape := ⟨3, ![1, 8, 128]⟩
abbrev S256x128 : Shape := ⟨2, ![256, 128]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩
abbrev S32x1x8x256 : Shape := ⟨4, ![32, 1, 8, 256]⟩
abbrev S1024x128 : Shape := ⟨2, ![1024, 128]⟩
abbrev S256 : Shape := ⟨1, ![256]⟩
abbrev S256x1 : Shape := ⟨2, ![256, 1]⟩
abbrev S256x32 : Shape := ⟨2, ![256, 32]⟩

abbrev nBuf : Space → Nat
  | .hbm => 116
  | .vmem => 34
  | .smem => 0
  | _ => 0

abbrev bufTy : (tb : Table) → Fin (tcTables nBuf tb) → BufTy
  | .hbm, ⟨0, _⟩ => ⟨S128x8x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x2464, .f32⟩
  | .hbm, ⟨5, _⟩ => ⟨S128x8x128, .f32⟩
  | .hbm, ⟨6, _⟩ => ⟨S128, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8, .f32⟩
  | .hbm, ⟨26, _⟩ => ⟨S8x1, .f32⟩
  | .hbm, ⟨27, _⟩ => ⟨S1x32, .f32⟩
  | .hbm, ⟨28, _⟩ => ⟨S8x32, .f32⟩
  | .hbm, ⟨29, _⟩ => ⟨S8x32, .f32⟩
  | .hbm, ⟨30, _⟩ => ⟨S8x32, .f32⟩
  | .hbm, ⟨31, _⟩ => ⟨S8x32, .f32⟩
  | .hbm, ⟨32, _⟩ => ⟨S8x32, .f32⟩
  | .hbm, ⟨33, _⟩ => ⟨S8x64, .f32⟩
  | .hbm, ⟨34, _⟩ => ⟨S1x8x1x64, .f32⟩
  | .hbm, ⟨35, _⟩ => ⟨S1x8x2x64, .f32⟩
  | .hbm, ⟨36, _⟩ => ⟨S8x128, .f32⟩
  | .hbm, ⟨37, _⟩ => ⟨S8x32, .f32⟩
  | .hbm, ⟨38, _⟩ => ⟨S8x64, .f32⟩
  | .hbm, ⟨39, _⟩ => ⟨S1x8x1x64, .f32⟩
  | .hbm, ⟨40, _⟩ => ⟨S1x8x2x64, .f32⟩
  | .hbm, ⟨41, _⟩ => ⟨S8x128, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S8, .f32⟩
  | .hbm, ⟨57, _⟩ => ⟨S8x1, .f32⟩
  | .hbm, ⟨58, _⟩ => ⟨S1x16, .f32⟩
  | .hbm, ⟨59, _⟩ => ⟨S8x16, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S8x16, .f32⟩
  | .hbm, ⟨64, _⟩ => ⟨S8x32, .f32⟩
  | .hbm, ⟨65, _⟩ => ⟨S1x8x1x32, .f32⟩
  | .hbm, ⟨66, _⟩ => ⟨S1x8x4x32, .f32⟩
  | .hbm, ⟨67, _⟩ => ⟨S8x128, .f32⟩
  | .hbm, ⟨68, _⟩ => ⟨S8x16, .f32⟩
  | .hbm, ⟨69, _⟩ => ⟨S8x32, .f32⟩
  | .hbm, ⟨70, _⟩ => ⟨S1x8x1x32, .f32⟩
  | .hbm, ⟨71, _⟩ => ⟨S1x8x4x32, .f32⟩
  | .hbm, ⟨72, _⟩ => ⟨S8x128, .f32⟩
  | .hbm, ⟨73, _⟩ => ⟨S1x1024x2464, .f32⟩
  | .hbm, ⟨74, _⟩ => ⟨S1x1024x768, .f32⟩
  | .hbm, ⟨75, _⟩ => ⟨S1x1024x8x96, .f32⟩
  | .hbm, ⟨76, _⟩ => ⟨S1x1024x8x64, .f32⟩
  | .hbm, ⟨77, _⟩ => ⟨S1x1024x512, .f32⟩
  | .hbm, ⟨78, _⟩ => ⟨S1x1024x8x32, .f32⟩
  | .hbm, ⟨79, _⟩ => ⟨S1x1024x256, .f32⟩
  | .hbm, ⟨80, _⟩ => ⟨S1x1024x128, .f32⟩
  | .hbm, ⟨81, _⟩ => ⟨S1x1024x32, .f32⟩
  | .hbm, ⟨82, _⟩ => ⟨S1x1024x1536, .f32⟩
  | .hbm, ⟨83, _⟩ => ⟨S1x1024x2560, .f32⟩
  | .hbm, ⟨84, _⟩ => ⟨S1x1024x2560, .bf16⟩
  | .hbm, ⟨85, _⟩ => ⟨S1024x2560, .bf16⟩
  | .hbm, ⟨86, _⟩ => ⟨S128x8x64, .f32⟩
  | .hbm, ⟨87, _⟩ => ⟨S8x64x128, .f32⟩
  | .hbm, ⟨88, _⟩ => ⟨S8x8, .i32⟩
  | .hbm, ⟨89, _⟩ => ⟨S8x8, .i32⟩
  | .hbm, ⟨90, _⟩ => ⟨S_, .i32⟩
  | .hbm, ⟨91, _⟩ => ⟨S8x8, .i32⟩
  | .hbm, ⟨92, _⟩ => ⟨S8x8, .i32⟩
  | .hbm, ⟨93, _⟩ => ⟨S8x8, .i1⟩
  | .hbm, ⟨94, _⟩ => ⟨S8x8, .f32⟩
  | .hbm, ⟨95, _⟩ => ⟨S8x1x8x1, .f32⟩
  | .hbm, ⟨96, _⟩ => ⟨S8x64x1x128, .f32⟩
  | .hbm, ⟨97, _⟩ => ⟨S8x64x8x128, .f32⟩
  | .hbm, ⟨98, _⟩ => ⟨S8x64x8x128, .f32⟩
  | .hbm, ⟨99, _⟩ => ⟨S8x64x8x128, .f32⟩
  | .hbm, ⟨100, _⟩ => ⟨S512x1024, .f32⟩
  | .hbm, ⟨101, _⟩ => ⟨S512x1024, .bf16⟩
  | .hbm, ⟨102, _⟩ => ⟨S128x1x1024, .f32⟩
  | .hbm, ⟨103, _⟩ => ⟨S128x1x1024, .f32⟩
  | .hbm, ⟨104, _⟩ => ⟨S1x1x1024, .f32⟩
  | .hbm, ⟨105, _⟩ => ⟨S1x128, .f32⟩
  | .hbm, ⟨106, _⟩ => ⟨S128x8x256, .f32⟩
  | .hbm, ⟨107, _⟩ => ⟨S128x8x256, .f32⟩
  | .hbm, ⟨108, _⟩ => ⟨S128x8x256, .f32⟩
  | .hbm, ⟨109, _⟩ => ⟨S128x8x256, .f32⟩
  | .hbm, ⟨110, _⟩ => ⟨S128x8x256, .f32⟩
  | .hbm, ⟨111, _⟩ => ⟨S128x8x256, .f32⟩
  | .hbm, ⟨112, _⟩ => ⟨S128x8x8x256, .f32⟩
  | .hbm, ⟨113, _⟩ => ⟨S128x8x256, .f32⟩
  | .hbm, ⟨114, _⟩ => ⟨S128x8x128, .f32⟩
  | .hbm, ⟨115, _⟩ => ⟨S128x8x32, .f32⟩
  | .local _ .vmem, ⟨0, _⟩ => ⟨S32x8x1024, .f32⟩
  | .local _ .vmem, ⟨1, _⟩ => ⟨S32x8x1024, .f32⟩
  | .local _ .vmem, ⟨2, _⟩ => ⟨S32x1x1024, .f32⟩
  | .local _ .vmem, ⟨3, _⟩ => ⟨S32x1x1024, .f32⟩
  | .local _ .vmem, ⟨4, _⟩ => ⟨S32x1x1024, .f32⟩
  | .local _ .vmem, ⟨5, _⟩ => ⟨S32x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S512x1024, .bf16⟩
  | .local _ .vmem, ⟨9, _⟩ => ⟨S1x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S32x8x256, .f32⟩
  | .local _ .vmem, ⟨15, _⟩ => ⟨S32x8x256, .f32⟩
  | .local _ .vmem, ⟨16, _⟩ => ⟨S32x8x256, .f32⟩
  | .local _ .vmem, ⟨17, _⟩ => ⟨S32x8x256, .f32⟩
  | .local _ .vmem, ⟨18, _⟩ => ⟨S32x8x256, .f32⟩
  | .local _ .vmem, ⟨19, _⟩ => ⟨S32x8x256, .f32⟩
  | .local _ .vmem, ⟨20, _⟩ => ⟨S32x8x256, .f32⟩
  | .local _ .vmem, ⟨21, _⟩ => ⟨S32x8x256, .f32⟩
  | .local _ .vmem, ⟨22, _⟩ => ⟨S32x8x256, .f32⟩
  | .local _ .vmem, ⟨23, _⟩ => ⟨S32x8x256, .f32⟩
  | .local _ .vmem, ⟨24, _⟩ => ⟨S32x8x256, .f32⟩
  | .local _ .vmem, ⟨25, _⟩ => ⟨S32x8x256, .f32⟩
  | .local _ .vmem, ⟨26, _⟩ => ⟨S32x8x8x256, .f32⟩
  | .local _ .vmem, ⟨27, _⟩ => ⟨S32x8x8x256, .f32⟩
  | .local _ .vmem, ⟨28, _⟩ => ⟨S32x8x256, .f32⟩
  | .local _ .vmem, ⟨29, _⟩ => ⟨S32x8x256, .f32⟩
  | .local _ .vmem, ⟨30, _⟩ => ⟨S32x8x128, .f32⟩
  | .local _ .vmem, ⟨31, _⟩ => ⟨S32x8x128, .f32⟩
  | .local _ .vmem, ⟨32, _⟩ => ⟨S32x8x32, .f32⟩
  | .local _ .vmem, ⟨33, _⟩ => ⟨S32x8x32, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_c_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89_0 : Ref sig .tc := ⟨.hbm, 106, rfl⟩
abbrev main_v89_1 : Ref sig .tc := ⟨.hbm, 107, rfl⟩
abbrev main_v89_2 : Ref sig .tc := ⟨.hbm, 108, rfl⟩
abbrev main_v89_3 : Ref sig .tc := ⟨.hbm, 109, rfl⟩
abbrev main_v89_4 : Ref sig .tc := ⟨.hbm, 110, rfl⟩
abbrev main_v89_5 : Ref sig .tc := ⟨.hbm, 111, rfl⟩
abbrev main_v89_6 : Ref sig .tc := ⟨.hbm, 112, rfl⟩
abbrev main_v89_7 : Ref sig .tc := ⟨.hbm, 113, rfl⟩
abbrev main_v89_8 : Ref sig .tc := ⟨.hbm, 114, rfl⟩
abbrev main_v89_9 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 2 → Memref sig .tc .vmem S32x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x8x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x8x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S128x8x1024 : Shape := ⟨3, ![128, 8, 1024]⟩
abbrev S128x1024 : Shape := ⟨2, ![128, 1024]⟩
abbrev S1024 : Shape := ⟨1, ![1024]⟩
abbrev S1024x2464 : Shape := ⟨2, ![1024, 2464]⟩
abbrev S128x8x128 : Shape := ⟨3, ![128, 8, 128]⟩
abbrev S128 : Shape := ⟨1, ![128]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x1x1024 : Shape := ⟨3, ![128, 1, 1024]⟩
abbrev S128x8x2464 : Shape := ⟨3, ![128, 8, 2464]⟩
abbrev S128x8x256 : Shape := ⟨3, ![128, 8, 256]⟩
abbrev S128x8x768 : Shape := ⟨3, ![128, 8, 768]⟩
abbrev S128x8x32 : Shape := ⟨3, ![128, 8, 32]⟩
abbrev S128x8x4x64 : Shape := ⟨4, ![128, 8, 4, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x4x32 : Shape := ⟨4, ![128, 8, 4, 32]⟩
abbrev S1x8x1x32 : Shape := ⟨4, ![1, 8, 1, 32]⟩
abbrev S128x8x8x96 : Shape := ⟨4, ![128, 8, 8, 96]⟩
abbrev S128x8x8x64 : Shape := ⟨4, ![128, 8, 8, 64]⟩
abbrev S128x8x8x32 : Shape := ⟨4, ![128, 8, 8, 32]⟩
abbrev S16 : Shape := ⟨1, ![16]⟩
abbrev S1x16 : Shape := ⟨2, ![1, 16]⟩
abbrev S8x16 : Shape := ⟨2, ![8, 16]⟩
abbrev S8x1x16 : Shape := ⟨3, ![8, 1, 16]⟩
abbrev S128x8x8x16 : Shape := ⟨4, ![128, 8, 8, 16]⟩
abbrev S1x8x1x16 : Shape := ⟨4, ![1, 8, 1, 16]⟩
abbrev S1x1x128 : Shape := ⟨3, ![1, 1, 128]⟩
abbrev S128x8x1x32 : Shape := ⟨4, ![128, 8, 1, 32]⟩
abbrev S128x8x1x16 : Shape := ⟨4, ![128, 8, 1, 16]⟩
abbrev S128x8x64 : Shape := ⟨3, ![128, 8, 64]⟩
abbrev S8x128x128x8 : Shape := ⟨4, ![8, 128, 128, 8]⟩
abbrev S128x8x8x128 : Shape := ⟨4, ![128, 8, 8, 128]⟩
abbrev S4 : Shape := ⟨1, ![4]⟩
abbrev S1x4 : Shape := ⟨2, ![1, 4]⟩
abbrev S8x4 : Shape := ⟨2, ![8, 4]⟩
abbrev S8x1x4x1 : Shape := ⟨4, ![8, 1, 4, 1]⟩
abbrev S128x8x8x1x32 : Shape := ⟨5, ![128, 8, 8, 1, 32]⟩
abbrev S128x8x8x4x32 : Shape := ⟨5, ![128, 8, 8, 4, 32]⟩
abbrev S128x8x8x256 : Shape := ⟨4, ![128, 8, 8, 256]⟩

abbrev nBuf : Space → Nat
  | .hbm => 285
  | .vmem => 0
  | .smem => 0
  | _ => 0

abbrev hbmTy0_0 (i : Nat) : BufTy := match i % 128 with
  | 0 => ⟨S128x8x1024, .f32⟩
  | 1 => ⟨S128x1024, .f32⟩
  | 2 => ⟨S128x1024, .f32⟩
  | 3 => ⟨S1024, .f32⟩
  | 4 => ⟨S1024x2464, .f32⟩
  | 5 => ⟨S128x8x128, .f32⟩
  | 6 => ⟨S128, .f32⟩
  | 7 => ⟨S8, .i32⟩
  | 8 => ⟨S_, .i32⟩
  | 9 => ⟨S8, .i32⟩
  | 10 => ⟨S8, .i32⟩
  | 11 => ⟨S128x8x1024, .f32⟩
  | 12 => ⟨S_, .f32⟩
  | 13 => ⟨S128x8, .f32⟩
  | 14 => ⟨S128x8x1, .f32⟩
  | 15 => ⟨S_, .f32⟩
  | 16 => ⟨S128x8x1, .f32⟩
  | 17 => ⟨S128x8x1, .f32⟩
  | 18 => ⟨S_, .f32⟩
  | 19 => ⟨S128x8x1, .f32⟩
  | 20 => ⟨S128x8x1, .f32⟩
  | 21 => ⟨S128x8x1, .f32⟩
  | 22 => ⟨S128x8x1024, .f32⟩
  | 23 => ⟨S128x8x1024, .f32⟩
  | 24 => ⟨S1x1x1024, .f32⟩
  | 25 => ⟨S128x8x1024, .f32⟩
  | 26 => ⟨S128x8x1024, .f32⟩
  | 27 => ⟨S128x1x1024, .f32⟩
  | 28 => ⟨S_, .f32⟩
  | 29 => ⟨S128x1x1024, .f32⟩
  | 30 => ⟨S128x1x1024, .f32⟩
  | 31 => ⟨S128x8x1024, .f32⟩
  | 32 => ⟨S128x8x1024, .f32⟩
  | 33 => ⟨S128x1x1024, .f32⟩
  | 34 => ⟨S128x8x1024, .f32⟩
  | 35 => ⟨S128x8x1024, .f32⟩
  | 36 => ⟨S128x8x2464, .f32⟩
  | 37 => ⟨S128x8x256, .f32⟩
  | 38 => ⟨S128x8x256, .f32⟩
  | 39 => ⟨S128x8x256, .f32⟩
  | 40 => ⟨S128x8x256, .f32⟩
  | 41 => ⟨S128x8x256, .f32⟩
  | 42 => ⟨S128x8x256, .f32⟩
  | 43 => ⟨S128x8x768, .f32⟩
  | 44 => ⟨S128x8x128, .f32⟩
  | 45 => ⟨S128x8x32, .f32⟩
  | 46 => ⟨S128x8x4x64, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S8, .f32⟩
  | 62 => ⟨S8x1, .f32⟩
  | 63 => ⟨S1x32, .f32⟩
  | 64 => ⟨S8x32, .f32⟩
  | 65 => ⟨S8x32, .f32⟩
  | 66 => ⟨S8x32, .f32⟩
  | 67 => ⟨S8x32, .f32⟩
  | 68 => ⟨S8x1x32, .f32⟩
  | 69 => ⟨S8x32, .f32⟩
  | 70 => ⟨S8x1x32, .f32⟩
  | 71 => ⟨S128x8x4x32, .f32⟩
  | 72 => ⟨S128x8x4x32, .f32⟩
  | 73 => ⟨S1x8x1x32, .f32⟩
  | 74 => ⟨S128x8x4x32, .f32⟩
  | 75 => ⟨S128x8x4x32, .f32⟩
  | 76 => ⟨S1x8x1x32, .f32⟩
  | 77 => ⟨S128x8x4x32, .f32⟩
  | 78 => ⟨S128x8x4x32, .f32⟩
  | 79 => ⟨S128x8x4x32, .f32⟩
  | 80 => ⟨S1x8x1x32, .f32⟩
  | 81 => ⟨S128x8x4x32, .f32⟩
  | 82 => ⟨S128x8x4x32, .f32⟩
  | 83 => ⟨S1x8x1x32, .f32⟩
  | 84 => ⟨S128x8x4x32, .f32⟩
  | 85 => ⟨S128x8x4x32, .f32⟩
  | 86 => ⟨S128x8x4x32, .f32⟩
  | 87 => ⟨S128x8x4x64, .f32⟩
  | 88 => ⟨S128x8x4x64, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S8, .f32⟩
  | 104 => ⟨S8x1, .f32⟩
  | 105 => ⟨S1x32, .f32⟩
  | 106 => ⟨S8x32, .f32⟩
  | 107 => ⟨S8x32, .f32⟩
  | 108 => ⟨S8x32, .f32⟩
  | 109 => ⟨S8x32, .f32⟩
  | 110 => ⟨S8x1x32, .f32⟩
  | 111 => ⟨S8x32, .f32⟩
  | 112 => ⟨S8x1x32, .f32⟩
  | 113 => ⟨S128x8x4x32, .f32⟩
  | 114 => ⟨S128x8x4x32, .f32⟩
  | 115 => ⟨S1x8x1x32, .f32⟩
  | 116 => ⟨S128x8x4x32, .f32⟩
  | 117 => ⟨S128x8x4x32, .f32⟩
  | 118 => ⟨S1x8x1x32, .f32⟩
  | 119 => ⟨S128x8x4x32, .f32⟩
  | 120 => ⟨S128x8x4x32, .f32⟩
  | 121 => ⟨S128x8x4x32, .f32⟩
  | 122 => ⟨S1x8x1x32, .f32⟩
  | 123 => ⟨S128x8x4x32, .f32⟩
  | 124 => ⟨S128x8x4x32, .f32⟩
  | 125 => ⟨S1x8x1x32, .f32⟩
  | 126 => ⟨S128x8x4x32, .f32⟩
  | 127 => ⟨S128x8x4x32, .f32⟩
  | _ => ⟨S128x8x1024, .f32⟩

abbrev hbmTy0_1 (i : Nat) : BufTy := match i % 128 with
  | 0 => ⟨S128x8x4x32, .f32⟩
  | 1 => ⟨S128x8x4x64, .f32⟩
  | 2 => ⟨S128x8x8x96, .f32⟩
  | 3 => ⟨S128x8x8x64, .f32⟩
  | 4 => ⟨S128x8x8x32, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S8, .f32⟩
  | 20 => ⟨S8x1, .f32⟩
  | 21 => ⟨S1x16, .f32⟩
  | 22 => ⟨S8x16, .f32⟩
  | 23 => ⟨S8x16, .f32⟩
  | 24 => ⟨S8x16, .f32⟩
  | 25 => ⟨S8x16, .f32⟩
  | 26 => ⟨S8x1x16, .f32⟩
  | 27 => ⟨S8x16, .f32⟩
  | 28 => ⟨S8x1x16, .f32⟩
  | 29 => ⟨S128x8x8x16, .f32⟩
  | 30 => ⟨S128x8x8x16, .f32⟩
  | 31 => ⟨S1x8x1x16, .f32⟩
  | 32 => ⟨S128x8x8x16, .f32⟩
  | 33 => ⟨S128x8x8x16, .f32⟩
  | 34 => ⟨S1x8x1x16, .f32⟩
  | 35 => ⟨S128x8x8x16, .f32⟩
  | 36 => ⟨S128x8x8x16, .f32⟩
  | 37 => ⟨S128x8x8x16, .f32⟩
  | 38 => ⟨S1x8x1x16, .f32⟩
  | 39 => ⟨S128x8x8x16, .f32⟩
  | 40 => ⟨S128x8x8x16, .f32⟩
  | 41 => ⟨S1x8x1x16, .f32⟩
  | 42 => ⟨S128x8x8x16, .f32⟩
  | 43 => ⟨S128x8x8x16, .f32⟩
  | 44 => ⟨S128x8x8x16, .f32⟩
  | 45 => ⟨S128x8x8x32, .f32⟩
  | 46 => ⟨S128x8x128, .f32⟩
  | 47 => ⟨S_, .f32⟩
  | 48 => ⟨S128x8, .f32⟩
  | 49 => ⟨S128x8x1, .f32⟩
  | 50 => ⟨S_, .f32⟩
  | 51 => ⟨S128x8x1, .f32⟩
  | 52 => ⟨S128x8x1, .f32⟩
  | 53 => ⟨S_, .f32⟩
  | 54 => ⟨S128x8x1, .f32⟩
  | 55 => ⟨S128x8x1, .f32⟩
  | 56 => ⟨S128x8x1, .f32⟩
  | 57 => ⟨S128x8x128, .f32⟩
  | 58 => ⟨S128x8x128, .f32⟩
  | 59 => ⟨S1x1x128, .f32⟩
  | 60 => ⟨S128x8x128, .f32⟩
  | 61 => ⟨S128x8x128, .f32⟩
  | 62 => ⟨S128x8x1x32, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S8, .f32⟩
  | 78 => ⟨S8x1, .f32⟩
  | 79 => ⟨S1x16, .f32⟩
  | 80 => ⟨S8x16, .f32⟩
  | 81 => ⟨S8x16, .f32⟩
  | 82 => ⟨S8x16, .f32⟩
  | 83 => ⟨S8x16, .f32⟩
  | 84 => ⟨S8x1x16, .f32⟩
  | 85 => ⟨S8x16, .f32⟩
  | 86 => ⟨S8x1x16, .f32⟩
  | 87 => ⟨S128x8x1x16, .f32⟩
  | 88 => ⟨S128x8x1x16, .f32⟩
  | 89 => ⟨S1x8x1x16, .f32⟩
  | 90 => ⟨S128x8x1x16, .f32⟩
  | 91 => ⟨S128x8x1x16, .f32⟩
  | 92 => ⟨S1x8x1x16, .f32⟩
  | 93 => ⟨S128x8x1x16, .f32⟩
  | 94 => ⟨S128x8x1x16, .f32⟩
  | 95 => ⟨S128x8x1x16, .f32⟩
  | 96 => ⟨S1x8x1x16, .f32⟩
  | 97 => ⟨S128x8x1x16, .f32⟩
  | 98 => ⟨S128x8x1x16, .f32⟩
  | 99 => ⟨S1x8x1x16, .f32⟩
  | 100 => ⟨S128x8x1x16, .f32⟩
  | 101 => ⟨S128x8x1x16, .f32⟩
  | 102 => ⟨S128x8x1x16, .f32⟩
  | 103 => ⟨S128x8x1x32, .f32⟩
  | 104 => ⟨S128x8x32, .f32⟩
  | 105 => ⟨S128x8x64, .f32⟩
  | 106 => ⟨S8x128x128x8, .f32⟩
  | 107 => ⟨S128x8x8x128, .f32⟩
  | 108 => ⟨S_, .f32⟩
  | 109 => ⟨S128x8x8x128, .f32⟩
  | 110 => ⟨S128x8x8x128, .f32⟩
  | 111 => ⟨S_, .f32⟩
  | 112 => ⟨S128x8x8x32, .f32⟩
  | 113 => ⟨S128x8x8x32, .f32⟩
  | 114 => ⟨S128x8x8x32, .f32⟩
  | 115 => ⟨S8, .i32⟩
  | 116 => ⟨S8x1, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S8x1, .i32⟩
  | 124 => ⟨S8x1, .i32⟩
  | 125 => ⟨S_, .i32⟩
  | 126 => ⟨S8x1, .i32⟩
  | 127 => ⟨S8x1, .i1⟩
  | _ => ⟨S128x8x1024, .f32⟩

abbrev hbmTy0_2 (i : Nat) : BufTy := match i % 128 with
  | 0 => ⟨S_, .i32⟩
  | 1 => ⟨S8x1, .i32⟩
  | 2 => ⟨S8x1, .i1⟩
  | 3 => ⟨S_, .i32⟩
  | 4 => ⟨S_, .i1⟩
  | 5 => ⟨S8x1, .i1⟩
  | 6 => ⟨S8x1, .i1⟩
  | 7 => ⟨S8x1, .i1⟩
  | 8 => ⟨S8x1, .i32⟩
  | 9 => ⟨S8x1, .i32⟩
  | 10 => ⟨S8x1, .i32⟩
  | 11 => ⟨S4, .i32⟩
  | 12 => ⟨S1x4, .i32⟩
  | 13 => ⟨S8x4, .i32⟩
  | 14 => ⟨S8x4, .i32⟩
  | 15 => ⟨S8x4, .i1⟩
  | 16 => ⟨S8x1x4x1, .i1⟩
  | 17 => ⟨S128x8x8x1x32, .f32⟩
  | 18 => ⟨S_, .f32⟩
  | 19 => ⟨S_, .f32⟩
  | 20 => ⟨S128x8x8x4x32, .i1⟩
  | 21 => ⟨S128x8x8x4x32, .f32⟩
  | 22 => ⟨S128x8x8x4x32, .f32⟩
  | 23 => ⟨S128x8x8x4x32, .f32⟩
  | 24 => ⟨S128x8x8x128, .f32⟩
  | 25 => ⟨S128x8x8x256, .f32⟩
  | 26 => ⟨S128x8x256, .f32⟩
  | 27 => ⟨S128x8x256, .f32⟩
  | 28 => ⟨S128x8x256, .f32⟩
  | _ => ⟨S128x8x1024, .f32⟩

abbrev hbmTy (i : Nat) : BufTy := match i / 128 with
  | 0 => hbmTy0_0 i
  | 1 => hbmTy0_1 i
  | 2 => hbmTy0_2 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_11 : Ref sig .tc := ⟨.hbm, 134, rfl⟩
abbrev main_v114 : Ref sig .tc := ⟨.hbm, 135, rfl⟩
abbrev main_v115 : Ref sig .tc := ⟨.hbm, 136, rfl⟩
abbrev main_cst_12 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_cst_13 : Ref sig .tc := ⟨.hbm, 141, rfl⟩
abbrev main_v119 : Ref sig .tc := ⟨.hbm, 142, rfl⟩
abbrev main_v120 : Ref sig .tc := ⟨.hbm, 143, rfl⟩
abbrev main_cst_14 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_15 : Ref sig .tc := ⟨.hbm, 175, rfl⟩
abbrev main_v151 : Ref sig .tc := ⟨.hbm, 176, rfl⟩
abbrev main_v152 : Ref sig .tc := ⟨.hbm, 177, rfl⟩
abbrev main_cst_16 : Ref sig .tc := ⟨.hbm, 178, rfl⟩
abbrev main_v153 : Ref sig .tc := ⟨.hbm, 179, rfl⟩
abbrev main_v154 : Ref sig .tc := ⟨.hbm, 180, rfl⟩
abbrev main_cst_17 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_cst_18 : Ref sig .tc := ⟨.hbm, 192, rfl⟩
abbrev main_v165 : Ref sig .tc := ⟨.hbm, 193, rfl⟩
abbrev main_v166 : Ref sig .tc := ⟨.hbm, 194, rfl⟩
abbrev main_cst_19 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_20 : Ref sig .tc := ⟨.hbm, 199, rfl⟩
abbrev main_v170 : Ref sig .tc := ⟨.hbm, 200, rfl⟩
abbrev main_v171 : Ref sig .tc := ⟨.hbm, 201, rfl⟩
abbrev main_cst_21 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_cst_22 : Ref sig .tc := ⟨.hbm, 236, rfl⟩
abbrev main_v205 : Ref sig .tc := ⟨.hbm, 237, rfl⟩
abbrev main_v206 : Ref sig .tc := ⟨.hbm, 238, rfl⟩
abbrev main_cst_23 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_c_24 : Ref sig .tc := ⟨.hbm, 245, rfl⟩
abbrev main_call0_v0 : Ref sig .tc := ⟨.hbm, 246, rfl⟩
abbrev main_call0_c : Ref sig .tc := ⟨.hbm, 247, rfl⟩
abbrev main_call0_v1 : Ref sig .tc := ⟨.hbm, 248, rfl⟩
abbrev main_call0_c_0 : Ref sig .tc := ⟨.hbm, 249, rfl⟩
abbrev main_call0_v2 : Ref sig .tc := ⟨.hbm, 250, rfl⟩
abbrev main_call0_v3 : Ref sig .tc := ⟨.hbm, 251, rfl⟩
abbrev main_call0_v4 : Ref sig .tc := ⟨.hbm, 252, rfl⟩
abbrev main_call0_c_1 : Ref sig .tc := ⟨.hbm, 253, rfl⟩
abbrev main_call0_v5 : Ref sig .tc := ⟨.hbm, 254, rfl⟩
abbrev main_call0_v6 : Ref sig .tc := ⟨.hbm, 255, rfl⟩
abbrev main_call0_c_2 : Ref sig .tc := ⟨.hbm, 256, rfl⟩
abbrev main_call0_v7 : Ref sig .tc := ⟨.hbm, 257, rfl⟩
abbrev main_call0_v8 : Ref sig .tc := ⟨.hbm, 258, rfl⟩
abbrev main_call0_c_3 : Ref sig .tc := ⟨.hbm, 259, rfl⟩
abbrev main_call0_v9 : Ref sig .tc := ⟨.hbm, 260, rfl⟩
abbrev main_call0_v10 : Ref sig .tc := ⟨.hbm, 261, rfl⟩
abbrev main_call0_v11 : Ref sig .tc := ⟨.hbm, 262, rfl⟩
abbrev main_call0_v12 : Ref sig .tc := ⟨.hbm, 263, rfl⟩
abbrev main_call0_v13 : Ref sig .tc := ⟨.hbm, 264, rfl⟩
abbrev main_call0_v14 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_25 : Ref sig .tc := ⟨.hbm, 274, rfl⟩
abbrev main_call1_v0 : Ref sig .tc := ⟨.hbm, 275, rfl⟩
abbrev main_call1_v1 : Ref sig .tc := ⟨.hbm, 276, rfl⟩
abbrev main_call1_v2 : Ref sig .tc := ⟨.hbm, 277, rfl⟩
abbrev main_call1_v3 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩

abbrev nD : Nat := 1
abbrev τ : Topo := Topo.v7x

variable {F : FTy → Type} [FloatOps F]
-- ==== Proof.Online.lean ====
/- The online softmax on extended reals: the running maximum, the running sum of exponentials and the running
   weighted sum over the first keys of a row, how they grow by a block of keys, and what they divide to. -/
module

public import Idealize.ShloMosaic.PureOps.Ideal
public import Idealize.ShloMosaic.Lib.Pipeline.ValueKit

@[expose] public section

noncomputable section

namespace Cert.Online

open Idealize.ShloMosaic Finset

/-- The greatest of the first `n` scores (`⊥` for none). -/
def mx (t : ℕ → EReal) (n : ℕ) : EReal := (range n).sup t

/-- The sum of the exponentials of the first `n` scores, relative to their maximum. -/
def ls (t : ℕ → EReal) (n : ℕ) : EReal := ∑ κ ∈ range n, Ideal.exp (t κ - mx t n)

/-- The sum of the first `n` values, each with the exponential of its score relative to the maximum. -/
def ac (t v : ℕ → EReal) (n : ℕ) : EReal := ∑ κ ∈ range n, Ideal.exp (t κ - mx t n) * v κ

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {a b : EReal} (h : a ≤ b) : a - b ≠ ⊤ := by
  induction b with
  | bot => rw [le_bot_iff.mp h]; simp [sub_eq_add_neg]
  | top => simp [sub_eq_add_neg]
  | coe s =>
    induction a with
    | bot => simp [sub_eq_add_neg]
    | top => exact absurd h (by simp)
    | coe r => exact EReal.coe_ne_top (r - s)

/-- Two successive changes of the reference level are one. -/
theorem exp_shift {a M M' : EReal} (h : a ≤ M) (h' : M ≤ M') :
    Ideal.exp (a - M) * Ideal.exp (M - M') = Ideal.exp (a - M') := by
  induction M with
  | bot => rw [le_bot_iff.mp h]; simp [sub_eq_add_neg]
  | top => rw [top_le_iff.mp h']; simp [sub_eq_add_neg]
  | coe s =>
    induction a with
    | bot => simp [sub_eq_add_neg]
    | top => exact absurd h (by simp)
    | coe r =>
      induction M' with
      | bot => exact absurd h' (by simp)
      | top => simp [sub_eq_add_neg]
      | coe u =>
        rw [← EReal.coe_sub, ← EReal.coe_sub, ← EReal.coe_sub, Ideal.exp_coe, Ideal.exp_coe, Ideal.exp_coe,
          ← EReal.coe_mul, ← Real.exp_add]
        congr 2; ring

theorem mx_zero (t : ℕ → EReal) : mx t 0 = ⊥ := by simp [mx]
theorem ls_zero (t : ℕ → EReal) : ls t 0 = 0 := by simp [ls]
theorem ac_zero (t v : ℕ → EReal) : ac t v 0 = 0 := by simp [ac]

theorem le_mx (t : ℕ → EReal) {n κ : ℕ} (h : κ < n) : t κ ≤ mx t n :=
  Finset.le_sup (f := t) (Finset.mem_range.mpr h)

theorem mx_mono (t : ℕ → EReal) {n n' : ℕ} (h : n ≤ n') : mx t n ≤ mx t n' :=
  Finset.sup_mono (Finset.range_mono h)

/-- The maximum grows by a block of `w` scores. -/
theorem mx_add (t : ℕ → EReal) (n w : ℕ) :
    max (mx t n) (univ.sup fun κ : Fin w => t (n + κ)) = mx t (n + w) := by
  apply le_antisymm
  · refine max_le (mx_mono t (Nat.le_add_right n w)) (Finset.sup_le fun κ _ => le_mx t ?_)
    have := κ.isLt; omega
  · refine Finset.sup_le fun κ hκ => ?_
    rw [mem_range] at hκ
    by_cases h : κ < n
    · exact le_max_of_le_left (le_mx t h)
    · refine le_max_of_le_right ?_
      have : t κ = (fun i : Fin w => t (n + i)) ⟨κ - n, by omega⟩ := by
        show t κ = t (n + (κ - n)); congr 1; omega
      rw [this]; exact Finset.le_sup (f := fun i : Fin w => t (n + i)) (mem_univ _)

theorem sum_mul_const {n : ℕ} (f : ℕ → EReal) {c : EReal} (h : 0 ≤ c) (h' : c ≠ ⊤) :
    (∑ κ ∈ range n, f κ) * c = ∑ κ ∈ range n, f κ * c := by
  induction n with
  | zero => simp
  | succ n ih => rw [sum_range_succ, sum_range_succ, EReal.right_distrib_of_nonneg_of_ne_top h h', ih]

/-- The weighted sum grows by a block of `w` keys: the old one rescaled to the new maximum, plus the block's own. -/
theorem ac_add (t v : ℕ → EReal) (n w : ℕ) :
    ac t v n * Ideal.exp (mx t n - mx t (n + w))
      + ∑ κ : Fin w, Ideal.exp (t (n + κ) - mx t (n + w)) * v (n + κ) = ac t v (n + w) := by
  have hm := mx_mono t (Nat.le_add_right n w)
  have e : ac t v n * Ideal.exp (mx t n - mx t (n + w))
      = ∑ κ ∈ range n, Ideal.exp (t κ - mx t (n + w)) * v κ := by
    rw [ac, sum_mul_const _ (exp_nonneg _) (exp_ne_top (sub_ne_top hm))]
    refine sum_congr rfl fun κ hκ => ?_
    rw [mul_right_comm, exp_shift (le_mx t (mem_range.mp hκ)) hm]
  rw [e, Fin.sum_univ_eq_sum_range (fun κ => Ideal.exp (t (n + κ) - mx t (n + w)) * v (n + κ)) w, ac,
    sum_range_add]

/-- The sum of exponentials grows by a block of `w` keys. -/
theorem ls_add (t : ℕ → EReal) (n w : ℕ) :
    ls t n * Ideal.exp (mx t n - mx t (n + w)) + ∑ κ : Fin w, Ideal.exp (t (n + κ) - mx t (n + w)) = ls t (n + w) := by
  have h := ac_add t (fun _ => 1) n w
  simpa only [ac, mul_one, ls] using h

/-- Keys scored `⊥` beyond the first `n` change nothing. -/
theorem mx_ext (t : ℕ → EReal) {n N : ℕ} (h : n ≤ N) (ht : ∀ κ, n ≤ κ → t κ = ⊥) : mx t N = mx t n := by
  apply le_antisymm _ (mx_mono t h)
  refine Finset.sup_le fun κ _ => ?_
  by_cases hk : κ < n
  · exact le_mx t hk
  · rw [ht κ (by omega)]; exact bot_le

theorem ac_ext (t v : ℕ → EReal) {n N : ℕ} (h : n ≤ N) (ht : ∀ κ, n ≤ κ → t κ = ⊥) : ac t v N = ac t v n := by
  rw [ac, ac, mx_ext t h ht]
  refine (sum_subset (range_mono h) fun κ _ hκ => ?_).symm
  rw [ht κ (by simpa using hκ)]; simp [sub_eq_add_neg]

theorem ls_ext (t : ℕ → EReal) {n N : ℕ} (h : n ≤ N) (ht : ∀ κ, n ≤ κ → t κ = ⊥) : ls t N = ls t n := by
  have := ac_ext t (fun _ => 1) h ht
  simpa only [ac, mul_one, ls] using this

/-- A row with a finite greatest score sums to a positive real. -/
theorem ls_real (t : ℕ → EReal) {n : ℕ} (hb : ∃ κ < n, t κ ≠ ⊥) (ht : ∀ κ < n, t κ ≠ ⊤) :
    ∃ r : ℝ, 0 < r ∧ ls t n = (r : EReal) := by
  obtain ⟨κ₀, hκ₀, hne⟩ := hb
  have hn : (range n).Nonempty := ⟨κ₀, mem_range.mpr hκ₀⟩
  obtain ⟨κ₁, h₁, e₁⟩ := Finset.exists_mem_eq_sup (range n) hn t
  have hM : mx t n = t κ₁ := e₁
  have hMt : mx t n ≠ ⊤ := by rw [hM]; exact ht κ₁ (mem_range.mp h₁)
  have hMb : mx t n ≠ ⊥ := fun h => hne (le_bot_iff.mp (h ▸ le_mx t hκ₀))
  have key : ∀ s : Finset ℕ, (∀ κ ∈ s, κ < n) →
      ∃ r : ℝ, 0 ≤ r ∧ ∑ κ ∈ s, Ideal.exp (t κ - mx t n) = (r : EReal) := by
    intro s
    induction s using Finset.induction_on with
    | empty => exact fun _ => ⟨0, le_rfl, by simp⟩
    | insert a s ha ih =>
      intro hs
      obtain ⟨r, hr, er⟩ := ih fun κ hκ => hs κ (mem_insert_of_mem hκ)
      have hle := le_mx t (hs a (mem_insert_self a s))
      rw [sum_insert ha, er]
      have h0 := exp_nonneg (t a - mx t n)
      have h1 := exp_ne_top (sub_ne_top hle)
      lift Ideal.exp (t a - mx t n) to ℝ using ⟨h1, fun h => by rw [h] at h0; simp at h0⟩ with e
      exact ⟨e + r, by have : (0:ℝ) ≤ e := by exact_mod_cast h0
                       linarith, by rw [EReal.coe_add]⟩
  obtain ⟨r, hr, er⟩ := key ((range n).erase κ₁) fun κ hκ => mem_range.mp (mem_of_mem_erase hκ)
  refine ⟨1 + r, by linarith, ?_⟩
  rw [ls, ← add_sum_erase _ _ h₁, er, hM]
  have e0 : t κ₁ - t κ₁ = 0 := EReal.sub_self (hM ▸ hMt) (hM ▸ hMb)
  rw [e0]
  have : Ideal.exp 0 = 1 := by rw [← EReal.coe_zero, Ideal.exp_coe]; simp
  rw [this, EReal.coe_add, EReal.coe_one]

/-- Dividing the weighted sum by the sum of exponentials is weighting by the quotients. -/
theorem div_ac (t v : ℕ → EReal) {n : ℕ} (hb : ∃ κ < n, t κ ≠ ⊥) (ht : ∀ κ < n, t κ ≠ ⊤) :
    Ideal.div (ac t v n) (ls t n)
      = ∑ κ ∈ range n, Ideal.div (Ideal.exp (t κ - mx t n)) (ls t n) * v κ := by
  obtain ⟨r, hr, e⟩ := ls_real t hb ht
  rw [e, Ideal.div_coe hr.ne', ac, sum_mul_const _ (by exact_mod_cast (by positivity : (0:ℝ) ≤ 1 / r))
    (EReal.coe_ne_top _)]
  refine sum_congr rfl fun κ _ => ?_
  rw [Ideal.div_coe hr.ne', mul_right_comm]

end Cert.Online

end
-- ==== Proof.Chunk.lean ====
/- One block of keys against 1024 rows of queries: the new maximum, the rescaling, the exponentials and the two running
   sums, as the kernel computes them from a block of scores, read at an index; and that they take the online softmax
   over the first `n` keys to the one over the first `n` and the block. -/
module

public import proofs.«01_k».proof.Proof.Gen.KernelIdeal.Skeleton
public import proofs.«01_k».proof.Proof.Online
public import Idealize.ShloMosaic.Lib.Pipeline.ValueKit
public import Idealize.ShloMosaic.Lib.Pointwise

@[expose] public section

set_option maxRecDepth 16384

noncomputable section

namespace Cert.KernelIdeal.Chunk

open Cert.KernelIdeal Cert.KernelIdeal.Gen Cert.Online
open Idealize.ShloMosaic Idealize.ShloMosaic.TcCoe Idealize.SL.Sem
open Finset

/-- The word the scores are masked with, and the maxima start from, reads `⊥`. -/
theorem ofBits_bot : Ideal.ofBits .f32 (0xFF800000#32) = (⊥ : EReal) := by
  simp [Ideal.ofBits, Ideal.ieee]

theorem fold_max_bot {n : ℕ} (f : Fin n → EReal) :
    Finset.fold max (Ideal.ofBits FTy.f32 (0xFF800000#32)) f univ = univ.sup f := by
  rw [ofBits_bot]; rfl

/-- What a row keeps of its first `n` keys: their maximum, the sum of exponentials, and for one channel the weighted sum. -/
def St (t v : ℕ → EReal) (n : ℕ) (m l a : EReal) : Prop := m = mx t n ∧ l = ls t n ∧ a = ac t v n

theorem St.zero (t v : ℕ → EReal) : St t v 0 ⊥ 0 0 := ⟨(mx_zero t).symm, (ls_zero t).symm, (ac_zero t v).symm⟩

/-- A block of `w` keys, folded in. -/
theorem St.step {t v : ℕ → EReal} {n : ℕ} {m l a : EReal} (h : St t v n m l a) (w : ℕ) :
    St t v (n + w) (max m (univ.sup fun κ : Fin w => t (n + κ)))
      (l * Ideal.exp (m - mx t (n + w)) + ∑ κ : Fin w, Ideal.exp (t (n + κ) - mx t (n + w)))
      (a * Ideal.exp (m - mx t (n + w)) + ∑ κ : Fin w, Ideal.exp (t (n + κ) - mx t (n + w)) * v (n + κ)) := by
  obtain ⟨rfl, rfl, rfl⟩ := h
  exact ⟨mx_add t n w, ls_add t n w, ac_add t v n w⟩

/-! ## A block of 1024 keys -/

/-- The new maximum of each row, in all 128 columns. -/
def mU1024 (s : FVec Ideal S1024x1024 .f32) (m : FVec Ideal S1024x128 .f32) : FVec Ideal S1024x128 .f32 :=
  maximumf m (broadcastTo S1024x128 (shapeCast S1024x1 (multiReduction .maximumf [1] S1024 s 0xFF800000#32 reduces_S1024x1024_S1024 (.inl rfl) rfl) shapeCasts_S1024_S1024x1) broadcasts_S1024x1_S1024x128)

/-- The factor that takes the old sums to the new maximum. -/
def cU1024 (s : FVec Ideal S1024x1024 .f32) (m : FVec Ideal S1024x128 .f32) : FVec Ideal S1024x128 .f32 :=
  exp (subf m (mU1024 s m))

/-- The exponentials of the block's scores, relative to the new maximum. -/
def pU1024 (s : FVec Ideal S1024x1024 .f32) (m : FVec Ideal S1024x128 .f32) : FVec Ideal S1024x1024 .f32 :=
  exp (subf s (concatenate S1024x1024 1 [⟨S1024x128, mU1024 s m⟩, ⟨S1024x128, mU1024 s m⟩, ⟨S1024x128, mU1024 s m⟩, ⟨S1024x128, mU1024 s m⟩, ⟨S1024x128, mU1024 s m⟩, ⟨S1024x128, mU1024 s m⟩, ⟨S1024x128, mU1024 s m⟩, ⟨S1024x128, mU1024 s m⟩] concatenates_S1024x128_S1024x128_S1024x128_S1024x128_S1024x128_S1024x128_S1024x128_S1024x128_S1024x1024_d1))

/-- The new sum of exponentials. -/
def lU1024 (s : FVec Ideal S1024x1024 .f32) (m l : FVec Ideal S1024x128 .f32) : FVec Ideal S1024x128 .f32 :=
  addf (mulf l (cU1024 s m)) (broadcastTo S1024x128 (shapeCast S1024x1 (multiReduction .add [1] S1024 (pU1024 s m) 0x00000000#32 reduces_S1024x1024_S1024 (.inl rfl) rfl) shapeCasts_S1024_S1024x1) broadcasts_S1024x1_S1024x128)

/-- The new weighted sum. -/
def aU1024 (s : FVec Ideal S1024x1024 .f32) (V : FVec Ideal S1024x128 .bf16) (m a : FVec Ideal S1024x128 .f32) : FVec Ideal S1024x128 .f32 :=
  addf (mulf a (cU1024 s m)) (matmul dot_S1024x1024_S1024x128_S1024x128_1_0_0_1_n_n none (truncf .bf16 (pU1024 s m) bitsLt_bf16_f32) V (constant S1024x128 .f32 0x00000000#32))

theorem mU1024_apply (s : FVec Ideal S1024x1024 .f32) (m : FVec Ideal S1024x128 .f32) (r : Fin 1024) (j : Fin 128) :
    mU1024 s m (ix2 r j) = max (m (ix2 r j)) (univ.sup fun κ : Fin 1024 => s (ix2 r κ)) := by
  unfold mU1024
  pointwise
  rw [fold_max_bot]

theorem cU1024_apply (s : FVec Ideal S1024x1024 .f32) (m : FVec Ideal S1024x128 .f32) (r : Fin 1024) (j : Fin 128) :
    cU1024 s m (ix2 r j) = Ideal.exp (m (ix2 r j) - mU1024 s m (ix2 r j)) := by
  unfold cU1024
  pointwise

/-- A row whose 128 columns hold one number is subtracted from every score of the row. -/
theorem pU1024_apply (s : FVec Ideal S1024x1024 .f32) (m : FVec Ideal S1024x128 .f32) (r : Fin 1024) (κ : Fin 1024) (M : EReal)
    (hM : ∀ j : Fin 128, mU1024 s m (ix2 r j) = M) :
    pU1024 s m (ix2 r κ) = Ideal.exp (s (ix2 r κ) - M) := by
  unfold pU1024
  pointwise
  simp only [hM, dite_eq_ite, ite_self]

theorem lU1024_apply (s : FVec Ideal S1024x1024 .f32) (m l : FVec Ideal S1024x128 .f32) (r : Fin 1024) (j : Fin 128) :
    lU1024 s m l (ix2 r j) = l (ix2 r j) * cU1024 s m (ix2 r j) + ∑ κ : Fin 1024, pU1024 s m (ix2 r κ) := by
  unfold lU1024
  pointwise

theorem aU1024_apply (s : FVec Ideal S1024x1024 .f32) (V : FVec Ideal S1024x128 .bf16) (m a : FVec Ideal S1024x128 .f32) (r : Fin 1024) (j : Fin 128) :
    aU1024 s V m a (ix2 r j) = a (ix2 r j) * cU1024 s m (ix2 r j) + ∑ κ : Fin 1024, pU1024 s m (ix2 r κ) * V (ix2 κ j) := by
  unfold aU1024
  pointwise

/-- The block's scores being the row's scores `n`, `n + 1`, …, and its values the channel's, the new triple is the
online softmax over `n + 1024` keys. -/
theorem step1024 (T : Fin 1024 → ℕ → EReal) (U : Fin 128 → ℕ → EReal) (n : ℕ) (s : FVec Ideal S1024x1024 .f32) (V : FVec Ideal S1024x128 .bf16)
    (m l a : FVec Ideal S1024x128 .f32) (hs : ∀ (r : Fin 1024) (κ : Fin 1024), s (ix2 r κ) = T r (n + κ))
    (hV : ∀ (κ : Fin 1024) (j : Fin 128), V (ix2 κ j) = U j (n + κ))
    (h : ∀ (r : Fin 1024) (j : Fin 128), St (T r) (U j) n (m (ix2 r j)) (l (ix2 r j)) (a (ix2 r j)))
    (r : Fin 1024) (j : Fin 128) :
    St (T r) (U j) (n + 1024) (mU1024 s m (ix2 r j)) (lU1024 s m l (ix2 r j)) (aU1024 s V m a (ix2 r j)) := by
  have hm : ∀ j : Fin 128, mU1024 s m (ix2 r j) = mx (T r) (n + 1024) := fun j => by
    rw [mU1024_apply, (h r j).1]
    simp only [hs]
    exact mx_add (T r) n 1024
  have hp := fun κ => pU1024_apply s m r κ _ hm
  have key := (h r j).step 1024
  rw [lU1024_apply, aU1024_apply, cU1024_apply, hm j]
  simp only [hp, hs, hV]
  exact ⟨rfl, key.2.1, key.2.2⟩

/-! ## A block of 512 keys -/

/-- The new maximum of each row, in all 128 columns. -/
def mU512 (s : FVec Ideal S1024x512 .f32) (m : FVec Ideal S1024x128 .f32) : FVec Ideal S1024x128 .f32 :=
  maximumf m (broadcastTo S1024x128 (shapeCast S1024x1 (multiReduction .maximumf [1] S1024 s 0xFF800000#32 reduces_S1024x512_S1024 (.inl rfl) rfl) shapeCasts_S1024_S1024x1) broadcasts_S1024x1_S1024x128)

/-- The factor that takes the old sums to the new maximum. -/
def cU512 (s : FVec Ideal S1024x512 .f32) (m : FVec Ideal S1024x128 .f32) : FVec Ideal S1024x128 .f32 :=
  exp (subf m (mU512 s m))

/-- The exponentials of the block's scores, relative to the new maximum. -/
def pU512 (s : FVec Ideal S1024x512 .f32) (m : FVec Ideal S1024x128 .f32) : FVec Ideal S1024x512 .f32 :=
  exp (subf s (concatenate S1024x512 1 [⟨S1024x128, mU512 s m⟩, ⟨S1024x128, mU512 s m⟩, ⟨S1024x128, mU512 s m⟩, ⟨S1024x128, mU512 s m⟩] concatenates_S1024x128_S1024x128_S1024x128_S1024x128_S1024x512_d1))

/-- The new sum of exponentials. -/
def lU512 (s : FVec Ideal S1024x512 .f32) (m l : FVec Ideal S1024x128 .f32) : FVec Ideal S1024x128 .f32 :=
  addf (mulf l (cU512 s m)) (broadcastTo S1024x128 (shapeCast S1024x1 (multiReduction .add [1] S1024 (pU512 s m) 0x00000000#32 reduces_S1024x512_S1024 (.inl rfl) rfl) shapeCasts_S1024_S1024x1) broadcasts_S1024x1_S1024x128)

/-- The new weighted sum. -/
def aU512 (s : FVec Ideal S1024x512 .f32) (V : FVec Ideal S512x128 .bf16) (m a : FVec Ideal S1024x128 .f32) : FVec Ideal S1024x128 .f32 :=
  addf (mulf a (cU512 s m)) (matmul dot_S1024x512_S512x128_S1024x128_1_0_0_1_n_n none (truncf .bf16 (pU512 s m) bitsLt_bf16_f32) V (constant S1024x128 .f32 0x00000000#32))

theorem mU512_apply (s : FVec Ideal S1024x512 .f32) (m : FVec Ideal S1024x128 .f32) (r : Fin 1024) (j : Fin 128) :
    mU512 s m (ix2 r j) = max (m (ix2 r j)) (univ.sup fun κ : Fin 512 => s (ix2 r κ)) := by
  unfold mU512
  pointwise
  rw [fold_max_bot]

theorem cU512_apply (s : FVec Ideal S1024x512 .f32) (m : FVec Ideal S1024x128 .f32) (r : Fin 1024) (j : Fin 128) :
    cU512 s m (ix2 r j) = Ideal.exp (m (ix2 r j) - mU512 s m (ix2 r j)) := by
  unfold cU512
  pointwise

/-- A row whose 128 columns hold one number is subtracted from every score of the row. -/
theorem pU512_apply (s : FVec Ideal S1024x512 .f32) (m : FVec Ideal S1024x128 .f32) (r : Fin 1024) (κ : Fin 512) (M : EReal)
    (hM : ∀ j : Fin 128, mU512 s m (ix2 r j) = M) :
    pU512 s m (ix2 r κ) = Ideal.exp (s (ix2 r κ) - M) := by
  unfold pU512
  pointwise
  simp only [hM, dite_eq_ite, ite_self]

theorem lU512_apply (s : FVec Ideal S1024x512 .f32) (m l : FVec Ideal S1024x128 .f32) (r : Fin 1024) (j : Fin 128) :
    lU512 s m l (ix2 r j) = l (ix2 r j) * cU512 s m (ix2 r j) + ∑ κ : Fin 512, pU512 s m (ix2 r κ) := by
  unfold lU512
  pointwise

theorem aU512_apply (s : FVec Ideal S1024x512 .f32) (V : FVec Ideal S512x128 .bf16) (m a : FVec Ideal S1024x128 .f32) (r : Fin 1024) (j : Fin 128) :
    aU512 s V m a (ix2 r j) = a (ix2 r j) * cU512 s m (ix2 r j) + ∑ κ : Fin 512, pU512 s m (ix2 r κ) * V (ix2 κ j) := by
  unfold aU512
  pointwise

/-- The block's scores being the row's scores `n`, `n + 1`, …, and its values the channel's, the new triple is the
online softmax over `n + 512` keys. -/
theorem step512 (T : Fin 1024 → ℕ → EReal) (U : Fin 128 → ℕ → EReal) (n : ℕ) (s : FVec Ideal S1024x512 .f32) (V : FVec Ideal S512x128 .bf16)
    (m l a : FVec Ideal S1024x128 .f32) (hs : ∀ (r : Fin 1024) (κ : Fin 512), s (ix2 r κ) = T r (n + κ))
    (hV : ∀ (κ : Fin 512) (j : Fin 128), V (ix2 κ j) = U j (n + κ))
    (h : ∀ (r : Fin 1024) (j : Fin 128), St (T r) (U j) n (m (ix2 r j)) (l (ix2 r j)) (a (ix2 r j)))
    (r : Fin 1024) (j : Fin 128) :
    St (T r) (U j) (n + 512) (mU512 s m (ix2 r j)) (lU512 s m l (ix2 r j)) (aU512 s V m a (ix2 r j)) := by
  have hm : ∀ j : Fin 128, mU512 s m (ix2 r j) = mx (T r) (n + 512) := fun j => by
    rw [mU512_apply, (h r j).1]
    simp only [hs]
    exact mx_add (T r) n 512
  have hp := fun κ => pU512_apply s m r κ _ hm
  have key := (h r j).step 512
  rw [lU512_apply, aU512_apply, cU512_apply, hm j]
  simp only [hp, hs, hV]
  exact ⟨rfl, key.2.1, key.2.2⟩

end Cert.KernelIdeal.Chunk

end
-- ==== Proof.Words.lean ====
/- The kernel's integer words at grid point `i`, whose second coordinate numbers a tile of 256 query rows: where the
   tile starts, how many whole blocks of 1024 keys lie before it, where the last 512 keys start, and which of them a row
   may see. -/
module

public import proofs.«01_k».proof.Proof.Gen.KernelIdeal.Value
public import proofs.«01_k».proof.Proof.Chunk

@[expose] public section

set_option maxRecDepth 16384

noncomputable section

namespace Cert.KernelIdeal.Words

open Cert.KernelIdeal Cert.KernelIdeal.Gen Cert.KernelIdeal.Chunk
open Idealize.ShloMosaic Idealize.ShloMosaic.TcCoe Idealize.SL.Sem

/-- The grid point of tile `q` of the first batch row. -/
abbrev mk (q : Fin 32) : grid0.Coords := fun a => match a with | 0 => (0 : Fin 2) | 1 => q

/-- The tile number of grid point `i`. -/
abbrev qi (i : grid0.Coords) : ℕ := (i 1).val

theorem qi_lt (i : grid0.Coords) : qi i < 32 := (i 1).isLt

/-- The first key of the last 512 the tile looks at. -/
def base (i : grid0.Coords) : ℕ := 1024 * (qi i / 4) + 512 * (qi i % 4 / 2)

theorem trips1 (i : grid0.Coords) : (k0_t1_loop i).trips = qi i / 4 :=
  (by decide +kernel : ∀ q : Fin 32, (k0_t1_loop (mk q)).trips = q.val / 4) (i 1)

theorem trips2 (i : grid0.Coords) : (k0_t2_loop i).trips = 0 :=
  (by decide +kernel : ∀ q : Fin 32, (k0_t2_loop (mk q)).trips = 0) (i 1)

theorem off1 (i : grid0.Coords) (k : Fin (k0_t1_loop i).trips) : k0_off1 i k = ![0, 1024 * k.val, 0] := by
  have hk : k.val < 8 := by
    have h := k.isLt.trans_eq (trips1 i)
    have := qi_lt i
    omega
  have h : ∀ k : Fin 8, (Scalar.indexCast (Scalar.muli (Scf.iv 0#32 1#32 k.val) 1024#32)).toNat = 1024 * k.val := by
    decide +kernel
  show ![0, (Scalar.indexCast (Scalar.muli (Scf.iv 0#32 1#32 k.val) 1024#32)).toNat, 0] = _
  rw [h ⟨k.val, hk⟩]

theorem off3 (i : grid0.Coords) : k0_off3 i = ![0, 1024 * (qi i / 4), 0] :=
  (by decide +kernel : ∀ q : Fin 32, k0_off3 (mk q) = ![0, 1024 * (q.val / 4), 0]) (i 1)

theorem off4 (i : grid0.Coords) : k0_off4 i = ![0, base i, 0] :=
  (by decide +kernel : ∀ q : Fin 32, k0_off4 (mk q) = ![0, 1024 * (q.val / 4) + 512 * (q.val % 4 / 2), 0]) (i 1)

theorem v12A (i : grid0.Coords) : kernelRun0_A.sl.v12 i = BitVec.ofNat 32 (256 * qi i) :=
  (by decide +kernel : ∀ q : Fin 32, kernelRun0_A.sl.v12 (mk q) = BitVec.ofNat 32 (256 * q.val)) (i 1)

theorem v12B (i : grid0.Coords) : kernelRun0_B.sl.v12 i = BitVec.ofNat 32 (256 * qi i) :=
  (by decide +kernel : ∀ q : Fin 32, kernelRun0_B.sl.v12 (mk q) = BitVec.ofNat 32 (256 * q.val)) (i 1)

theorem v29A (i : grid0.Coords) : kernelRun0_A.sl.v29 i = BitVec.ofNat 32 (qi i / 4) :=
  (by decide +kernel : ∀ q : Fin 32, kernelRun0_A.sl.v29 (mk q) = BitVec.ofNat 32 (q.val / 4)) (i 1)

theorem v29B (i : grid0.Coords) : kernelRun0_B.sl.v29 i = BitVec.ofNat 32 (qi i / 4) :=
  (by decide +kernel : ∀ q : Fin 32, kernelRun0_B.sl.v29 (mk q) = BitVec.ofNat 32 (q.val / 4)) (i 1)

theorem v47A (i : grid0.Coords) : kernelRun0_A.sl.v47 i = BitVec.ofNat 32 (base i) :=
  (by decide +kernel : ∀ q : Fin 32, kernelRun0_A.sl.v47 (mk q) = BitVec.ofNat 32 (1024 * (q.val / 4) + 512 * (q.val % 4 / 2))) (i 1)

theorem v47B (i : grid0.Coords) : kernelRun0_B.sl.v47 i = BitVec.ofNat 32 (base i) :=
  (by decide +kernel : ∀ q : Fin 32, kernelRun0_B.sl.v47 (mk q) = BitVec.ofNat 32 (1024 * (q.val / 4) + 512 * (q.val % 4 / 2))) (i 1)

/-- The same start of the last 512 keys as computed from the tile's first row and its whole blocks. -/
theorem v47_of (i : grid0.Coords) :
    Scalar.addi (Scalar.muli (BitVec.ofNat 32 (qi i / 4)) 1024#32) (Scalar.select (Scalar.cmpi .sge (Scalar.subi (BitVec.ofNat 32 (256 * qi i)) (Scalar.muli (BitVec.ofNat 32 (qi i / 4)) 1024#32)) 512#32) 512#32 0#32) = BitVec.ofNat 32 (base i) :=
  (by decide +kernel : ∀ q : Fin 32, Scalar.addi (Scalar.muli (BitVec.ofNat 32 (q.val / 4)) 1024#32) (Scalar.select (Scalar.cmpi .sge (Scalar.subi (BitVec.ofNat 32 (256 * q.val)) (Scalar.muli (BitVec.ofNat 32 (q.val / 4)) 1024#32)) 512#32) 512#32 0#32) = BitVec.ofNat 32 (1024 * (q.val / 4) + 512 * (q.val % 4 / 2))) (i 1)

/-- The half step before the last 512 keys runs on the tiles whose own keys lie in the second half of their block. -/
theorem cond_iff (i : grid0.Coords) : cond0_0 i ↔ qi i % 4 / 2 = 1 :=
  (by decide +kernel : ∀ q : Fin 32, cond0_0 (mk q) ↔ q.val % 4 / 2 = 1) (i 1)

/-- The row's place in its tile, as the kernel computes it: the remainder by 256 (a row of 1024 holds four heads). -/
theorem rem_row : ∀ r : Fin 1024,
    Scalar.select (IntOp.andi (IntOp.xori (IntOp.cmpi .slt (IntOp.remsi .vector (BitVec.ofNat 32 r.val) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 r.val) (Scalar.select (Scalar.cmpi .eq 256#32 0#32) 1#32 256#32)) 0#32))
      (IntOp.addi (IntOp.remsi .vector (BitVec.ofNat 32 r.val) (Scalar.select (Scalar.cmpi .eq 256#32 0#32) 1#32 256#32)) (Scalar.select (Scalar.cmpi .eq 256#32 0#32) 1#32 256#32))
      (IntOp.remsi .vector (BitVec.ofNat 32 r.val) (Scalar.select (Scalar.cmpi .eq 256#32 0#32) 1#32 256#32)) = BitVec.ofNat 32 (r.val % 256) := by
  decide +kernel

/-- A signed comparison of two small numbers. -/
theorem sle_ofNat {a b : ℕ} (ha : a < 2 ^ 31) (hb : b < 2 ^ 31) :
    IntOp.cmpi .sle (BitVec.ofNat 32 a) (BitVec.ofNat 32 b) = if a ≤ b then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  simp only [IntOp.cmpi, BitVec.sle, h1, h2]
  by_cases h : a ≤ b <;> simp [h]

theorem select_sle {a b : ℕ} (ha : a < 2 ^ 31) (hb : b < 2 ^ 31) (x y : EReal) :
    Scalar.select (IntOp.cmpi .sle (BitVec.ofNat 32 a) (BitVec.ofNat 32 b)) x y = if a ≤ b then x else y := by
  rw [sle_ofNat ha hb]
  by_cases h : a ≤ b <;> simp [h, Scalar.select]

theorem addi_ofNat (a b : ℕ) : IntOp.addi (BitVec.ofNat 32 a) (BitVec.ofNat 32 b) = BitVec.ofNat 32 (a + b) := by
  simp [IntOp.addi, BitVec.ofNat_add]

theorem base_lt (i : grid0.Coords) : base i < 8192 := by
  have := qi_lt i
  unfold base
  omega

/-- Rows 0 to 1023 of the masked scores: row `r` sees the keys up to its own position. -/
theorem mask0 (i : grid0.Coords) (s : FVec Ideal S1024x512 .f32) (r : Fin 1024) (κ : Fin 512) :
    k0_pay63 (BitVec.ofNat 32 (256 * qi i)) s (k0_pay59 (BitVec.ofNat 32 (256 * qi i)) (BitVec.ofNat 32 (qi i / 4))) k0_pay60 k0_pay61 k0_pay62 (ix2 r κ)
      = if base i + κ.val ≤ 256 * qi i + r.val % 256 then s (ix2 r κ) else ⊥ := by
  have h60 : k0_pay60 (ix2 r κ) = IntOp.remsi .vector (BitVec.ofNat 32 r.val) (Scalar.select (Scalar.cmpi .eq 256#32 0#32) 1#32 256#32) := by
    unfold k0_pay60
    pointwise
  unfold k0_pay63 k0_pay59 k0_pay61 k0_pay62
  pointwise
  rw [h60, rem_row r, v47_of i, addi_ofNat, addi_ofNat, ofBits_bot]
  have := base_lt i
  have := qi_lt i
  exact select_sle (by have := κ.isLt; omega) (by omega) _ _

/-- Rows 1024 to 2047 likewise. -/
theorem mask1 (i : grid0.Coords) (s : FVec Ideal S1024x512 .f32) (r : Fin 1024) (κ : Fin 512) :
    k0_pay71 (BitVec.ofNat 32 (256 * qi i)) (BitVec.ofNat 32 (base i)) s (iota .tc S1024x512 32 [0] iota_S1024x512_d0_w32) (iota .tc S1024x512 32 [1] iota_S1024x512_d1_w32) (ix2 r κ)
      = if base i + κ.val ≤ 256 * qi i + r.val % 256 then s (ix2 r κ) else ⊥ := by
  unfold k0_pay71
  pointwise
  rw [rem_row r, addi_ofNat, addi_ofNat, ofBits_bot]
  have := base_lt i
  have := qi_lt i
  exact select_sle (by have := κ.isLt; omega) (by omega) _ _

end Cert.KernelIdeal.Words

end
-- ==== Proof.Pays.lean ====
/- What each stored word of a block of keys is, in the words of one block of the online softmax. -/
module

public import proofs.«01_k».proof.Proof.Chunk

@[expose] public section

set_option maxRecDepth 16384

noncomputable section

namespace Cert.KernelIdeal.Pays

open Cert.KernelIdeal Cert.KernelIdeal.Gen Cert.KernelIdeal.Chunk
open Idealize.ShloMosaic Idealize.ShloMosaic.TcCoe Idealize.ShloMosaic.Tactic

/-! ### A whole block, first half -/

theorem pay10_eq (v33 : FVec Ideal S1024x256 .bf16) (K : Vec Ideal S1x1024x256 .bf16) (m : FVec Ideal S1024x128 .f32) :
    k0_pay10 v33 K m = mU1024 (k0_pay4 v33 K) m := by
  unfold k0_pay10
  exact shapeCast_id _ _

theorem pay8_eq (v33 : FVec Ideal S1024x256 .bf16) (K : Vec Ideal S1x1024x256 .bf16) (m l : FVec Ideal S1024x128 .f32) :
    k0_pay8 v33 K m l = lU1024 (k0_pay4 v33 K) m l := by
  unfold k0_pay8
  exact shapeCast_id _ _

theorem pay9_eq (v33 : FVec Ideal S1024x256 .bf16) (K : Vec Ideal S1x1024x256 .bf16) (m a : FVec Ideal S1024x128 .f32) :
    k0_pay9 v33 K m a = aU1024 (k0_pay4 v33 K) (k0_pay3 K) m a := by
  unfold k0_pay9
  exact shapeCast_id _ _

/-! ### A half block, first half -/

theorem pay28_eq (v33 : FVec Ideal S1024x256 .bf16) (K : Vec Ideal S1x512x256 .bf16) (m : FVec Ideal S1024x128 .f32) :
    k0_pay28 v33 K m = mU512 (k0_pay22 v33 K) m := by
  unfold k0_pay28
  exact shapeCast_id _ _

theorem pay26_eq (v33 : FVec Ideal S1024x256 .bf16) (K : Vec Ideal S1x512x256 .bf16) (m l : FVec Ideal S1024x128 .f32) :
    k0_pay26 v33 K m l = lU512 (k0_pay22 v33 K) m l := by
  unfold k0_pay26
  exact shapeCast_id _ _

theorem pay27_eq (v33 : FVec Ideal S1024x256 .bf16) (K : Vec Ideal S1x512x256 .bf16) (m a : FVec Ideal S1024x128 .f32) :
    k0_pay27 v33 K m a = aU512 (k0_pay22 v33 K) (k0_pay21 K) m a := by
  unfold k0_pay27
  exact shapeCast_id _ _

/-! ### A whole block, second half -/

theorem pay42_eq (v32 : FVec Ideal S2048x256 .bf16) (K2 : FVec Ideal S1024x256 .bf16) (m : FVec Ideal S1024x128 .f32) :
    k0_pay42 v32 K2 m = mU1024 (k0_pay36 v32 K2) m := by
  unfold k0_pay42
  exact shapeCast_id _ _

theorem pay40_eq (v32 : FVec Ideal S2048x256 .bf16) (K2 : FVec Ideal S1024x256 .bf16) (m l : FVec Ideal S1024x128 .f32) :
    k0_pay40 v32 K2 m l = lU1024 (k0_pay36 v32 K2) m l := by
  unfold k0_pay40
  exact shapeCast_id _ _

theorem pay41_eq (v32 : FVec Ideal S2048x256 .bf16) (K2 : FVec Ideal S1024x256 .bf16) (V : FVec Ideal S1024x128 .bf16) (m a : FVec Ideal S1024x128 .f32) :
    k0_pay41 v32 K2 V m a = aU1024 (k0_pay36 v32 K2) V m a := by
  unfold k0_pay41
  exact shapeCast_id _ _

/-! ### A half block, second half -/

theorem pay55_eq (s : FVec Ideal S1024x512 .f32) (m : FVec Ideal S1024x128 .f32) :
    k0_pay55 s m = mU512 s m := by
  unfold k0_pay55
  exact shapeCast_id _ _

theorem pay53_eq (s : FVec Ideal S1024x512 .f32) (m l : FVec Ideal S1024x128 .f32) :
    k0_pay53 s m l = lU512 s m l := by
  unfold k0_pay53
  exact shapeCast_id _ _

theorem pay54_eq (V : FVec Ideal S512x128 .bf16) (s : FVec Ideal S1024x512 .f32) (m a : FVec Ideal S1024x128 .f32) :
    k0_pay54 V s m a = aU512 s V m a := by
  unfold k0_pay54
  exact shapeCast_id _ _

/-! ### The masked block, first half -/

theorem pay69_eq (v12 : BitVec 32) (s : FVec Ideal S1024x512 .f32) (v57 v61 : IVec S1024x512 32) (v70 : IVec S1024x512 1) (v71 : IVec S1024x512 32) (m : FVec Ideal S1024x128 .f32) :
    k0_pay69 v12 s v57 v61 v70 v71 m = mU512 (k0_pay63 v12 s v57 v61 v70 v71) m := by
  unfold k0_pay69
  exact shapeCast_id _ _

theorem pay67_eq (v12 : BitVec 32) (s : FVec Ideal S1024x512 .f32) (v57 v61 : IVec S1024x512 32) (v70 : IVec S1024x512 1) (v71 : IVec S1024x512 32) (m l : FVec Ideal S1024x128 .f32) :
    k0_pay67 v12 s v57 v61 v70 v71 m l = lU512 (k0_pay63 v12 s v57 v61 v70 v71) m l := by
  unfold k0_pay67
  exact shapeCast_id _ _

theorem pay68_eq (V : FVec Ideal S512x128 .bf16) (v12 : BitVec 32) (s : FVec Ideal S1024x512 .f32) (v57 v61 : IVec S1024x512 32) (v70 : IVec S1024x512 1) (v71 : IVec S1024x512 32) (m a : FVec Ideal S1024x128 .f32) :
    k0_pay68 v12 V s v57 v61 v70 v71 m a = aU512 (k0_pay63 v12 s v57 v61 v70 v71) V m a := by
  unfold k0_pay68
  exact shapeCast_id _ _

/-! ### The masked block, second half -/

theorem pay77_eq (v12 v48 : BitVec 32) (s : FVec Ideal S1024x512 .f32) (v110 v111 : IVec S1024x512 32) (m : FVec Ideal S1024x128 .f32) :
    k0_pay77 (k0_pay72 v12 v48 s v110 v111 m) = mU512 (k0_pay71 v12 v48 s v110 v111) m := by
  unfold k0_pay77
  exact shapeCast_id _ _

theorem pay75_eq (v12 v48 : BitVec 32) (s : FVec Ideal S1024x512 .f32) (v110 v111 : IVec S1024x512 32) (m l : FVec Ideal S1024x128 .f32) :
    k0_pay75 v12 v48 s v110 v111 m l = lU512 (k0_pay71 v12 v48 s v110 v111) m l := by
  unfold k0_pay75
  exact shapeCast_id _ _

theorem pay76_eq (v12 v48 : BitVec 32) (s : FVec Ideal S1024x512 .f32) (v110 v111 : IVec S1024x512 32) (V : FVec Ideal S512x128 .bf16) (m a : FVec Ideal S1024x128 .f32) :
    k0_pay76 V (k0_pay73 v12 v48 s v110 v111 m) (k0_pay74 v12 v48 s v110 v111 m) a = aU512 (k0_pay71 v12 v48 s v110 v111) V m a := by
  unfold k0_pay76
  exact shapeCast_id _ _

end Cert.KernelIdeal.Pays

end
-- ==== Proof.State.lean ====
/- The three scratch buffers of a query tile: 2048 rows (8 heads by 256 queries), of which each block of keys updates
   first rows 0 to 1023 and then rows 1024 to 2047. What the rows hold after the loop over the whole blocks of 1024 keys
   is the online softmax over those keys. -/
module

public import proofs.«01_k».proof.Proof.Words
public import proofs.«01_k».proof.Proof.Pays
public import Idealize.ShloMosaic.Lib.WritesUnit

@[expose] public section

set_option maxRecDepth 16384

noncomputable section

namespace Cert.KernelIdeal.State

open Cert.KernelIdeal Cert.KernelIdeal.Gen Cert.KernelIdeal.Chunk Cert.KernelIdeal.Pays Cert.KernelIdeal.Words Cert.Online
open Idealize.ShloMosaic Idealize.ShloMosaic.TcCoe Idealize.ShloMosaic.Tactic Idealize.SL.Sem
open Finset

/-! ## Scores and values of a tile, numbered by row and key -/

/-- Row `R` of the tile's queries (head `R / 256`, query `R % 256`). -/
def qv (x0 : Vec Ideal S1x8x256x256 .bf16) (R : ℕ) (d : Fin 256) : EReal :=
  x0 (ix4 0 ⟨R / 256 % 8, Nat.mod_lt _ (by decide)⟩ ⟨R % 256, Nat.mod_lt _ (by decide)⟩ d)

/-- Key `κ`. -/
def kv (x1 : Vec Ideal S1x8192x256 .bf16) (κ : ℕ) (d : Fin 256) : EReal :=
  x1 (ix3 0 ⟨κ % 8192, Nat.mod_lt _ (by decide)⟩ d)

/-- The score of row `R` and key `κ`. -/
def sc (x0 : Vec Ideal S1x8x256x256 .bf16) (x1 : Vec Ideal S1x8192x256 .bf16) (R κ : ℕ) : EReal :=
  ∑ d : Fin 256, qv x0 R d * kv x1 κ d

/-- The masked score: `⊥` for a key after the query's own position. -/
def T (i : grid0.Coords) (x0 : Vec Ideal S1x8x256x256 .bf16) (x1 : Vec Ideal S1x8192x256 .bf16) (R κ : ℕ) : EReal :=
  if κ ≤ 256 * qi i + R % 256 then sc x0 x1 R κ else ⊥

/-- Channel `j` of key `κ`'s value: the first 128 channels of the key itself. -/
def U (x1 : Vec Ideal S1x8192x256 .bf16) (j κ : ℕ) : EReal := kv x1 κ ⟨j % 256, Nat.mod_lt _ (by decide)⟩

/-! ## Loads of the staged queries and keys -/

theorem q_read {v : Memref sig .tc .vmem S1x8x256x256 .bf16} (hv : v.IsWhole) (x0 : Vec Ideal S1x8x256x256 .bf16) (inb) (R : Fin 2048) (d : Fin 256) :
    k0_pay33 (View.readAt (Elt Ideal) v.view (Rect.unit ![0, 0, 0, 0] S1x8x256x256.size inb).toLoadRect (hv.unread x0)) (ix2 R d) = qv x0 R d := by
  unfold k0_pay33
  rw [View.readAt_eq_ld, Memref.IsWhole.read_unread]
  pointwise
  have := R.isLt
  unfold qv
  congr 2
  apply Fin.ext
  show R.val / 256 = R.val / 256 % 8
  omega

theorem k_read (w : ℕ) {v : Memref sig .tc .vmem S1x8192x256 .bf16} (hv : v.IsWhole) (x1 : Vec Ideal S1x8192x256 .bf16)
    {off : Fin 3 → ℕ} {o : ℕ} (hoff : off = ![0, o, 0]) (inb : ∀ a, off a + (⟨3, ![1, w, 256]⟩ : Shape).size a ≤ S1x8192x256.size a) (κ : Fin w) (d : Fin 256) :
    View.readAt (Elt Ideal) v.view (Rect.unit (s := S1x8192x256) off (⟨3, ![1, w, 256]⟩ : Shape).size inb).toLoadRect (hv.unread x1) (ix3 0 κ d)
      = kv x1 (o + κ) d := by
  subst hoff
  have ho : o + w ≤ 8192 := inb 1
  rw [View.readAt_eq_ld, Memref.IsWhole.read_unread]
  pointwise
  have := κ.isLt
  unfold kv
  congr 2
  apply Fin.ext
  show o + κ.val = (o + κ.val) % 8192
  omega

/-! ## The rows of the scratch buffers -/

abbrev row0 (r : Fin 1024) : Fin 2048 := ⟨r.val, by have := r.isLt; omega⟩
abbrev row1 (r : Fin 1024) : Fin 2048 := ⟨1024 + r.val, by have := r.isLt; omega⟩

section Rows
variable {v : View sig .tc .vmem S2048x128 .f32} (f : v.ty.Contents (Elt Ideal))

theorem ld0 (inb) (r : Fin 1024) (j : Fin 128) :
    View.readAt (Elt Ideal) v (Rect.unit (s := S2048x128) ![0, 0] S1024x128.size inb).toLoadRect f (ix2 r j) = v.read (Elt Ideal) f (ix2 (row0 r) j) := by
  rw [View.readAt_eq_ld]
  pointwise

theorem ld1 (inb) (r : Fin 1024) (j : Fin 128) :
    View.readAt (Elt Ideal) v (Rect.unit (s := S2048x128) ![1024, 0] S1024x128.size inb).toLoadRect f (ix2 r j) = v.read (Elt Ideal) f (ix2 (row1 r) j) := by
  rw [View.readAt_eq_ld]
  pointwise

theorem ldw (inb) (R : Fin 2048) (j : Fin 128) :
    View.readAt (Elt Ideal) v (Rect.unit (s := S2048x128) ![0, 0] S2048x128.size inb).toLoadRect f (ix2 R j) = v.read (Elt Ideal) f (ix2 R j) := by
  rw [View.readAt_eq_ld]
  pointwise

theorem put0 (inb) (w : S1024x128.Idx → EReal) (L : List (View.Piece (Elt Ideal) S2048x128 .f32)) (r : Fin 1024) (j : Fin 128) :
    v.read (Elt Ideal) (v.writes (Elt Ideal) f (⟨Rect.unit ![0, 0] S1024x128.size inb, w⟩ :: L)) (ix2 (row0 r) j) = w (ix2 r j) :=
  View.read_writes_cons_rows_of_mem v f inb w L _ (ix2 r j) rfl (Nat.zero_add _).symm rfl

theorem put1 (inb) (w : S1024x128.Idx → EReal) (L : List (View.Piece (Elt Ideal) S2048x128 .f32)) (r : Fin 1024) (j : Fin 128) :
    v.read (Elt Ideal) (v.writes (Elt Ideal) f (⟨Rect.unit ![1024, 0] S1024x128.size inb, w⟩ :: L)) (ix2 (row1 r) j) = w (ix2 r j) :=
  View.read_writes_cons_rows_of_mem v f inb w L _ (ix2 r j) rfl rfl rfl

theorem keep0 (inb) (w : S1024x128.Idx → EReal) (L : List (View.Piece (Elt Ideal) S2048x128 .f32)) (r : Fin 1024) (j : Fin 128) :
    v.read (Elt Ideal) (v.writes (Elt Ideal) f (⟨Rect.unit ![1024, 0] S1024x128.size inb, w⟩ :: L)) (ix2 (row0 r) j) = v.read (Elt Ideal) (v.writes (Elt Ideal) f L) (ix2 (row0 r) j) :=
  View.read_writes_cons_rows_of_not_mem v f inb w L _ rfl (W := 1024) rfl (Or.inl r.isLt)

theorem keep1 (inb) (w : S1024x128.Idx → EReal) (L : List (View.Piece (Elt Ideal) S2048x128 .f32)) (r : Fin 1024) (j : Fin 128) :
    v.read (Elt Ideal) (v.writes (Elt Ideal) f (⟨Rect.unit ![0, 0] S1024x128.size inb, w⟩ :: L)) (ix2 (row1 r) j) = v.read (Elt Ideal) (v.writes (Elt Ideal) f L) (ix2 (row1 r) j) :=
  View.read_writes_cons_rows_of_not_mem v f inb w L _ rfl (W := 1024) rfl (Or.inr (by show 0 + 1024 ≤ 1024 + r.val; omega))

theorem put_all (inb) (w : S2048x128.Idx → EReal) (L : List (View.Piece (Elt Ideal) S2048x128 .f32)) (R : Fin 2048) (j : Fin 128) :
    v.read (Elt Ideal) (v.writes (Elt Ideal) f (⟨Rect.unit ![0, 0] S2048x128.size inb, w⟩ :: L)) (ix2 R j) = w (ix2 R j) :=
  View.read_writes_cons_rows_of_mem v f inb w L _ (ix2 R j) rfl (Nat.zero_add _).symm rfl

end Rows

/-- Half of the rows (`row`) hold the online softmax over the first `n` keys. -/
def Good (t : ℕ → ℕ → EReal) (u : ℕ → ℕ → EReal) (row : Fin 1024 → Fin 2048) (n : ℕ) (m l a : S2048x128.Idx → EReal) : Prop :=
  ∀ (r : Fin 1024) (j : Fin 128), St (t (row r)) (u j) n (m (ix2 (row r) j)) (l (ix2 (row r) j)) (a (ix2 (row r) j))

/-- A block of 1024 keys on half of the rows: if the block's scores and values are the rows' next 1024, and the maximum and
the two sums loaded are the half's, then what is stored makes the half hold 1024 keys more. -/
theorem half1024 {t : ℕ → ℕ → EReal} {u : ℕ → ℕ → EReal} {row : Fin 1024 → Fin 2048} {n : ℕ} {m l a m' l' a' : S2048x128.Idx → EReal}
    (s : FVec Ideal S1024x1024 .f32) (V : FVec Ideal S1024x128 .bf16) (mm ll aa : FVec Ideal S1024x128 .f32)
    (h : Good t u row n m l a)
    (hs : ∀ (r : Fin 1024) (κ : Fin 1024), s (ix2 r κ) = t (row r) (n + κ))
    (hV : ∀ (κ : Fin 1024) (j : Fin 128), V (ix2 κ j) = u j (n + κ))
    (em : ∀ r j, mm (ix2 r j) = m (ix2 (row r) j)) (el : ∀ r j, ll (ix2 r j) = l (ix2 (row r) j)) (ea : ∀ r j, aa (ix2 r j) = a (ix2 (row r) j))
    (em' : ∀ r j, m' (ix2 (row r) j) = mU1024 s mm (ix2 r j)) (el' : ∀ r j, l' (ix2 (row r) j) = lU1024 s mm ll (ix2 r j))
    (ea' : ∀ r j, a' (ix2 (row r) j) = aU1024 s V mm aa (ix2 r j)) : Good t u row (n + 1024) m' l' a' := fun r j => by
  rw [em', el', ea']
  refine step1024 (fun r => t (row r)) (fun j => u j) n s V mm ll aa hs hV (fun r j => ?_) r j
  rw [em, el, ea]
  exact h r j

/-- A block of 512 keys on half of the rows: if the block's scores and values are the rows' next 512, and the maximum and
the two sums loaded are the half's, then what is stored makes the half hold 512 keys more. -/
theorem half512 {t : ℕ → ℕ → EReal} {u : ℕ → ℕ → EReal} {row : Fin 1024 → Fin 2048} {n : ℕ} {m l a m' l' a' : S2048x128.Idx → EReal}
    (s : FVec Ideal S1024x512 .f32) (V : FVec Ideal S512x128 .bf16) (mm ll aa : FVec Ideal S1024x128 .f32)
    (h : Good t u row n m l a)
    (hs : ∀ (r : Fin 1024) (κ : Fin 512), s (ix2 r κ) = t (row r) (n + κ))
    (hV : ∀ (κ : Fin 512) (j : Fin 128), V (ix2 κ j) = u j (n + κ))
    (em : ∀ r j, mm (ix2 r j) = m (ix2 (row r) j)) (el : ∀ r j, ll (ix2 r j) = l (ix2 (row r) j)) (ea : ∀ r j, aa (ix2 r j) = a (ix2 (row r) j))
    (em' : ∀ r j, m' (ix2 (row r) j) = mU512 s mm (ix2 r j)) (el' : ∀ r j, l' (ix2 (row r) j) = lU512 s mm ll (ix2 r j))
    (ea' : ∀ r j, a' (ix2 (row r) j) = aU512 s V mm aa (ix2 r j)) : Good t u row (n + 512) m' l' a' := fun r j => by
  rw [em', el', ea']
  refine step512 (fun r => t (row r)) (fun j => u j) n s V mm ll aa hs hV (fun r j => ?_) r j
  rw [em, el, ea]
  exact h r j

/-- What is not touched stays. -/
theorem Good.congr {t : ℕ → ℕ → EReal} {u : ℕ → ℕ → EReal} {row : Fin 1024 → Fin 2048} {n : ℕ} {m l a m' l' a' : S2048x128.Idx → EReal}
    (h : Good t u row n m l a) (em : ∀ r j, m' (ix2 (row r) j) = m (ix2 (row r) j)) (el : ∀ r j, l' (ix2 (row r) j) = l (ix2 (row r) j))
    (ea : ∀ r j, a' (ix2 (row r) j) = a (ix2 (row r) j)) : Good t u row n m' l' a' := fun r j => by
  rw [em, el, ea]; exact h r j

/-- The rows of the first half. -/
abbrev R0 : Rect S2048x128 := Rect.unit (s := S2048x128) ![0, 0] S1024x128.size inb_S2048x128_S1024x128_0_0
/-- The rows of the second half. -/
abbrev R1 : Rect S2048x128 := Rect.unit (s := S2048x128) ![1024, 0] S1024x128.size inb_S2048x128_S1024x128_1024_0

/-! ## One trip of the loop over whole blocks -/

section Trip
variable (c : Dev nD) (i : grid0.Coords) (arg2 : Memref sig .tc .vmem S1x8x256x256 .bf16) (harg2 : arg2.IsWhole) (arg3 : Memref sig .tc .vmem S1x8192x256 .bf16) (harg3 : arg3.IsWhole) (arg4 : Memref sig .tc .vmem S8x128x512 .bf16) (harg4 : arg4.IsWhole) (arg5 : Memref sig .tc .vmem S1x512 .f32) (harg5 : arg5.IsWhole) (arg6 : Memref sig .tc .vmem S1x256x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole)
variable (x0 : Vec Ideal S1x8x256x256 .bf16) (x1 : Vec Ideal S1x8192x256 .bf16)

abbrev Q32 : FVec Ideal S2048x256 .bf16 := k0_pay33 (View.readAt (Elt Ideal) arg2.view (Rect.unit ![0, 0, 0, 0] S1x8x256x256.size inb_S1x8x256x256_S1x8x256x256_0_0_0_0).toLoadRect (harg2.unread x0))
abbrev Q33 : FVec Ideal S1024x256 .bf16 := k0_pay34 (View.readAt (Elt Ideal) arg2.view (Rect.unit ![0, 0, 0, 0] S1x8x256x256.size inb_S1x8x256x256_S1x8x256x256_0_0_0_0).toLoadRect (harg2.unread x0))

theorem Q33_apply (r : Fin 1024) (d : Fin 256) : Q33 arg2 harg2 x0 (ix2 r d) = qv x0 (row0 r) d := by
  unfold Q33 k0_pay34
  pointwise
  exact q_read harg2 x0 _ (row0 r) d

theorem Q34_apply (r : Fin 1024) (d : Fin 256) : k0_pay35 (Q32 arg2 harg2 x0) (ix2 r d) = qv x0 (row1 r) d := by
  unfold k0_pay35
  pointwise
  exact q_read harg2 x0 _ (row1 r) d

theorem trip (v12 v29 : BitVec 32) (k : Fin (k0_t1_loop i).trips) (f7) (f8) (f9) (n : ℕ) (hn : n = 1024 * k.val)
    (h0 : Good (T i x0 x1) (U x1) row0 n (arg7.view.read (Elt Ideal) f7) (arg8.view.read (Elt Ideal) f8) (arg9.view.read (Elt Ideal) f9))
    (h1 : Good (T i x0 x1) (U x1) row1 n (arg7.view.read (Elt Ideal) f7) (arg8.view.read (Elt Ideal) f8) (arg9.view.read (Elt Ideal) f9)) :
    let L := tripL_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) k f7 f8 f9
    Good (T i x0 x1) (U x1) row0 (n + 1024) (arg7.view.read (Elt Ideal) (arg7.view.writes (Elt Ideal) f7 L.1)) (arg8.view.read (Elt Ideal) (arg8.view.writes (Elt Ideal) f8 L.2.1)) (arg9.view.read (Elt Ideal) (arg9.view.writes (Elt Ideal) f9 L.2.2)) ∧
    Good (T i x0 x1) (U x1) row1 (n + 1024) (arg7.view.read (Elt Ideal) (arg7.view.writes (Elt Ideal) f7 L.1)) (arg8.view.read (Elt Ideal) (arg8.view.writes (Elt Ideal) f8 L.2.1)) (arg9.view.read (Elt Ideal) (arg9.view.writes (Elt Ideal) f9 L.2.2)) := by
  subst hn
  have hk : k.val < qi i / 4 := k.isLt.trans_eq (trips1 i)
  have hT : ∀ (R : ℕ) (κ : Fin 1024), T i x0 x1 R (1024 * k.val + κ) = sc x0 x1 R (1024 * k.val + κ) := fun R κ => by
    have := κ.isLt
    exact if_pos (by omega)
  let K : Vec Ideal S1x1024x256 .bf16 := View.readAt (Elt Ideal) arg3.view (Rect.unit (s := S1x8192x256) (k0_off1 i k) S1x1024x256.size (k0_off1_inb i k)).toLoadRect (harg3.unread x1)
  have hK : ∀ (κ : Fin 1024) (d : Fin 256), K (ix3 0 κ d) = kv x1 (1024 * k.val + κ) d := fun κ d => k_read 1024 harg3 x1 (off1 i k) (k0_off1_inb i k) κ d
  have hs0 : ∀ (r : Fin 1024) (κ : Fin 1024), k0_pay4 (Q33 arg2 harg2 x0) K (ix2 r κ) = T i x0 x1 (row0 r) (1024 * k.val + κ) := fun r κ => by
    rw [hT]
    unfold k0_pay4 k0_pay2
    pointwise
    simp only [Q33_apply, hK]
    rfl
  have hs1 : ∀ (r : Fin 1024) (κ : Fin 1024), k0_pay36 (Q32 arg2 harg2 x0) (k0_pay2 K) (ix2 r κ) = T i x0 x1 (row1 r) (1024 * k.val + κ) := fun r κ => by
    rw [hT]
    unfold k0_pay36 k0_pay2
    pointwise
    simp only [Q34_apply, hK]
    rfl
  have hV : ∀ (κ : Fin 1024) (j : Fin 128), k0_pay3 K (ix2 κ j) = U x1 j (1024 * k.val + κ) := fun κ j => by
    unfold k0_pay3 k0_pay2
    pointwise
    rw [hK]
    unfold U
    congr 1
    apply Fin.ext
    have := j.isLt
    show j.val = j.val % 256
    omega
  intro L
  have hL : L = ([⟨R1, k0_pay42 (Q32 arg2 harg2 x0) (k0_pay2 K) (View.readAt (Elt Ideal) arg7.view R1.toLoadRect f7)⟩,
      ⟨R0, k0_pay10 (Q33 arg2 harg2 x0) K (View.readAt (Elt Ideal) arg7.view R0.toLoadRect f7)⟩],
    [⟨R1, k0_pay40 (Q32 arg2 harg2 x0) (k0_pay2 K) (View.readAt (Elt Ideal) arg7.view R1.toLoadRect f7) (View.readAt (Elt Ideal) arg8.view R1.toLoadRect f8)⟩,
      ⟨R0, k0_pay8 (Q33 arg2 harg2 x0) K (View.readAt (Elt Ideal) arg7.view R0.toLoadRect f7) (View.readAt (Elt Ideal) arg8.view R0.toLoadRect f8)⟩],
    [⟨R1, k0_pay41 (Q32 arg2 harg2 x0) (k0_pay2 K) (k0_pay3 K) (View.readAt (Elt Ideal) arg7.view R1.toLoadRect f7) (View.readAt (Elt Ideal) arg9.view R1.toLoadRect f9)⟩,
      ⟨R0, k0_pay9 (Q33 arg2 harg2 x0) K (View.readAt (Elt Ideal) arg7.view R0.toLoadRect f7) (View.readAt (Elt Ideal) arg9.view R0.toLoadRect f9)⟩]) := by
    show tripL_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) k f7 f8 f9 = _
    unfold tripL_k0_t1 trip_k0_t1
    rfl
  rw [hL]
  constructor
  · refine half1024 _ (k0_pay3 K) (View.readAt (Elt Ideal) arg7.view R0.toLoadRect f7) (View.readAt (Elt Ideal) arg8.view R0.toLoadRect f8) (View.readAt (Elt Ideal) arg9.view R0.toLoadRect f9) h0 hs0 hV (fun r j => ld0 f7 _ r j) (fun r j => ld0 f8 _ r j) (fun r j => ld0 f9 _ r j) ?_ ?_ ?_
    · exact fun r j => ((keep0 f7 _ _ _ r j).trans (put0 f7 _ _ _ r j)).trans (congrFun (pay10_eq ..) _)
    · exact fun r j => ((keep0 f8 _ _ _ r j).trans (put0 f8 _ _ _ r j)).trans (congrFun (pay8_eq ..) _)
    · exact fun r j => ((keep0 f9 _ _ _ r j).trans (put0 f9 _ _ _ r j)).trans (congrFun (pay9_eq ..) _)
  · refine half1024 _ (k0_pay3 K) (View.readAt (Elt Ideal) arg7.view R1.toLoadRect f7) (View.readAt (Elt Ideal) arg8.view R1.toLoadRect f8) (View.readAt (Elt Ideal) arg9.view R1.toLoadRect f9) h1 hs1 hV (fun r j => ld1 f7 _ r j) (fun r j => ld1 f8 _ r j) (fun r j => ld1 f9 _ r j) ?_ ?_ ?_
    · exact fun r j => (put1 f7 _ _ _ r j).trans (congrFun (pay42_eq ..) _)
    · exact fun r j => (put1 f8 _ _ _ r j).trans (congrFun (pay40_eq ..) _)
    · exact fun r j => (put1 f9 _ _ _ r j).trans (congrFun (pay41_eq ..) _)

end Trip

end Cert.KernelIdeal.State

end
-- ==== Proof.Loop.lean ====
/- The loop over the whole blocks of 1024 keys, and a block of 512 keys on both halves of the rows. -/
module

public import proofs.«01_k».proof.Proof.State

@[expose] public section

set_option maxRecDepth 16384

noncomputable section

namespace Cert.KernelIdeal.State

open Cert.KernelIdeal Cert.KernelIdeal.Gen Cert.KernelIdeal.Chunk Cert.KernelIdeal.Pays Cert.KernelIdeal.Words Cert.Online
open Idealize.ShloMosaic Idealize.ShloMosaic.TcCoe Idealize.ShloMosaic.Tactic Idealize.SL.Sem
open Finset

/-- Both halves of the rows hold the online softmax over the first `n` keys. -/
def Both (t : ℕ → ℕ → EReal) (u : ℕ → ℕ → EReal) (n : ℕ) (m l a : S2048x128.Idx → EReal) : Prop :=
  Good t u row0 n m l a ∧ Good t u row1 n m l a

/-- What the rows hold, read at any row. -/
theorem Both.row {t u : ℕ → ℕ → EReal} {n : ℕ} {m l a : S2048x128.Idx → EReal} (h : Both t u n m l a) (R : Fin 2048) (j : Fin 128) :
    St (t R) (u j) n (m (ix2 R j)) (l (ix2 R j)) (a (ix2 R j)) := by
  have hR := R.isLt
  by_cases hr : R.val < 1024
  · exact h.1 ⟨R.val, hr⟩ j
  · have e : R = row1 ⟨R.val - 1024, by omega⟩ := Fin.ext (by show R.val = 1024 + (R.val - 1024); omega)
    rw [e]
    exact h.2 ⟨R.val - 1024, by omega⟩ j

/-- Before any key. -/
theorem fills (t u : ℕ → ℕ → EReal) (v7 v8 v9 : View sig .tc .vmem S2048x128 .f32) (f7 : v7.ty.Contents (Elt Ideal)) (f8 : v8.ty.Contents (Elt Ideal)) (f9 : v9.ty.Contents (Elt Ideal)) (inb) :
    Both t u 0 (v7.read (Elt Ideal) (v7.writes (Elt Ideal) f7 [⟨Rect.unit ![0, 0] S2048x128.size inb, k0_pay30 (F := Ideal)⟩]))
      (v8.read (Elt Ideal) (v8.writes (Elt Ideal) f8 [⟨Rect.unit ![0, 0] S2048x128.size inb, k0_pay31 (F := Ideal)⟩]))
      (v9.read (Elt Ideal) (v9.writes (Elt Ideal) f9 [⟨Rect.unit ![0, 0] S2048x128.size inb, k0_pay32 (F := Ideal)⟩])) := by
  have h30 : ∀ (R : Fin 2048) (j : Fin 128), k0_pay30 (F := Ideal) (ix2 R j) = ⊥ := fun R j => by
    unfold k0_pay30
    pointwise
    exact ofBits_bot
  have h31 : ∀ (R : Fin 2048) (j : Fin 128), k0_pay31 (F := Ideal) (ix2 R j) = 0 := fun R j => by
    unfold k0_pay31
    pointwise
  have h32 : ∀ (R : Fin 2048) (j : Fin 128), k0_pay32 (F := Ideal) (ix2 R j) = 0 := fun R j => by
    unfold k0_pay32
    pointwise
  constructor
  · intro r j
    rw [put_all, put_all, put_all, h30, h31, h32]
    exact St.zero _ _
  · intro r j
    rw [put_all, put_all, put_all, h30, h31, h32]
    exact St.zero _ _

/-- A block of 512 keys on both halves: the first half's rows are written first, and the second half's loads see them. -/
theorem both512 {t u : ℕ → ℕ → EReal} {n : ℕ} {v7 v8 v9 : View sig .tc .vmem S2048x128 .f32} {f7 : v7.ty.Contents (Elt Ideal)} {f8 : v8.ty.Contents (Elt Ideal)} {f9 : v9.ty.Contents (Elt Ideal)}
    {L7 L8 L9 : List (View.Piece (Elt Ideal) S2048x128 .f32)}
    (h : Both t u n (v7.read (Elt Ideal) (v7.writes (Elt Ideal) f7 L7)) (v8.read (Elt Ideal) (v8.writes (Elt Ideal) f8 L8)) (v9.read (Elt Ideal) (v9.writes (Elt Ideal) f9 L9)))
    (s0 s1 : FVec Ideal S1024x512 .f32) (V : FVec Ideal S512x128 .bf16)
    (hs0 : ∀ (r : Fin 1024) (κ : Fin 512), s0 (ix2 r κ) = t (row0 r) (n + κ))
    (hs1 : ∀ (r : Fin 1024) (κ : Fin 512), s1 (ix2 r κ) = t (row1 r) (n + κ))
    (hV : ∀ (κ : Fin 512) (j : Fin 128), V (ix2 κ j) = u j (n + κ))
    {w7 w8 w9 w7' w8' w9' : S1024x128.Idx → EReal}
    (e7 : w7 = mU512 s0 (View.readAt (Elt Ideal) v7 R0.toLoadRect (v7.writes (Elt Ideal) f7 L7)))
    (e8 : w8 = lU512 s0 (View.readAt (Elt Ideal) v7 R0.toLoadRect (v7.writes (Elt Ideal) f7 L7)) (View.readAt (Elt Ideal) v8 R0.toLoadRect (v8.writes (Elt Ideal) f8 L8)))
    (e9 : w9 = aU512 s0 V (View.readAt (Elt Ideal) v7 R0.toLoadRect (v7.writes (Elt Ideal) f7 L7)) (View.readAt (Elt Ideal) v9 R0.toLoadRect (v9.writes (Elt Ideal) f9 L9)))
    (e7' : w7' = mU512 s1 (View.readAt (Elt Ideal) v7 R1.toLoadRect (v7.writes (Elt Ideal) f7 (⟨R0, w7⟩ :: L7))))
    (e8' : w8' = lU512 s1 (View.readAt (Elt Ideal) v7 R1.toLoadRect (v7.writes (Elt Ideal) f7 (⟨R0, w7⟩ :: L7))) (View.readAt (Elt Ideal) v8 R1.toLoadRect (v8.writes (Elt Ideal) f8 (⟨R0, w8⟩ :: L8))))
    (e9' : w9' = aU512 s1 V (View.readAt (Elt Ideal) v7 R1.toLoadRect (v7.writes (Elt Ideal) f7 (⟨R0, w7⟩ :: L7))) (View.readAt (Elt Ideal) v9 R1.toLoadRect (v9.writes (Elt Ideal) f9 (⟨R0, w9⟩ :: L9)))) :
    Both t u (n + 512) (v7.read (Elt Ideal) (v7.writes (Elt Ideal) f7 (⟨R1, w7'⟩ :: ⟨R0, w7⟩ :: L7))) (v8.read (Elt Ideal) (v8.writes (Elt Ideal) f8 (⟨R1, w8'⟩ :: ⟨R0, w8⟩ :: L8))) (v9.read (Elt Ideal) (v9.writes (Elt Ideal) f9 (⟨R1, w9'⟩ :: ⟨R0, w9⟩ :: L9))) := by
  constructor
  · refine half512 s0 V (View.readAt (Elt Ideal) v7 R0.toLoadRect (v7.writes (Elt Ideal) f7 L7)) (View.readAt (Elt Ideal) v8 R0.toLoadRect (v8.writes (Elt Ideal) f8 L8)) (View.readAt (Elt Ideal) v9 R0.toLoadRect (v9.writes (Elt Ideal) f9 L9)) h.1 hs0 hV (fun r j => ld0 _ _ r j) (fun r j => ld0 _ _ r j) (fun r j => ld0 _ _ r j) ?_ ?_ ?_
    · exact fun r j => ((keep0 f7 _ _ _ r j).trans (put0 f7 _ _ _ r j)).trans (congrFun e7 _)
    · exact fun r j => ((keep0 f8 _ _ _ r j).trans (put0 f8 _ _ _ r j)).trans (congrFun e8 _)
    · exact fun r j => ((keep0 f9 _ _ _ r j).trans (put0 f9 _ _ _ r j)).trans (congrFun e9 _)
  · refine half512 s1 V (View.readAt (Elt Ideal) v7 R1.toLoadRect (v7.writes (Elt Ideal) f7 (⟨R0, w7⟩ :: L7))) (View.readAt (Elt Ideal) v8 R1.toLoadRect (v8.writes (Elt Ideal) f8 (⟨R0, w8⟩ :: L8))) (View.readAt (Elt Ideal) v9 R1.toLoadRect (v9.writes (Elt Ideal) f9 (⟨R0, w9⟩ :: L9))) h.2 hs1 hV
      (fun r j => (ld1 _ _ r j).trans (keep1 f7 _ _ _ r j)) (fun r j => (ld1 _ _ r j).trans (keep1 f8 _ _ _ r j)) (fun r j => (ld1 _ _ r j).trans (keep1 f9 _ _ _ r j)) ?_ ?_ ?_
    · exact fun r j => (put1 f7 _ _ _ r j).trans (congrFun e7' _)
    · exact fun r j => (put1 f8 _ _ _ r j).trans (congrFun e8' _)
    · exact fun r j => (put1 f9 _ _ _ r j).trans (congrFun e9' _)

section Loop
variable (c : Dev nD) (i : grid0.Coords) (arg2 : Memref sig .tc .vmem S1x8x256x256 .bf16) (harg2 : arg2.IsWhole) (arg3 : Memref sig .tc .vmem S1x8192x256 .bf16) (harg3 : arg3.IsWhole) (arg4 : Memref sig .tc .vmem S8x128x512 .bf16) (harg4 : arg4.IsWhole) (arg5 : Memref sig .tc .vmem S1x512 .f32) (harg5 : arg5.IsWhole) (arg6 : Memref sig .tc .vmem S1x256x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole)
variable (x0 : Vec Ideal S1x8x256x256 .bf16) (x1 : Vec Ideal S1x8192x256 .bf16)

/-- The pieces of the first `k` whole blocks leave the online softmax over `1024 k` keys. -/
theorem loop (v12 v29 : BitVec 32) (f7) (f8) (f9)
    (h : Both (T i x0 x1) (U x1) 0 (arg7.view.read (Elt Ideal) f7) (arg8.view.read (Elt Ideal) f8) (arg9.view.read (Elt Ideal) f9)) :
    ∀ k : ℕ, k ≤ (k0_t1_loop i).trips →
      Both (T i x0 x1) (U x1) (1024 * k)
        (arg7.view.read (Elt Ideal) (arg7.view.writes (Elt Ideal) f7 (pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) f7 f8 f9 k).1))
        (arg8.view.read (Elt Ideal) (arg8.view.writes (Elt Ideal) f8 (pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) f7 f8 f9 k).2.1))
        (arg9.view.read (Elt Ideal) (arg9.view.writes (Elt Ideal) f9 (pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) f7 f8 f9 k).2.2)) := by
  intro k
  induction k with
  | zero => exact fun _ => h
  | succ k ih =>
    intro hk
    have ih := ih (by omega)
    have e := pb_k0_t1_succ (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) f7 f8 f9 ⟨k, hk⟩
    rw [e]
    dsimp only
    rw [View.writes_append, View.writes_append, View.writes_append]
    exact trip c i arg2 harg2 arg3 harg3 arg4 harg4 arg5 harg5 arg6 harg6 arg7 harg7 arg8 harg8 arg9 harg9 x0 x1 v12 v29 ⟨k, hk⟩ _ _ _ _ rfl ih.1 ih.2

/-- The two loops as the kernel runs them, the second without a trip: all whole blocks before the tile's last keys. -/
theorem loops (v12 v29 v39 : BitVec 32) (X2) (f7) (f8) (f9) (H7) (H8) (H9)
    (h : Both (T i x0 x1) (U x1) 0 (arg7.view.read (Elt Ideal) (arg7.view.writes (Elt Ideal) f7 H7)) (arg8.view.read (Elt Ideal) (arg8.view.writes (Elt Ideal) f8 H8)) (arg9.view.read (Elt Ideal) (arg9.view.writes (Elt Ideal) f9 H9)))
    (g7) (g8) (g9) (n2 : ℕ) (hn2 : n2 = 0) :
    Both (T i x0 x1) (U x1) (1024 * (qi i / 4))
      (arg7.view.read (Elt Ideal) (arg7.view.writes (Elt Ideal) f7 ((pb_k0_t2 (F := Ideal) Variants.none c none i arg2 harg2 arg3 harg3 arg4 harg4 arg5 harg5 arg6 harg6 arg7 harg7 arg8 harg8 arg9 harg9 v12 v29 (Q32 arg2 harg2 x0) (Q33 arg2 harg2 x0) v39 X2 g7 g8 g9 n2).1 ++ ((pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) (arg7.view.writes (Elt Ideal) f7 H7) (arg8.view.writes (Elt Ideal) f8 H8) (arg9.view.writes (Elt Ideal) f9 H9) (Scf.trips (k0_t1_loop i).lb (k0_t1_loop i).ub (k0_t1_loop i).st)).1 ++ H7))))
      (arg8.view.read (Elt Ideal) (arg8.view.writes (Elt Ideal) f8 ((pb_k0_t2 (F := Ideal) Variants.none c none i arg2 harg2 arg3 harg3 arg4 harg4 arg5 harg5 arg6 harg6 arg7 harg7 arg8 harg8 arg9 harg9 v12 v29 (Q32 arg2 harg2 x0) (Q33 arg2 harg2 x0) v39 X2 g7 g8 g9 n2).2.1 ++ ((pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) (arg7.view.writes (Elt Ideal) f7 H7) (arg8.view.writes (Elt Ideal) f8 H8) (arg9.view.writes (Elt Ideal) f9 H9) (Scf.trips (k0_t1_loop i).lb (k0_t1_loop i).ub (k0_t1_loop i).st)).2.1 ++ H8))))
      (arg9.view.read (Elt Ideal) (arg9.view.writes (Elt Ideal) f9 ((pb_k0_t2 (F := Ideal) Variants.none c none i arg2 harg2 arg3 harg3 arg4 harg4 arg5 harg5 arg6 harg6 arg7 harg7 arg8 harg8 arg9 harg9 v12 v29 (Q32 arg2 harg2 x0) (Q33 arg2 harg2 x0) v39 X2 g7 g8 g9 n2).2.2 ++ ((pb_k0_t1 (F := Ideal) Variants.none c none i arg2 harg2 arg3 harg3 arg4 harg4 arg5 harg5 arg6 harg6 arg7 harg7 arg8 harg8 arg9 harg9 v12 v29 (Q32 arg2 harg2 x0) (Q33 arg2 harg2 x0) (harg3.unread x1) (arg7.view.writes (Elt Ideal) f7 H7) (arg8.view.writes (Elt Ideal) f8 H8) (arg9.view.writes (Elt Ideal) f9 H9) (Scf.trips (k0_t1_loop i).lb (k0_t1_loop i).ub (k0_t1_loop i).st)).2.2 ++ H9)))) := by
  subst hn2
  rw [pb_k0_t2.eq_1]
  dsimp only
  rw [List.nil_append, List.nil_append, List.nil_append, View.writes_append, View.writes_append, View.writes_append]
  have e : Scf.trips (k0_t1_loop i).lb (k0_t1_loop i).ub (k0_t1_loop i).st = qi i / 4 := trips1 i
  rw [e]
  exact loop c i arg2 harg2 arg3 harg3 arg4 harg4 arg5 harg5 arg6 harg6 arg7 harg7 arg8 harg8 arg9 harg9 x0 x1 v12 v29 _ _ _ h (qi i / 4) (trips1 i).ge

/-! ## The scores and values of the 512 keys at an offset -/

abbrev K512 (off : Fin 3 → ℕ) (inb : ∀ a, off a + S1x512x256.size a ≤ S1x8192x256.size a) : Vec Ideal S1x512x256 .bf16 :=
  View.readAt (Elt Ideal) arg3.view (Rect.unit (s := S1x8192x256) off S1x512x256.size inb).toLoadRect (harg3.unread x1)

theorem masked (i : grid0.Coords) (r : Fin 1024) (R : Fin 2048) (hR : R.val % 256 = r.val % 256) (κ : Fin 512) :
    T i x0 x1 R (base i + κ) = if base i + κ.val ≤ 256 * qi i + r.val % 256 then sc x0 x1 R (base i + κ) else ⊥ := by
  unfold T
  rw [hR]

variable {off : Fin 3 → ℕ} {o : ℕ} (hoff : off = ![0, o, 0]) (inb : ∀ a, off a + S1x512x256.size a ≤ S1x8192x256.size a)
include hoff

theorem s22 (r : Fin 1024) (κ : Fin 512) : k0_pay22 (Q33 arg2 harg2 x0) (K512 arg3 harg3 x1 off inb) (ix2 r κ) = sc x0 x1 (row0 r) (o + κ) := by
  unfold k0_pay22 k0_pay20
  pointwise
  simp only [Q33_apply, k_read 512 harg3 x1 hoff inb]
  rfl

theorem s58 (r : Fin 1024) (κ : Fin 512) : k0_pay58 (Q33 arg2 harg2 x0) (K512 arg3 harg3 x1 off inb) (ix2 r κ) = sc x0 x1 (row0 r) (o + κ) := by
  unfold k0_pay58 k0_pay56
  pointwise
  simp only [Q33_apply, k_read 512 harg3 x1 hoff inb]
  rfl

theorem s29 (r : Fin 1024) (κ : Fin 512) : k0_pay29 (k0_pay35 (Q32 arg2 harg2 x0)) (K512 arg3 harg3 x1 off inb) (ix2 r κ) = sc x0 x1 (row1 r) (o + κ) := by
  unfold k0_pay29 k0_pay20
  pointwise
  simp only [Q34_apply, k_read 512 harg3 x1 hoff inb]
  rfl

theorem s70 (r : Fin 1024) (κ : Fin 512) : k0_pay70 (k0_pay35 (Q32 arg2 harg2 x0)) (k0_pay56 (K512 arg3 harg3 x1 off inb)) (ix2 r κ) = sc x0 x1 (row1 r) (o + κ) := by
  unfold k0_pay70 k0_pay56
  pointwise
  simp only [Q34_apply, k_read 512 harg3 x1 hoff inb]
  rfl

omit hoff in
theorem kv_low (κ : ℕ) (j : Fin 128) : kv x1 κ ⟨j.val, by have := j.isLt; omega⟩ = U x1 j κ := by
  unfold U
  congr 1
  apply Fin.ext
  have := j.isLt
  show j.val = j.val % 256
  omega

theorem V21 (κ : Fin 512) (j : Fin 128) : k0_pay21 (K512 arg3 harg3 x1 off inb) (ix2 κ j) = U x1 j (o + κ) := by
  unfold k0_pay21 k0_pay20
  pointwise
  exact (k_read 512 harg3 x1 hoff inb κ _).trans (kv_low x1 _ j)

theorem V57 (κ : Fin 512) (j : Fin 128) : k0_pay57 (K512 arg3 harg3 x1 off inb) (ix2 κ j) = U x1 j (o + κ) := by
  unfold k0_pay57 k0_pay56
  pointwise
  exact (k_read 512 harg3 x1 hoff inb κ _).trans (kv_low x1 _ j)

end Loop

end Cert.KernelIdeal.State

end
-- ==== Proof.Cases.lean ====
/- The two kinds of query tile: after the whole blocks, a tile either goes straight to its last 512 keys, which are masked
   (case A), or takes 512 unmasked keys first (case B). Either way the sums it divides are the online softmax over the
   first `base + 512` keys, past which every score is masked. -/
module

public import proofs.«01_k».proof.Proof.Loop

@[expose] public section

set_option maxRecDepth 16384

noncomputable section

namespace Cert.KernelIdeal.State

open Cert.KernelIdeal Cert.KernelIdeal.Gen Cert.KernelIdeal.Chunk Cert.KernelIdeal.Pays Cert.KernelIdeal.Words Cert.Online
open Idealize.ShloMosaic Idealize.ShloMosaic.TcCoe Idealize.ShloMosaic.Tactic Idealize.SL.Sem
open Finset

section Cases
variable (c : Dev nD) (i : grid0.Coords) (arg2 : Memref sig .tc .vmem S1x8x256x256 .bf16) (harg2 : arg2.IsWhole) (arg3 : Memref sig .tc .vmem S1x8192x256 .bf16) (harg3 : arg3.IsWhole) (arg4 : Memref sig .tc .vmem S8x128x512 .bf16) (harg4 : arg4.IsWhole) (arg5 : Memref sig .tc .vmem S1x512 .f32) (harg5 : arg5.IsWhole) (arg6 : Memref sig .tc .vmem S1x256x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole)
variable (x0 : Vec Ideal S1x8x256x256 .bf16) (x1 : Vec Ideal S1x8192x256 .bf16)

/-- The masked scores of the last 512 keys, first half of the rows. -/
theorem masked0 (r : Fin 1024) (κ : Fin 512) :
    k0_pay63 (BitVec.ofNat 32 (256 * qi i)) (k0_pay58 (Q33 arg2 harg2 x0) (K512 arg3 harg3 x1 (k0_off4 i) (k0_off4_inb i))) (k0_pay59 (BitVec.ofNat 32 (256 * qi i)) (BitVec.ofNat 32 (qi i / 4))) k0_pay60 k0_pay61 k0_pay62 (ix2 r κ)
      = T i x0 x1 (row0 r) (base i + κ) := by
  rw [mask0, masked x0 x1 i r (row0 r) rfl κ, s58 arg2 harg2 arg3 harg3 x0 x1 (off4 i)]

/-- The masked scores of the last 512 keys, second half of the rows. -/
theorem masked1 (r : Fin 1024) (κ : Fin 512) :
    k0_pay71 (BitVec.ofNat 32 (256 * qi i)) (BitVec.ofNat 32 (base i)) (k0_pay70 (k0_pay35 (Q32 arg2 harg2 x0)) (k0_pay56 (K512 arg3 harg3 x1 (k0_off4 i) (k0_off4_inb i))))
      (iota .tc S1024x512 32 [0] iota_S1024x512_d0_w32) (iota .tc S1024x512 32 [1] iota_S1024x512_d1_w32) (ix2 r κ)
      = T i x0 x1 (row1 r) (base i + κ) := by
  rw [mask1, masked x0 x1 i r (row1 r) (by show (1024 + r.val) % 256 = r.val % 256; omega) κ, s70 arg2 harg2 arg3 harg3 x0 x1 (off4 i)]

/-- The two sums a tile of case A divides. -/
theorem caseA (hc0 : ¬ cond0_0 i) (R : Fin 2048) (j : Fin 128) :
    kernelRun0_A.sl.v166 c i arg2 harg2 arg3 harg3 arg4 harg4 arg5 harg5 arg6 harg6 arg7 harg7 arg8 harg8 arg9 harg9 x0 x1 (ix2 R j) = ls (T i x0 x1 R) (base i + 512) ∧
    kernelRun0_A.sl.v165 c i arg2 harg2 arg3 harg3 arg4 harg4 arg5 harg5 arg6 harg6 arg7 harg7 arg8 harg8 arg9 harg9 x0 x1 (ix2 R j) = ac (T i x0 x1 R) (U x1 j) (base i + 512) := by
  have hb : base i = 1024 * (qi i / 4) := by
    have h := (cond_iff i).not.mp hc0
    have := qi_lt i
    unfold base
    omega
  have h : Both (T i x0 x1) (U x1) (1024 * (qi i / 4) + 512)
      (arg7.view.read (Elt Ideal) (arg7.view.writes (Elt Ideal) arg7.view.junk (⟨R1, k0_pay77 (kernelRun0_A.sl.r_8 c i arg2 harg2 arg3 harg3 arg4 harg4 arg5 harg5 arg6 harg6 arg7 harg7 arg8 harg8 arg9 harg9 x0 x1)⟩ :: kernelRun0_A.sl.HS0_1_1 c i arg2 harg2 arg3 harg3 arg4 harg4 arg5 harg5 arg6 harg6 arg7 harg7 arg8 harg8 arg9 harg9 x0 x1)))
      (arg8.view.read (Elt Ideal) (arg8.view.writes (Elt Ideal) arg8.view.junk (kernelRun0_A.sl.HS1_2 c i arg2 harg2 arg3 harg3 arg4 harg4 arg5 harg5 arg6 harg6 arg7 harg7 arg8 harg8 arg9 harg9 x0 x1)))
      (arg9.view.read (Elt Ideal) (arg9.view.writes (Elt Ideal) arg9.view.junk (kernelRun0_A.sl.HS2_2 c i arg2 harg2 arg3 harg3 arg4 harg4 arg5 harg5 arg6 harg6 arg7 harg7 arg8 harg8 arg9 harg9 x0 x1))) := by
   refine both512 (loops c i arg2 harg2 arg3 harg3 arg4 harg4 arg5 harg5 arg6 harg6 arg7 harg7 arg8 harg8 arg9 harg9 x0 x1 (kernelRun0_A.sl.v12 i) (kernelRun0_A.sl.v29 i) (kernelRun0_A.sl.v39 i) (harg3.unread x1) arg7.view.junk arg8.view.junk arg9.view.junk
      kernelRun0_A.sl.HS0_1 kernelRun0_A.sl.HS1_1 kernelRun0_A.sl.HS2_1 (fills _ _ _ _ _ _ _ _ _) _ _ _ (Scf.trips (k0_t2_loop i).lb (k0_t2_loop i).ub (k0_t2_loop i).st) (trips2 i))
    (k0_pay63 (kernelRun0_A.sl.v12 i) (kernelRun0_A.sl.r_5 c i arg2 harg2 arg3 harg3 x0 x1) (kernelRun0_A.sl.r_6 i) k0_pay60 k0_pay61 k0_pay62)
    (k0_pay71 (kernelRun0_A.sl.v12 i) (kernelRun0_A.sl.v47 i) (kernelRun0_A.sl.r_7 c i arg2 harg2 arg3 harg3 x0 x1) kernelRun0_A.sl.v110 kernelRun0_A.sl.v111)
    (kernelRun0_A.sl.r_4 i arg3 harg3 x1)
    (fun r κ => ?_) (fun r κ => ?_) (fun κ j => ?_)
    (pay69_eq ..) (pay67_eq ..) (pay68_eq ..) (pay77_eq ..) (pay75_eq ..) (pay76_eq ..)
   · rw [← hb]
     unfold kernelRun0_A.sl.r_6
     rw [v12A, v29A]
     exact masked0 i arg2 harg2 arg3 harg3 x0 x1 r κ
   · rw [← hb, v12A, v47A]
     exact masked1 i arg2 harg2 arg3 harg3 x0 x1 r κ
   · rw [← hb]
     exact V57 arg3 harg3 x1 (off4 i) _ κ j
  rw [← hb] at h
  have h' := h.row R j
  exact ⟨(ldw _ _ R j).trans h'.2.1, (ldw _ _ R j).trans h'.2.2⟩

/-- The two sums a tile of case B divides. -/
theorem caseB (hc0 : cond0_0 i) (R : Fin 2048) (j : Fin 128) :
    kernelRun0_B.sl.v166 c i arg2 harg2 arg3 harg3 arg4 harg4 arg5 harg5 arg6 harg6 arg7 harg7 arg8 harg8 arg9 harg9 hc0 x0 x1 (ix2 R j) = ls (T i x0 x1 R) (base i + 512) ∧
    kernelRun0_B.sl.v165 c i arg2 harg2 arg3 harg3 arg4 harg4 arg5 harg5 arg6 harg6 arg7 harg7 arg8 harg8 arg9 harg9 hc0 x0 x1 (ix2 R j) = ac (T i x0 x1 R) (U x1 j) (base i + 512) := by
  have hq := (cond_iff i).mp hc0
  have hlt := qi_lt i
  have hb : base i = 1024 * (qi i / 4) + 512 := by
    unfold base
    omega
  have vis : ∀ (R : ℕ) (κ : Fin 512), T i x0 x1 R (1024 * (qi i / 4) + κ) = sc x0 x1 R (1024 * (qi i / 4) + κ) := fun R κ => by
    have := κ.isLt
    exact if_pos (by omega)
  have h1 : Both (T i x0 x1) (U x1) (1024 * (qi i / 4) + 512)
      (arg7.view.read (Elt Ideal) (arg7.view.writes (Elt Ideal) arg7.view.junk (kernelRun0_B.sl.HS0_2 c i arg2 harg2 arg3 harg3 arg4 harg4 arg5 harg5 arg6 harg6 arg7 harg7 arg8 harg8 arg9 harg9 hc0 x0 x1)))
      (arg8.view.read (Elt Ideal) (arg8.view.writes (Elt Ideal) arg8.view.junk (kernelRun0_B.sl.HS1_2 c i arg2 harg2 arg3 harg3 arg4 harg4 arg5 harg5 arg6 harg6 arg7 harg7 arg8 harg8 arg9 harg9 hc0 x0 x1)))
      (arg9.view.read (Elt Ideal) (arg9.view.writes (Elt Ideal) arg9.view.junk (kernelRun0_B.sl.HS2_2 c i arg2 harg2 arg3 harg3 arg4 harg4 arg5 harg5 arg6 harg6 arg7 harg7 arg8 harg8 arg9 harg9 hc0 x0 x1))) := by
   refine both512 (loops c i arg2 harg2 arg3 harg3 arg4 harg4 arg5 harg5 arg6 harg6 arg7 harg7 arg8 harg8 arg9 harg9 x0 x1 (kernelRun0_B.sl.v12 i) (kernelRun0_B.sl.v29 i) (kernelRun0_B.sl.v39 i) (harg3.unread x1) arg7.view.junk arg8.view.junk arg9.view.junk
      kernelRun0_B.sl.HS0_1 kernelRun0_B.sl.HS1_1 kernelRun0_B.sl.HS2_1 (fills _ _ _ _ _ _ _ _ _) _ _ _ (Scf.trips (k0_t2_loop i).lb (k0_t2_loop i).ub (k0_t2_loop i).st) (trips2 i))
    (k0_pay22 (Q33 arg2 harg2 x0) (K512 arg3 harg3 x1 (k0_off3 i) (k0_off3_inb i hc0)))
    (kernelRun0_B.sl.r_3 c i arg2 harg2 arg3 harg3 hc0 x0 x1)
    (kernelRun0_B.sl.r_2 i arg3 harg3 hc0 x1)
    (fun r κ => ?_) (fun r κ => ?_) (fun κ j => ?_)
    (pay28_eq ..) (pay26_eq ..) (pay27_eq ..) (pay55_eq ..) (pay53_eq ..) (pay54_eq ..)
   · rw [vis]
     exact s22 arg2 harg2 arg3 harg3 x0 x1 (off3 i) _ r κ
   · rw [vis]
     exact s29 arg2 harg2 arg3 harg3 x0 x1 (off3 i) _ r κ
   · exact V21 arg3 harg3 x1 (off3 i) _ κ j
  have h : Both (T i x0 x1) (U x1) (1024 * (qi i / 4) + 512 + 512)
      (arg7.view.read (Elt Ideal) (arg7.view.writes (Elt Ideal) arg7.view.junk (⟨R1, k0_pay77 (kernelRun0_B.sl.r_10 c i arg2 harg2 arg3 harg3 arg4 harg4 arg5 harg5 arg6 harg6 arg7 harg7 arg8 harg8 arg9 harg9 hc0 x0 x1)⟩ :: kernelRun0_B.sl.HS0_3 c i arg2 harg2 arg3 harg3 arg4 harg4 arg5 harg5 arg6 harg6 arg7 harg7 arg8 harg8 arg9 harg9 hc0 x0 x1)))
      (arg8.view.read (Elt Ideal) (arg8.view.writes (Elt Ideal) arg8.view.junk (kernelRun0_B.sl.HS1_4 c i arg2 harg2 arg3 harg3 arg4 harg4 arg5 harg5 arg6 harg6 arg7 harg7 arg8 harg8 arg9 harg9 hc0 x0 x1)))
      (arg9.view.read (Elt Ideal) (arg9.view.writes (Elt Ideal) arg9.view.junk (kernelRun0_B.sl.HS2_4 c i arg2 harg2 arg3 harg3 arg4 harg4 arg5 harg5 arg6 harg6 arg7 harg7 arg8 harg8 arg9 harg9 hc0 x0 x1))) := by
   refine both512 h1
    (k0_pay63 (kernelRun0_B.sl.v12 i) (kernelRun0_B.sl.r_7 c i arg2 harg2 arg3 harg3 x0 x1) (kernelRun0_B.sl.r_8 i) k0_pay60 k0_pay61 k0_pay62)
    (k0_pay71 (kernelRun0_B.sl.v12 i) (kernelRun0_B.sl.v47 i) (kernelRun0_B.sl.r_9 c i arg2 harg2 arg3 harg3 x0 x1) kernelRun0_B.sl.v110 kernelRun0_B.sl.v111)
    (kernelRun0_B.sl.r_6 i arg3 harg3 x1)
    (fun r κ => ?_) (fun r κ => ?_) (fun κ j => ?_)
    (pay69_eq ..) (pay67_eq ..) (pay68_eq ..) (pay77_eq ..) (pay75_eq ..) (pay76_eq ..)
   · rw [← hb]
     unfold kernelRun0_B.sl.r_8
     rw [v12B, v29B]
     exact masked0 i arg2 harg2 arg3 harg3 x0 x1 r κ
   · rw [← hb, v12B, v47B]
     exact masked1 i arg2 harg2 arg3 harg3 x0 x1 r κ
   · rw [← hb]
     exact V57 arg3 harg3 x1 (off4 i) _ κ j
  rw [← hb] at h
  have h' := h.row R j
  exact ⟨(ldw _ _ R j).trans h'.2.1, (ldw _ _ R j).trans h'.2.2⟩

end Cases

end Cert.KernelIdeal.State

end
-- ==== Proof.Finish.lean ====
/- What a query tile stores: the quotients of the two sums, projected by `w_uv` head by head, then normalised by the root
   mean square over the 512 columns and scaled by the gain. -/
module

public import proofs.«01_k».proof.Proof.Cases

@[expose] public section

set_option maxRecDepth 16384

noncomputable section

namespace Cert.KernelIdeal.Finish

open Cert.KernelIdeal Cert.KernelIdeal.Gen Cert.KernelIdeal.State Cert.KernelIdeal.Words Cert.Online
open Idealize.ShloMosaic Idealize.ShloMosaic.TcCoe Idealize.ShloMosaic.Tactic Idealize.SL.Sem
open Finset

/-- Row `r` of head `hd` among the tile's 2048 rows. -/
abbrev hrow (hd : Fin 8) (r : Fin 256) : Fin 2048 := ⟨256 * hd.val + r.val, by have := hd.isLt; have := r.isLt; omega⟩

/-- The heads' outputs projected and added. -/
def om (o : Fin 2048 → Fin 128 → EReal) (w : S8x128x512.Idx → EReal) (r : Fin 256) (col : Fin 512) : EReal :=
  ∑ hd : Fin 8, ∑ x : Fin 128, o (hrow hd r) x * w (ix3 hd x col)

/-- A row normalised by the root mean square of its 512 entries. -/
def rmsn (z : Fin 512 → EReal) (col : Fin 512) : EReal :=
  z col * Ideal.rsqrt (Ideal.div (∑ c : Fin 512, z c * z c) (Ideal.ofBits .f32 0x44000000#32) + Ideal.ofBits .f32 0x358637BD#32)

section Words
variable (a l : FVec Ideal S2048x128 .f32) (w0 w1 w2 w3 w4 w5 w6 w7 : Vec Ideal S1x128x512 .bf16) (g : Vec Ideal S1x512 .f32)

/-- One head's projection. -/
def headv (off : Fin 2 → ℕ) (h : S2048x128.Slices off S256x128) (w : Vec Ideal S1x128x512 .bf16) : FVec Ideal S256x512 .f32 :=
  matmul dot_S256x128_S128x512_S256x512_1_0_0_1_n_n none (extractStridedSlice S256x128 off (k0_pay78 a l) h) (shapeCast S128x512 w shapeCasts_S1x128x512_S128x512 : FVec Ideal S128x512 .bf16) (constant S256x512 .f32 0x00000000#32)

/-- All heads' projections, added in order. -/
def omv : FVec Ideal S256x512 .f32 :=
  addf (addf (addf (addf (addf (k0_pay79 a l w0 w1 w2) (k0_pay80 a l w3))
    (headv a l ![1024, 0] slices_S2048x128_o1024_0_S256x128 w4)) (headv a l ![1280, 0] slices_S2048x128_o1280_0_S256x128 w5))
    (headv a l ![1536, 0] slices_S2048x128_o1536_0_S256x128 w6)) (headv a l ![1792, 0] slices_S2048x128_o1792_0_S256x128 w7)

/-- The normalisation of a whole tile. -/
def normv (z : FVec Ideal S256x512 .f32) : FVec Ideal S256x512 .f32 :=
  mulf (mulf z (broadcastTo S256x512 (rsqrt (addf (divf (shapeCast S256x1 (multiReduction .add [1] S256 (mulf z z) 0x00000000#32 reduces_S256x512_S256 (.inl rfl) rfl) shapeCasts_S256_S256x1)
    (broadcast S256x1 (Scalar.ofBits .f32 0x44000000#32))) (broadcast S256x1 (Scalar.ofBits .f32 0x358637BD#32)))) broadcasts_S256x1_S256x512))
    (broadcastTo S256x512 (shapeCast S1x512 g shapeCasts_S1x512_S1x512) broadcasts_S1x512_S256x512)

theorem pay81_eq : k0_pay81 (k0_pay78 a l) (k0_pay79 a l w0 w1 w2) (k0_pay80 a l w3) w4 w5 w6 w7 g = normv g (omv a l w0 w1 w2 w3 w4 w5 w6 w7) := rfl

theorem normv_apply (z : FVec Ideal S256x512 .f32) (r : Fin 256) (col : Fin 512) :
    normv g z (ix2 r col) = rmsn (fun c => z (ix2 r c)) col * g (ix2 0 col) := by
  unfold normv rmsn
  pointwise

theorem pay78_apply (R : Fin 2048) (j : Fin 128) : (k0_pay78 (F := Ideal) a l (ix2 R j) : EReal) = Ideal.div (a (ix2 R j)) (l (ix2 R j)) := by
  unfold k0_pay78
  pointwise

theorem omv_apply (w : S8x128x512.Idx → EReal)
    (h0 : ∀ x col, w0 (ix3 0 x col) = w (ix3 0 x col)) (h1 : ∀ x col, w1 (ix3 0 x col) = w (ix3 1 x col))
    (h2 : ∀ x col, w2 (ix3 0 x col) = w (ix3 2 x col)) (h3 : ∀ x col, w3 (ix3 0 x col) = w (ix3 3 x col))
    (h4 : ∀ x col, w4 (ix3 0 x col) = w (ix3 4 x col)) (h5 : ∀ x col, w5 (ix3 0 x col) = w (ix3 5 x col))
    (h6 : ∀ x col, w6 (ix3 0 x col) = w (ix3 6 x col)) (h7 : ∀ x col, w7 (ix3 0 x col) = w (ix3 7 x col)) (r : Fin 256) (col : Fin 512) :
    omv a l w0 w1 w2 w3 w4 w5 w6 w7 (ix2 r col) = om (fun R j => Ideal.div (a (ix2 R j)) (l (ix2 R j))) w r col := by
  unfold omv headv k0_pay79 k0_pay80 om
  pointwise
  rw [Fin.sum_univ_eight]
  simp only [pay78_apply, h0, h1, h2, h3, h4, h5, h6, h7]
  have e : hrow 0 r = ⟨r.val, by have := r.isLt; omega⟩ := Fin.ext (Nat.zero_add _)
  rw [e]
  rfl

end Words

/-- What grid point `i` stores at row `r` and column `col`. -/
def tile (i : grid0.Coords) (x0 : Vec Ideal S1x8x256x256 .bf16) (x1 : Vec Ideal S1x8192x256 .bf16) (x2 : S8x128x512.Idx → EReal) (x3 : S1x512.Idx → EReal) (r : Fin 256) (col : Fin 512) : EReal :=
  rmsn (om (fun R j => Ideal.div (ac (T i x0 x1 R) (U x1 j) (base i + 512)) (ls (T i x0 x1 R) (base i + 512))) x2 r) col * x3 (ix2 0 col)

/-- The last words of a tile, from its two sums. -/
theorem finish (i : grid0.Coords) (x0 : Vec Ideal S1x8x256x256 .bf16) (x1 : Vec Ideal S1x8192x256 .bf16) {arg4 : Memref sig .tc .vmem S8x128x512 .bf16} (harg4 : arg4.IsWhole)
    {arg5 : Memref sig .tc .vmem S1x512 .f32} (harg5 : arg5.IsWhole) (x2 : Vec Ideal S8x128x512 .bf16) (x3 : Vec Ideal S1x512 .f32) (a l : FVec Ideal S2048x128 .f32)
    (h : ∀ (R : Fin 2048) (j : Fin 128), l (ix2 R j) = ls (T i x0 x1 R) (base i + 512) ∧ a (ix2 R j) = ac (T i x0 x1 R) (U x1 j) (base i + 512)) (r : Fin 256) (col : Fin 512) :
    k0_pay1 (k0_pay81 (k0_pay78 a l)
      (k0_pay79 a l (View.readAt (Elt Ideal) arg4.view (Rect.unit (s := S8x128x512) ![0, 0, 0] S1x128x512.size inb_S8x128x512_S1x128x512_0_0_0).toLoadRect (harg4.unread x2))
        (View.readAt (Elt Ideal) arg4.view (Rect.unit (s := S8x128x512) ![1, 0, 0] S1x128x512.size inb_S8x128x512_S1x128x512_1_0_0).toLoadRect (harg4.unread x2))
        (View.readAt (Elt Ideal) arg4.view (Rect.unit (s := S8x128x512) ![2, 0, 0] S1x128x512.size inb_S8x128x512_S1x128x512_2_0_0).toLoadRect (harg4.unread x2)))
      (k0_pay80 a l (View.readAt (Elt Ideal) arg4.view (Rect.unit (s := S8x128x512) ![3, 0, 0] S1x128x512.size inb_S8x128x512_S1x128x512_3_0_0).toLoadRect (harg4.unread x2)))
      (View.readAt (Elt Ideal) arg4.view (Rect.unit (s := S8x128x512) ![4, 0, 0] S1x128x512.size inb_S8x128x512_S1x128x512_4_0_0).toLoadRect (harg4.unread x2))
      (View.readAt (Elt Ideal) arg4.view (Rect.unit (s := S8x128x512) ![5, 0, 0] S1x128x512.size inb_S8x128x512_S1x128x512_5_0_0).toLoadRect (harg4.unread x2))
      (View.readAt (Elt Ideal) arg4.view (Rect.unit (s := S8x128x512) ![6, 0, 0] S1x128x512.size inb_S8x128x512_S1x128x512_6_0_0).toLoadRect (harg4.unread x2))
      (View.readAt (Elt Ideal) arg4.view (Rect.unit (s := S8x128x512) ![7, 0, 0] S1x128x512.size inb_S8x128x512_S1x128x512_7_0_0).toLoadRect (harg4.unread x2))
      (View.readAt (Elt Ideal) arg5.view (Rect.unit (s := S1x512) ![0, 0] S1x512.size inb_S1x512_S1x512_0_0).toLoadRect (harg5.unread x3))) (ix3 0 r col)
      = tile i x0 x1 x2 x3 r col := by
  have hw : ∀ (hd : ℕ) (hlt : hd < 8) (inb) (x : Fin 128) (col : Fin 512),
      View.readAt (Elt Ideal) arg4.view (Rect.unit (s := S8x128x512) ![hd, 0, 0] S1x128x512.size inb).toLoadRect (harg4.unread x2) (ix3 0 x col) = x2 (ix3 ⟨hd, hlt⟩ x col) := fun hd hlt inb x col => by
    rw [View.readAt_eq_ld, Memref.IsWhole.read_unread]
    pointwise
  have hg : View.readAt (Elt Ideal) arg5.view (Rect.unit (s := S1x512) ![0, 0] S1x512.size inb_S1x512_S1x512_0_0).toLoadRect (harg5.unread x3) (ix2 0 col) = x3 (ix2 0 col) := by
    rw [View.readAt_eq_ld, Memref.IsWhole.read_unread]
    pointwise
  unfold k0_pay1
  pointwise
  rw [pay81_eq, normv_apply, hg]
  unfold tile
  congr 2
  funext c
  rw [omv_apply a l _ _ _ _ _ _ _ _ x2 (hw 0 (by decide) _) (hw 1 (by decide) _) (hw 2 (by decide) _) (hw 3 (by decide) _) (hw 4 (by decide) _) (hw 5 (by decide) _) (hw 6 (by decide) _) (hw 7 (by decide) _)]
  congr 1
  funext R j
  rw [(h R j).1, (h R j).2]

section Out
variable (c : Dev nD) (i : grid0.Coords) (arg2 : Memref sig .tc .vmem S1x8x256x256 .bf16) (harg2 : arg2.IsWhole) (arg3 : Memref sig .tc .vmem S1x8192x256 .bf16) (harg3 : arg3.IsWhole) (arg4 : Memref sig .tc .vmem S8x128x512 .bf16) (harg4 : arg4.IsWhole) (arg5 : Memref sig .tc .vmem S1x512 .f32) (harg5 : arg5.IsWhole) (arg6 : Memref sig .tc .vmem S1x256x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole)
variable (x0 : Vec Ideal S1x8x256x256 .bf16) (x1 : Vec Ideal S1x8192x256 .bf16) (x2 : Vec Ideal S8x128x512 .bf16) (x3 : Vec Ideal S1x512 .f32)

theorem outA (hc0 : ¬ cond0_0 i) (r : Fin 256) (col : Fin 512) :
    out0_A_4 (F := Ideal) c i arg2 harg2 arg3 harg3 arg4 harg4 arg5 harg5 arg6 harg6 arg7 harg7 arg8 harg8 arg9 harg9 hc0 x0 x1 x2 x3 (ix3 0 r col) = tile i x0 x1 x2 x3 r col := by
  have hp : (kernelRun0_A (F := Ideal) c i arg2 harg2 arg3 harg3 arg4 harg4 arg5 harg5 arg6 harg6 arg7 harg7 arg8 harg8 arg9 harg9 hc0 x0 x1 x2 x3).1
      = [⟨Rect.unit ![0, 0, 0] S1x256x512.size inb_S1x256x512_S1x256x512_0_0_0, k0_pay1 (kernelRun0_A.sl.r_14 c i arg2 harg2 arg3 harg3 arg4 harg4 arg5 harg5 arg6 harg6 arg7 harg7 arg8 harg8 arg9 harg9 x0 x1 x2 x3)⟩] := by
    unfold kernelRun0_A
    rfl
  unfold out0_A_4
  rw [hp, View.read_writes_junk_eq_canon, View.canon_unit_zero (h := by funext a; revert a; decide)]
  exact finish i x0 x1 harg4 harg5 x2 x3 _ _ (fun R j => caseA c i arg2 harg2 arg3 harg3 arg4 harg4 arg5 harg5 arg6 harg6 arg7 harg7 arg8 harg8 arg9 harg9 x0 x1 hc0 R j) r col

theorem outB (hc0 : cond0_0 i) (r : Fin 256) (col : Fin 512) :
    out0_B_4 (F := Ideal) c i arg2 harg2 arg3 harg3 arg4 harg4 arg5 harg5 arg6 harg6 arg7 harg7 arg8 harg8 arg9 harg9 hc0 x0 x1 x2 x3 (ix3 0 r col) = tile i x0 x1 x2 x3 r col := by
  have hp : (kernelRun0_B (F := Ideal) c i arg2 harg2 arg3 harg3 arg4 harg4 arg5 harg5 arg6 harg6 arg7 harg7 arg8 harg8 arg9 harg9 hc0 x0 x1 x2 x3).1
      = [⟨Rect.unit ![0, 0, 0] S1x256x512.size inb_S1x256x512_S1x256x512_0_0_0, k0_pay1 (kernelRun0_B.sl.r_16 c i arg2 harg2 arg3 harg3 arg4 harg4 arg5 harg5 arg6 harg6 arg7 harg7 arg8 harg8 arg9 harg9 hc0 x0 x1 x2 x3)⟩] := by
    unfold kernelRun0_B
    rfl
  unfold out0_B_4
  rw [hp, View.read_writes_junk_eq_canon, View.canon_unit_zero (h := by funext a; revert a; decide)]
  exact finish i x0 x1 harg4 harg5 x2 x3 _ _ (fun R j => caseB c i arg2 harg2 arg3 harg3 arg4 harg4 arg5 harg5 arg6 harg6 arg7 harg7 arg8 harg8 arg9 harg9 x0 x1 hc0 R j) r col

end Out

end Cert.KernelIdeal.Finish

end
-- ==== Proof.Blocks.lean ====
/- The blocks of a grid point, read from the four argument arrays, and the output's block placed in the result array. -/
module

public import proofs.«01_k».proof.Proof.Finish
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Blocks

open Cert.KernelIdeal Cert.KernelIdeal.Gen Cert.KernelIdeal.State Cert.KernelIdeal.Words Cert.KernelIdeal.Finish Cert.Online
open Idealize.ShloMosaic Idealize.ShloMosaic.TcCoe Idealize.ShloMosaic.Tactic Idealize.SL.Sem
open Finset

variable (m : (ℓ : Loc nD τ sig) → Buf (Elt Ideal) ℓ)

/-- The queries, as an array of extended reals. -/
abbrev aQ (c : Dev nD) : S2x8x8192x256.Idx → EReal := m ((c : Thread nD τ).loc main_arg0)
/-- The keys. -/
abbrev aK (c : Dev nD) : S2x8192x256.Idx → EReal := m ((c : Thread nD τ).loc main_arg1)
/-- The projection `w_ukv`. -/
abbrev aW (c : Dev nD) : S128x8x128.Idx → EReal := m ((c : Thread nD τ).loc main_arg2)
/-- The gain. -/
abbrev aG (c : Dev nD) : S1024.Idx → EReal := m ((c : Thread nD τ).loc main_arg3)

/-- Where every window's block lies, at each of the 64 grid points. -/
theorem idx : ∀ t : Fin cfg0.N, win0_0.index t = ![(grid0.coords t 0).val, 0, (grid0.coords t 1).val, 0]
    ∧ win0_1.index t = ![(grid0.coords t 0).val, 0, 0] ∧ win0_2.index t = ![0, 0, 0] ∧ win0_3.index t = ![0, 0]
    ∧ win0_4.index t = ![(grid0.coords t 0).val, (grid0.coords t 1).val, 0] :=
  (by decide +kernel : ∀ t : Fin grid0.N, _)

/-- The batch element of a grid point. -/
abbrev bt (t : Fin cfg0.N) : Fin 2 := grid0.coords t 0

/-- The query position of row `r` of a grid point. -/
def qp (t : Fin cfg0.N) (r : Fin 256) : Fin 8192 := ⟨256 * qi (grid0.coords t) + r, by
  have := qi_lt (grid0.coords t); omega⟩

/-- The query block: rows `256 qi …` of all eight heads of one batch element. -/
theorem q_blk (c : Dev nD) (t : Fin cfg0.N) (h : Fin 8) (r : Fin 256) (d : Fin 256) :
    iblk m c 0 t (ix4 0 h r d) = aQ m c (ix4 (bt t) h (qp t r) d) := by
  blk_simp [iblk, V]
  blk_ext [V, idx t, qp]
  · rfl
  · rw [qi]; omega

/-- The key block: all keys of one batch element. -/
theorem k_blk (c : Dev nD) (t : Fin cfg0.N) (κ : Fin 8192) (d : Fin 256) :
    iblk m c 1 t (ix3 0 κ d) = aK m c (ix3 (bt t) κ d) := by
  blk_simp [iblk, V]
  blk_ext [V, idx t]
  rfl

/-- The gain block: the second half of the gain. -/
theorem g_blk (c : Dev nD) (t : Fin cfg0.N) (col : Fin 512) :
    iblk m c 3 t (ix2 0 col) = aG m c (ix1 ⟨512 + col, by omega⟩) := by
  have e : ((View.whole main_v16).slice (win0_3.rect t)).emb (ix2 0 col) = ix2 0 col := by
    blk_ext [idx t]
  blk_simp [iblk]
  entry_read
  pointwise
  rw [e]
  rfl

/-- One entry of the eight by eight identity: an equality of two small numbers, as a number. -/
theorem eye (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then (1 : EReal) else 0 := by
  have h : ∀ a b : Fin 8, IntOp.cmpi CmpIPredicate.eq (IntOp.addi (BitVec.ofNat 32 a.val) 0#32) (BitVec.ofNat 32 b.val)
      = if a.val = b.val then 1#1 else 0#1 := by decide
  rw [h ⟨a, ha⟩ ⟨b, hb⟩]
  split_ifs <;> simp [FloatOps.uitofp]

/-- The projection block is the whole projection array. -/
theorem w_emb (t : Fin cfg0.N) (hd : Fin 8) (x : Fin 128) (col : Fin 512) :
    (win0_2.blk t).view.emb (ix3 hd x col) = ix3 hd x col := by
  blk_ext [idx t]

/-- The projection the host prepares: `w_uv` of head `hd` in the 64 columns of that head, multiplied by zero elsewhere. -/
theorem w_host (c : Dev nD) (hd : Fin 8) (x : Fin 128) (col : Fin 512) :
    V m c main_v14 (ix3 hd x col)
      = aW m c (ix3 x hd ⟨64 + col % 64, by omega⟩) * (if hd.val = col.val / 64 then (1 : EReal) else 0) := by
  entry_read
  pointwise
  rw [← eye hd.val (col.val / 64) hd.isLt (by omega)]

/-- The projection block is the whole projection the host prepares. -/
theorem w_blk (c : Dev nD) (t : Fin cfg0.N) (hd : Fin 8) (x : Fin 128) (col : Fin 512) :
    iblk m c 2 t (ix3 hd x col)
      = aW m c (ix3 x hd ⟨64 + col % 64, by omega⟩) * (if hd.val = col.val / 64 then (1 : EReal) else 0) :=
  (congrArg (V m c main_v14) (w_emb t hd x col)).trans (w_host m c hd x col)

end Cert.KernelIdeal.Blocks
-- ==== Proof.Attn.lean ====
/- The attention layer in closed form, over its queries, keys, projection and gain as plain families of extended reals:
   causal softmax attention over 8192 keys whose first 128 channels are the values, the projection of every head, the
   normalisation by the root mean square of the 512 columns, and the gain. -/
module

public import proofs.«01_k».proof.Proof.Online

@[expose] public section

noncomputable section

namespace Cert.Attn

open Idealize.ShloMosaic Cert.Online Finset

variable (Q : Fin 2 → Fin 8 → Fin 8192 → Fin 256 → EReal) (K : Fin 2 → Fin 8192 → Fin 256 → EReal)
variable (W : Fin 128 → Fin 8 → Fin 128 → EReal) (g : Fin 1024 → EReal)

/-- Key `κ` of batch element `b`, for any natural number `κ`. -/
def key (b : Fin 2) (κ : ℕ) (d : Fin 256) : EReal := K b ⟨κ % 8192, Nat.mod_lt _ (by decide)⟩ d

/-- The causal score: the inner product of query and key, `⊥` for a key after the query. -/
def t (b : Fin 2) (h : Fin 8) (q : Fin 8192) (κ : ℕ) : EReal :=
  if κ ≤ q.val then ∑ d : Fin 256, Q b h q d * key K b κ d else ⊥

/-- Channel `x` of the value of key `κ`. -/
def u (b : Fin 2) (x : Fin 128) (κ : ℕ) : EReal := key K b κ ⟨x, by omega⟩

/-- Attention: the softmax of the scores against the values. -/
def att (b : Fin 2) (h : Fin 8) (q : Fin 8192) (x : Fin 128) : EReal :=
  ∑ κ ∈ range 8192, Ideal.div (Ideal.exp (t Q K b h q κ - mx (t Q K b h q) 8192)) (ls (t Q K b h q) 8192) * u K b x κ

/-- The projected heads side by side: column `col` belongs to head `col / 64`. -/
def proj (b : Fin 2) (q : Fin 8192) (col : Fin 512) : EReal :=
  ∑ x : Fin 128, W x ⟨col / 64, by omega⟩ ⟨64 + col % 64, by omega⟩ * att Q K b ⟨col / 64, by omega⟩ q x

/-- A row over the root mean square of its 512 entries. -/
def rms (z : Fin 512 → EReal) (col : Fin 512) : EReal :=
  z col * Ideal.rsqrt (Ideal.div (∑ c : Fin 512, z c * z c) (Ideal.ofBits .f32 0x44000000#32) + Ideal.ofBits .f32 0x358637BD#32)

/-- The layer's result. -/
def out (b : Fin 2) (q : Fin 8192) (col : Fin 512) : EReal :=
  rms (proj Q K W b q) col * g ⟨512 + col, by omega⟩

/-- Every query and every key is a real number. -/
def Finite : Prop := (∀ b h q d, Q b h q d ≠ ⊤ ∧ Q b h q d ≠ ⊥) ∧ ∀ b κ d, K b κ d ≠ ⊤ ∧ K b κ d ≠ ⊥

/-- A sum of products of reals is real. -/
theorem dot_real {n : ℕ} (a b : Fin n → EReal) (ha : ∀ d, a d ≠ ⊤ ∧ a d ≠ ⊥) (hb : ∀ d, b d ≠ ⊤ ∧ b d ≠ ⊥) :
    ∃ r : ℝ, ∑ d, a d * b d = (r : EReal) := by
  refine sum_induction (fun d => a d * b d) (fun x => ∃ r : ℝ, x = (r : EReal)) ?_ ⟨0, rfl⟩ fun d _ => ?_
  · rintro _ _ ⟨x, rfl⟩ ⟨y, rfl⟩
    exact ⟨x + y, (EReal.coe_add x y).symm⟩
  · refine ⟨(a d).toReal * (b d).toReal, ?_⟩
    rw [EReal.coe_mul, EReal.coe_toReal (ha d).1 (ha d).2, EReal.coe_toReal (hb d).1 (hb d).2]

variable {Q K}

/-- No score is `⊤`. -/
theorem t_ne_top (hf : Finite Q K) (b : Fin 2) (h : Fin 8) (q : Fin 8192) (κ : ℕ) : t Q K b h q κ ≠ ⊤ := by
  unfold t
  split_ifs
  · obtain ⟨r, e⟩ := dot_real (Q b h q) (key K b κ) (hf.1 b h q) (fun d => hf.2 b _ d)
    rw [e]; exact EReal.coe_ne_top r
  · exact bot_ne_top

/-- The first score is real. -/
theorem t_zero (hf : Finite Q K) (b : Fin 2) (h : Fin 8) (q : Fin 8192) : t Q K b h q 0 ≠ ⊥ := by
  unfold t
  rw [if_pos (Nat.zero_le _)]
  obtain ⟨r, e⟩ := dot_real (Q b h q) (key K b 0) (hf.1 b h q) (fun d => hf.2 b _ d)
  rw [e]; exact EReal.coe_ne_bot r

/-- The quotient of the two sums over the first `n` keys, where `n` exceeds the query's position, is the attention. -/
theorem quot (hf : Finite Q K) (b : Fin 2) (h : Fin 8) (q : Fin 8192) (x : Fin 128) {n : ℕ} (hq : q.val < n) (hn : n ≤ 8192) :
    Ideal.div (ac (t Q K b h q) (u K b x) n) (ls (t Q K b h q) n) = att Q K b h q x := by
  have ht : ∀ κ, n ≤ κ → t Q K b h q κ = ⊥ := fun κ hκ => if_neg (by omega)
  rw [← ac_ext _ _ hn ht, ← ls_ext _ hn ht,
    div_ac _ _ ⟨0, by decide, t_zero hf b h q⟩ (fun κ _ => t_ne_top hf b h q κ)]
  rfl

end Cert.Attn
-- ==== Proof.Tile.lean ====
/- The value a grid point stores is the layer's closed form at the block's place, so the result array is that closed form. -/
module

public import proofs.«01_k».proof.Proof.Blocks
public import proofs.«01_k».proof.Proof.Attn

@[expose] public section

set_option maxRecDepth 16384

noncomputable section

namespace Cert.KernelIdeal.Tile

open Cert.KernelIdeal Cert.KernelIdeal.Gen Cert.KernelIdeal.State Cert.KernelIdeal.Words Cert.KernelIdeal.Finish Cert.Online
open Cert.KernelIdeal.Blocks
open Idealize.ShloMosaic Idealize.ShloMosaic.TcCoe Idealize.ShloMosaic.Tactic Idealize.SL.Sem
open Finset

variable (m : (ℓ : Loc nD τ sig) → Buf (Elt Ideal) ℓ)

/-- The queries as a family. -/
def fQ (c : Dev nD) (b : Fin 2) (h : Fin 8) (q : Fin 8192) (d : Fin 256) : EReal := aQ m c (ix4 b h q d)
/-- The keys as a family. -/
def fK (c : Dev nD) (b : Fin 2) (κ : Fin 8192) (d : Fin 256) : EReal := aK m c (ix3 b κ d)
/-- The projection as a family. -/
def fW (c : Dev nD) (x : Fin 128) (h : Fin 8) (d : Fin 128) : EReal := aW m c (ix3 x h d)
/-- The gain as a family. -/
def fG (c : Dev nD) (d : Fin 1024) : EReal := aG m c (ix1 d)

/-- The tile's masked scores are the layer's causal scores. -/
theorem T_eq (c : Dev nD) (t : Fin cfg0.N) (hd : Fin 8) (r : Fin 256) :
    State.T (grid0.coords t) (iblk m c 0 t) (iblk m c 1 t) (hrow hd r) = Attn.t (fQ m c) (fK m c) (bt t) hd (qp t r) := by
  have h1 : (hrow hd r).val / 256 % 8 = hd.val := by simp only [hrow]; omega
  have h2 : (hrow hd r).val % 256 = r.val := by simp only [hrow]; omega
  funext κ
  unfold State.T Attn.t
  have e : sc (iblk m c 0 t) (iblk m c 1 t) (hrow hd r) κ
      = ∑ d : Fin 256, fQ m c (bt t) hd (qp t r) d * Attn.key (fK m c) (bt t) κ d := by
    refine sum_congr rfl fun d _ => ?_
    have hq : qv (iblk m c 0 t) (hrow hd r) d = fQ m c (bt t) hd (qp t r) d := by
      rw [fQ, ← q_blk m c t hd r d, qv]
      exact congrArg (iblk m c 0 t) (by
        rw [show (⟨(hrow hd r).val / 256 % 8, Nat.mod_lt _ (by decide)⟩ : Fin 8) = hd from Fin.ext h1,
          show (⟨(hrow hd r).val % 256, Nat.mod_lt _ (by decide)⟩ : Fin 256) = r from Fin.ext h2])
    rw [hq]
    exact congrArg _ (k_blk m c t _ d)
  rw [e, h2]
  rfl

/-- The tile's values are the layer's. -/
theorem U_eq (c : Dev nD) (t : Fin cfg0.N) (x : Fin 128) :
    U (iblk m c 1 t) x = Attn.u (fK m c) (bt t) x := by
  funext κ
  have h : x.val % 256 = x.val := by omega
  unfold U Attn.u kv Attn.key fK
  rw [← k_blk m c t]
  exact congrArg (iblk m c 1 t) (by
    rw [show (⟨x.val % 256, Nat.mod_lt _ (by decide)⟩ : Fin 256) = ⟨x.val, by omega⟩ from Fin.ext h])

/-- Projecting every head with the prepared projection keeps one head per column. -/
theorem om_eq (c : Dev nD) (t : Fin cfg0.N) (o : Fin 2048 → Fin 128 → EReal) (r : Fin 256) (col : Fin 512) :
    om o (iblk m c 2 t) r col
      = ∑ x : Fin 128, fW m c x ⟨col / 64, by omega⟩ ⟨64 + col % 64, by omega⟩ * o (hrow ⟨col / 64, by omega⟩ r) x := by
  unfold om
  rw [sum_eq_single (⟨col / 64, by omega⟩ : Fin 8)]
  · refine sum_congr rfl fun x _ => ?_
    rw [w_blk, if_pos rfl, mul_one, mul_comm]
    rfl
  · intro hd _ hne
    refine sum_eq_zero fun x _ => ?_
    rw [w_blk, if_neg (fun h => hne (Fin.ext h)), mul_zero, mul_zero]
  · intro h; exact absurd (mem_univ _) h

/-- A grid point's tile is the layer's closed form. -/
theorem tile_eq (c : Dev nD) (hf : Attn.Finite (fQ m c) (fK m c)) (t : Fin cfg0.N) (r : Fin 256) (col : Fin 512) :
    tile (grid0.coords t) (iblk m c 0 t) (iblk m c 1 t) (iblk m c 2 t) (iblk m c 3 t) r col
      = Attn.out (fQ m c) (fK m c) (fW m c) (fG m c) (bt t) (qp t r) col := by
  have hb : (qp t r).val < base (grid0.coords t) + 512 := by simp only [qp, base]; omega
  have hn : base (grid0.coords t) + 512 ≤ 8192 := by
    have := qi_lt (grid0.coords t); unfold base; omega
  unfold tile Attn.out
  rw [g_blk m c t col]
  congr 1
  unfold rmsn Attn.rms
  have e : om (fun R j => Ideal.div (ac (State.T (grid0.coords t) (iblk m c 0 t) (iblk m c 1 t) R) (U (iblk m c 1 t) j) (base (grid0.coords t) + 512))
      (ls (State.T (grid0.coords t) (iblk m c 0 t) (iblk m c 1 t) R) (base (grid0.coords t) + 512))) (iblk m c 2 t) r
      = Attn.proj (fQ m c) (fK m c) (fW m c) (bt t) (qp t r) := by
    funext col
    rw [om_eq]
    refine sum_congr rfl fun x _ => ?_
    rw [T_eq, U_eq, Attn.quot hf _ _ _ _ hb hn]
  rw [e]

/-- What grid point `t` leaves in the output's buffer. -/
theorem after_eq (c : Dev nD) (hf : Attn.Finite (fQ m c) (fK m c)) (t : Fin cfg0.N) (r : Fin 256) (col : Fin 512) :
    outsAt0 m c t.val t.isLt (ix3 0 r col) = Attn.out (fQ m c) (fK m c) (fW m c) (fG m c) (bt t) (qp t r) col := by
  by_cases h0 : t.val % 4 = 2 ∨ t.val % 4 = 3
  · rw [outsAt0_B m c t h0, outB, tile_eq m c hf]
  · rw [outsAt0_A m c t h0, outA, tile_eq m c hf]

/-- The output's block lies at its batch element and its query positions. -/
theorem o_emb (t : Fin cfg0.N) (r : Fin 256) (col : Fin 512) :
    (win0_4.blk t).view.emb (ix3 0 r col) = ix3 (bt t) (qp t r) col := by
  blk_ext [idx t, qp]
  · rfl
  · rw [qi]; omega

/-- The same at any index of the block, placed in the array. -/
theorem place (c : Dev nD) (hf : Attn.Finite (fQ m c) (fK m c)) (t : Fin cfg0.N) (y : S1x256x512.Idx) :
    outsAt0 m c t.val t.isLt y
      = Attn.out (fQ m c) (fK m c) (fW m c) (fG m c) ((win0_4.blk t).view.emb y 0) ((win0_4.blk t).view.emb y 1)
        ((win0_4.blk t).view.emb y 2) := by
  obtain ⟨r, col, rfl⟩ : ∃ (r : Fin 256) (col : Fin 512), y = ix3 0 r col :=
    ⟨y 1, y 2, by
      funext a
      fin_cases a
      · exact Fin.ext (by have := (y 0).isLt; simpa using this)
      · rfl
      · rfl⟩
  rw [after_eq m c hf t r col, o_emb t r col]
  rfl

/-- The result array after the run is the layer's closed form. -/
theorem final (c : Dev nD) (hf : Attn.Finite (fQ m c) (fK m c)) :
    (dats m 0 c).arrAt 4 cfg0.N
      = fun y : S2x8192x512.Idx => Attn.out (fQ m c) (fK m c) (fW m c) (fG m c) (y 0) (y 1) (y 2) := by
  refine (dats m 0 c).arrAt_eq_of_covers 4 _ (by decide +kernel) fun t _ y => ?_
  blk_simp
  rw [after0_4]
  exact place m c hf t y

end Cert.KernelIdeal.Tile
-- ==== Proof.Ref.lean ====
/- The reference's result, read at an index: stage by stage, the layer's closed form. -/
module

public import proofs.«01_k».proof.Proof.Attn
public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen Cert.Online
open Idealize.ShloMosaic Idealize.ShloMosaic.TcCoe Idealize.ShloMosaic.Tactic Idealize.SL.Sem
open Finset

variable (Q : FVec Ideal S2x8x8192x256 .bf16) (K : FVec Ideal S2x8192x256 .bf16) (W : FVec Ideal S128x8x128 .f32) (g : FVec Ideal S1024 .f32)

theorem ofBits_bot : Ideal.ofBits .f32 (0xFF800000#32) = (⊥ : EReal) := by
  simp [Ideal.ofBits, Ideal.ieee]

/-- A fold of maxima from `−∞` is the supremum, for any number of entries. -/
theorem fold_max {n : ℕ} (f : Fin n → EReal) : univ.fold max (Ideal.ofBits .f32 0xFF800000#32) f = univ.sup f := by
  rw [ofBits_bot]; rfl

/-- A maximum over the last of four axes, of any sizes: the fold over that axis. -/
theorem reduce_max {n0 n1 n2 n3 : ℕ} (s : (⟨4, ![n0, n1, n2, n3]⟩ : Shape).Idx → EReal) (v : S_.Idx → EReal)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf : Ideal .f32 → Ideal .f32 → Ideal .f32) s v h hu (ix3 a b c)
      = univ.fold max (v (Shape.Idx.first hu)) fun k : Fin n3 => s (ix4 a b c k) := by
  simp only [pointwise]

/-- The greater of `−∞` and a maximum over the last of four axes, of any sizes: the supremum over that axis. -/
theorem row_max {n0 n1 n2 n3 : ℕ} (s : FVec Ideal (⟨4, ![n0, n1, n2, n3]⟩ : Shape) .f32)
    (hb : S_.BroadcastsInDim ⟨3, ![n0, n1, n2]⟩ (![] : Fin 0 → Fin 3))
    (h : (⟨4, ![n0, n1, n2, n3]⟩ : Shape).ReducesTo [3] ⟨3, ![n0, n1, n2]⟩) (hu : 0 < S_.numel) (a : Fin n0) (b : Fin n1) (c : Fin n2) :
    maximumf (broadcastInDim (⟨3, ![n0, n1, n2]⟩ : Shape) ![] hb (constant (F := Ideal) S_ .f32 0xFF800000#32))
        (Host.reduce FloatOps.maximumf s (constant (F := Ideal) S_ .f32 0xFF800000#32) h hu) (ix3 a b c)
      = univ.sup fun k : Fin n3 => s (ix4 a b c k) := by
  show max (Ideal.ofBits .f32 0xFF800000#32) (Host.reduce FloatOps.maximumf s (constant (F := Ideal) S_ .f32 0xFF800000#32) h hu (ix3 a b c)) = _
  rw [reduce_max s]
  show max (Ideal.ofBits .f32 0xFF800000#32) (univ.fold max (Ideal.ofBits .f32 0xFF800000#32) fun k : Fin n3 => s (ix4 a b c k)) = _
  rw [fold_max, ofBits_bot, max_eq_right bot_le]

/-- The masked scores. -/
def sc : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S2x8x8192x256_S2x8192x256_S2x8x8192x8192_3_2_12_1_0_0 none (extf .f32 Q bitsLt_bf16_f32) (extf .f32 K bitsLt_bf16_f32))
    (broadcastInDim S2x8x8192x8192 ![] bcast_S_S2x8x8192x8192 (id (constant S_ .f32 0xFF800000#32)))

/-- The rows' maxima. -/
def mxv (s : FVec Ideal S2x8x8192x8192 .f32) : FVec Ideal S2x8x8192 .f32 :=
  maximumf (broadcastInDim S2x8x8192 ![] bcast_S_S2x8x8192 (constant S_ .f32 0xFF800000#32)) (Host.reduce FloatOps.maximumf s (constant S_ .f32 0xFF800000#32) reducesTo_S2x8x8192x8192_S2x8x8192_d3 h_S_)

/-- A row statistic repeated along its row. -/
def rep (x : FVec Ideal S2x8x8192 .f32) : FVec Ideal S2x8x8192x8192 .f32 :=
  broadcastInDim S2x8x8192x8192 ![0, 1, 2, 3] bcast_S2x8x8192x1_S2x8x8192x8192_0_1_2_3 (broadcastInDim S2x8x8192x1 ![0, 1, 2] bcast_S2x8x8192_S2x8x8192x1_0_1_2 x)

/-- The exponentials. -/
def ex (s : FVec Ideal S2x8x8192x8192 .f32) : FVec Ideal S2x8x8192x8192 .f32 := Host.exp (subf s (rep (mxv s)))

/-- The softmax. -/
def pr (e : FVec Ideal S2x8x8192x8192 .f32) : FVec Ideal S2x8x8192x8192 .f32 :=
  Host.divf e (rep (Host.reduceAdd e (constant S_ .f32 0x00000000#32) reducesTo_S2x8x8192x8192_S2x8x8192_d3 h_S_))

/-- The softmax against the values. -/
def av (p : FVec Ideal S2x8x8192x8192 .f32) : FVec Ideal S2x8x8192x128 .f32 :=
  Host.dotGeneral dot_S2x8x8192x8192_S2x8192x128_S2x8x8192x128_3_1_12_2_0_0 none p
    (extractStridedSlice S2x8192x128 ![0, 0, 0] (extf .f32 K bitsLt_bf16_f32) slices_S2x8192x256_S2x8192x128_0_0_0)

/-- The projected heads side by side. -/
def pj (a : FVec Ideal S2x8x8192x128 .f32) : FVec Ideal S2x8192x512 .f32 :=
  shapeCast _ (transpose S2x8192x8x64 [2, 3, 0, 1] (Host.dotGeneral dot_S128x8x64_S2x8x8192x128_S8x64x2x8192_0_3_2_02_1_1 none (extractStridedSlice S128x8x64 ![0, 0, 64] W slices_S128x8x128_S128x8x64_0_0_64) a) transposes_S8x64x2x8192_S2x8192x8x64_2_3_0_1) shapeCasts_S2x8192x8x64_S2x8192x512

/-- A signed comparison of two small numbers is the comparison of the numbers. -/
theorem sle_iff (a b : ℕ) (ha : a < 8192) (hb : b < 8192) :
    IntOp.cmpi CmpIPredicate.sle (BitVec.ofNat 32 a) (BitVec.ofNat 32 b) = if a ≤ b then 1#1 else 0#1 := by
  have e : ∀ n, n < 8192 → (BitVec.ofNat 32 n).toInt = n := fun n hn => by
    rw [BitVec.toInt_eq_toNat_of_lt (by rw [BitVec.toNat_ofNat]; omega), BitVec.toNat_ofNat, Nat.mod_eq_of_lt (by omega)]
  have h : (BitVec.ofNat 32 a).sle (BitVec.ofNat 32 b) = decide (a ≤ b) := by
    rw [BitVec.sle_eq_decide, e a ha, e b hb]
    simp
  show BitVec.ofBool ((BitVec.ofNat 32 a).sle (BitVec.ofNat 32 b)) = _
  rw [h]
  by_cases hab : a ≤ b <;> simp [hab]

/-- A masked score. -/
theorem sc_apply (b : Fin 2) (h : Fin 8) (q κ : Fin 8192) :
    sc Q K (ix4 b h q κ) = if κ.val ≤ q.val then ∑ d : Fin 256, Q (ix4 b h q d) * K (ix3 b κ d) else ⊥ := by
  unfold sc
  pointwise
  rw [sle_iff κ q κ.isLt q.isLt]
  by_cases hq : κ.val ≤ q.val
  · rw [if_pos hq, if_pos hq]
    rfl
  · rw [if_neg hq, if_neg hq]
    exact ofBits_bot

theorem mxv_apply (s : FVec Ideal S2x8x8192x8192 .f32) (b : Fin 2) (h : Fin 8) (q : Fin 8192) :
    mxv s (ix3 b h q) = univ.sup fun k : Fin 8192 => s (ix4 b h q k) := by
  unfold mxv
  exact row_max s bcast_S_S2x8x8192 reducesTo_S2x8x8192x8192_S2x8x8192_d3 h_S_ b h q

theorem ex_apply (s : FVec Ideal S2x8x8192x8192 .f32) (b : Fin 2) (h : Fin 8) (q κ : Fin 8192) :
    ex s (ix4 b h q κ) = Ideal.exp (s (ix4 b h q κ) - mxv s (ix3 b h q)) := by
  unfold ex rep
  pointwise

theorem pr_apply (e : FVec Ideal S2x8x8192x8192 .f32) (b : Fin 2) (h : Fin 8) (q κ : Fin 8192) :
    pr e (ix4 b h q κ) = Ideal.div (e (ix4 b h q κ)) (∑ k : Fin 8192, e (ix4 b h q k)) := by
  unfold pr rep
  pointwise

theorem av_apply (p : FVec Ideal S2x8x8192x8192 .f32) (b : Fin 2) (h : Fin 8) (q : Fin 8192) (x : Fin 128) :
    av K p (ix4 b h q x) = ∑ k : Fin 8192, p (ix4 b h q k) * K (ix3 b k ⟨x, by omega⟩) := by
  unfold av
  pointwise

theorem pj_apply (a : FVec Ideal S2x8x8192x128 .f32) (b : Fin 2) (q : Fin 8192) (col : Fin 512) :
    pj W a (ix3 b q col) = ∑ x : Fin 128, W (ix3 x ⟨col / 64, by omega⟩ ⟨64 + col % 64, by omega⟩) * a (ix4 b ⟨col / 64, by omega⟩ q x) := by
  unfold pj
  pointwise

/-- The rows over the root mean square of their 512 entries, times the gain. -/
def res (z : FVec Ideal S2x8192x512 .f32) : FVec Ideal S2x8192x512 .f32 :=
  mulf (mulf z (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf z z) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 (extractStridedSlice S512 ![512] g slices_S1024_S512_512)))

theorem res_apply (z : FVec Ideal S2x8192x512 .f32) (b : Fin 2) (q : Fin 8192) (col : Fin 512) :
    res g z (ix3 b q col) = Attn.rms (fun c => z (ix3 b q c)) col * g (ix1 ⟨512 + col, by omega⟩) := by
  unfold res Attn.rms
  pointwise

/-- The reference's composed term is the composition of the stages. -/
theorem res_eq (m : (ℓ : Loc nD τ sig) → Buf (Elt Ideal) ℓ) (c : Dev nD) :
    Cert.ReferenceIdeal.Value.res_main_v40 m c
      = res (m ((c.tc : Thread nD τ).loc main_arg3))
          (pj (m ((c.tc : Thread nD τ).loc main_arg2))
            (av (m ((c.tc : Thread nD τ).loc main_arg1))
              (pr (ex (sc (m ((c.tc : Thread nD τ).loc main_arg0)) (m ((c.tc : Thread nD τ).loc main_arg1))))))) := by
  unfold Cert.ReferenceIdeal.Value.res_main_v40 res pj av pr ex rep mxv sc
  rfl

end Cert.ReferenceIdeal.Stages
-- ==== Proof.RefEq.lean ====
/- The reference's result is the layer's closed form. -/
module

public import proofs.«01_k».proof.Proof.Ref

@[expose] public section

set_option maxRecDepth 16384

noncomputable section

namespace Cert.ReferenceIdeal.Stages

open Cert.ReferenceIdeal Cert.ReferenceIdeal.Gen Cert.Online
open Idealize.ShloMosaic Idealize.ShloMosaic.TcCoe Idealize.ShloMosaic.Tactic Idealize.SL.Sem
open Finset

/-- A supremum over the first `n` numbers, as one over `Fin n`. -/
theorem sup_range {n : ℕ} (f : ℕ → EReal) : (univ.sup fun k : Fin n => f k) = mx f n := by
  apply le_antisymm
  · exact Finset.sup_le fun k _ => le_mx f k.isLt
  · exact Finset.sup_le fun κ hκ => Finset.le_sup (f := fun k : Fin n => f k) (mem_univ ⟨κ, mem_range.mp hκ⟩)

variable (Q : FVec Ideal S2x8x8192x256 .bf16) (K : FVec Ideal S2x8192x256 .bf16) (W : FVec Ideal S128x8x128 .f32) (g : FVec Ideal S1024 .f32)

/-- The queries as a family. -/
def fQ (b : Fin 2) (h : Fin 8) (q : Fin 8192) (d : Fin 256) : EReal := Q (ix4 b h q d)
/-- The keys as a family. -/
def fK (b : Fin 2) (κ : Fin 8192) (d : Fin 256) : EReal := K (ix3 b κ d)
/-- The projection as a family. -/
def fW (x : Fin 128) (h : Fin 8) (d : Fin 128) : EReal := W (ix3 x h d)
/-- The gain as a family. -/
def fG (d : Fin 1024) : EReal := g (ix1 d)

theorem key_eq (b : Fin 2) (κ : Fin 8192) (d : Fin 256) : Attn.key (fK K) b κ d = K (ix3 b κ d) := by
  unfold Attn.key fK
  rw [show (⟨κ.val % 8192, Nat.mod_lt _ (by decide)⟩ : Fin 8192) = κ from Fin.ext (Nat.mod_eq_of_lt κ.isLt)]

theorem sc_eq (b : Fin 2) (h : Fin 8) (q κ : Fin 8192) : sc Q K (ix4 b h q κ) = Attn.t (fQ Q) (fK K) b h q κ := by
  rw [sc_apply, Attn.t]
  simp only [key_eq, fQ]

theorem mxv_eq (b : Fin 2) (h : Fin 8) (q : Fin 8192) : mxv (sc Q K) (ix3 b h q) = mx (Attn.t (fQ Q) (fK K) b h q) 8192 := by
  rw [mxv_apply, ← sup_range]
  simp only [sc_eq]

theorem ex_eq (b : Fin 2) (h : Fin 8) (q κ : Fin 8192) :
    ex (sc Q K) (ix4 b h q κ)
      = Ideal.exp (Attn.t (fQ Q) (fK K) b h q κ - mx (Attn.t (fQ Q) (fK K) b h q) 8192) := by
  rw [ex_apply, sc_eq, mxv_eq]

theorem pr_eq (b : Fin 2) (h : Fin 8) (q κ : Fin 8192) :
    pr (ex (sc Q K)) (ix4 b h q κ)
      = Ideal.div (Ideal.exp (Attn.t (fQ Q) (fK K) b h q κ - mx (Attn.t (fQ Q) (fK K) b h q) 8192))
          (ls (Attn.t (fQ Q) (fK K) b h q) 8192) := by
  rw [pr_apply, ls, sum_range]
  simp only [ex_eq]

theorem av_eq (b : Fin 2) (h : Fin 8) (q : Fin 8192) (x : Fin 128) :
    av K (pr (ex (sc Q K))) (ix4 b h q x) = Attn.att (fQ Q) (fK K) b h q x := by
  rw [av_apply, Attn.att, sum_range]
  refine sum_congr rfl fun k _ => ?_
  rw [pr_eq, Attn.u, key_eq]

theorem pj_eq (b : Fin 2) (q : Fin 8192) (col : Fin 512) :
    pj W (av K (pr (ex (sc Q K)))) (ix3 b q col) = Attn.proj (fQ Q) (fK K) (fW W) b q col := by
  rw [pj_apply, Attn.proj]
  simp only [av_eq, fW]

/-- The reference's result at an index. -/
theorem res_at (b : Fin 2) (q : Fin 8192) (col : Fin 512) :
    res g (pj W (av K (pr (ex (sc Q K))))) (ix3 b q col) = Attn.out (fQ Q) (fK K) (fW W) (fG g) b q col := by
  rw [res_apply, Attn.out]
  simp only [pj_eq, fG]

/-- The reference's result, as an array. -/
theorem res_fun :
    res g (pj W (av K (pr (ex (sc Q K)))))
      = fun y : S2x8192x512.Idx => Attn.out (fQ Q) (fK K) (fW W) (fG g) (y 0) (y 1) (y 2) := by
  funext y
  have e : y = ix3 (y 0) (y 1) (y 2) := by funext a; fin_cases a <;> rfl
  exact (congrArg _ e).trans (res_at Q K W g (y 0) (y 1) (y 2))

end Cert.ReferenceIdeal.Stages
-- ==== Proof.Pre.lean ====
/- The stated precondition, read at an index: every query and every key is a real number. -/
module

public import proofs.«01_k».proof.Pre_finite_inputs
public import Idealize.ShloMosaic.PureOps.Ideal
public import Idealize.ShloMosaic.Lib.Pointwise

@[expose] public section

noncomputable section

namespace Cert.Pre_finite_inputs.Read

open Idealize.ShloMosaic Idealize.ShloMosaic.Tactic Cert.Pre_finite_inputs

/-- The side conditions of the precondition's operations. -/
theorem facts : Cert.Pre_finite_inputs.Facts := ⟨by decide, by decide, by decide⟩

instance : Cert.Pre_finite_inputs.Facts := facts

theorem ofBits_top : Ideal.ofBits .f32 (0x7F800000#32) = (⊤ : EReal) := by
  simp [Ideal.ofBits, Ideal.ieee]

/-- A number whose magnitude compares below infinity is real. -/
theorem lt_real (x : EReal)
    (h : FloatOps.cmpf (F := Ideal) (φ := .f32) .olt (FloatOps.absf (F := Ideal) (φ := .f32) x) (Ideal.ofBits .f32 0x7F800000#32) = 1#1) :
    x ≠ ⊤ ∧ x ≠ ⊥ := by
  have e : BitVec.ofBool (decide (max x (-x) < Ideal.ofBits .f32 0x7F800000#32)) = 1#1 := h
  rw [ofBits_top] at e
  constructor <;> rintro rfl <;> simp at e

theorem q_real (Q : FVec Ideal S2x8x8192x256 .bf16) (K : FVec Ideal S2x8192x256 .bf16) (W : FVec Ideal S128x8x128 .f32) (g : FVec Ideal S1024 .f32)
    (h : (fn Q K W g).1 = fun _ => 1#1) (i : S2x8x8192x256.Idx) : (Q i : EReal) ≠ ⊤ ∧ (Q i : EReal) ≠ ⊥ := by
  have e := congrFun h i
  unfold fn at e
  exact lt_real _ e

theorem k_real (Q : FVec Ideal S2x8x8192x256 .bf16) (K : FVec Ideal S2x8192x256 .bf16) (W : FVec Ideal S128x8x128 .f32) (g : FVec Ideal S1024 .f32)
    (h : (fn Q K W g).2 = fun _ => 1#1) (i : S2x8192x256.Idx) : (K i : EReal) ≠ ⊤ ∧ (K i : EReal) ≠ ⊥ := by
  have e := congrFun h i
  unfold fn at e
  exact lt_real _ e

end Cert.Pre_finite_inputs.Read
-- ==== Proof.ProjRun.lean ====
/- The input projection's launch: its blocks at a grid point, its run, its frame, and its result arrays after the run. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Run

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S1x512x1024 := Rect.unit (s := S1x512x1024) ![0, 0, 0] S1x512x1024.size inb_S1x512x1024_S1x512x1024_0_0_0
abbrev r0_1 : Rect S1x1x1024 := Rect.unit (s := S1x1x1024) ![0, 0, 0] S1x1x1024.size inb_S1x1x1024_S1x1x1024_0_0_0
abbrev r0_2 : Rect S512x128 := Rect.unit (s := S512x128) ![0, 0] S512x128.size inb_S512x128_S512x128_0_0
abbrev r0_3 : Rect S1024x2560 := Rect.unit (s := S1024x2560) ![0, 0] S1024x256.size inb_S1024x2560_S1024x256_0_0
abbrev r0_4 : Rect S1x512x256 := Rect.unit (s := S1x512x256) ![0, 0, 0] S1x512x256.size inb_S1x512x256_S1x512x256_0_0_0
abbrev r0_5 : Rect S1024x2560 := Rect.unit (s := S1024x2560) ![0, 256] S1024x256.size inb_S1024x2560_S1024x256_0_256
abbrev r0_6 : Rect S1024x2560 := Rect.unit (s := S1024x2560) ![0, 512] S1024x256.size inb_S1024x2560_S1024x256_0_512
abbrev r0_7 : Rect S1024x2560 := Rect.unit (s := S1024x2560) ![0, 768] S1024x256.size inb_S1024x2560_S1024x256_0_768
abbrev r0_8 : Rect S1024x2560 := Rect.unit (s := S1024x2560) ![0, 1024] S1024x256.size inb_S1024x2560_S1024x256_0_1024
abbrev r0_9 : Rect S1024x2560 := Rect.unit (s := S1024x2560) ![0, 1280] S1024x256.size inb_S1024x2560_S1024x256_0_1280
abbrev r0_10 : Rect S1024x2560 := Rect.unit (s := S1024x2560) ![0, 1536] S1024x512.size inb_S1024x2560_S1024x512_0_1536
abbrev r0_11 : Rect S512x1024 := Rect.unit (s := S512x1024) ![0, 0] S512x1024.size inb_S512x1024_S512x1024_0_0
abbrev r0_12 : Rect S1024x2560 := Rect.unit (s := S1024x2560) ![0, 2048] S1024x256.size inb_S1024x2560_S1024x256_0_2048
abbrev r0_13 : Rect S1x8x512x256 := Rect.unit (s := S1x8x512x256) ![0, 0, 0, 0] S1x1x512x256.size inb_S1x8x512x256_S1x1x512x256_0_0_0_0
abbrev r0_14 : Rect S1x8x512x256 := Rect.unit (s := S1x8x512x256) ![0, 1, 0, 0] S1x1x512x256.size inb_S1x8x512x256_S1x1x512x256_0_1_0_0
abbrev r0_15 : Rect S1x8x512x256 := Rect.unit (s := S1x8x512x256) ![0, 2, 0, 0] S1x1x512x256.size inb_S1x8x512x256_S1x1x512x256_0_2_0_0
abbrev r0_16 : Rect S1x8x512x256 := Rect.unit (s := S1x8x512x256) ![0, 3, 0, 0] S1x1x512x256.size inb_S1x8x512x256_S1x1x512x256_0_3_0_0
abbrev r0_17 : Rect S1x8x512x256 := Rect.unit (s := S1x8x512x256) ![0, 4, 0, 0] S1x1x512x256.size inb_S1x8x512x256_S1x1x512x256_0_4_0_0
abbrev r0_18 : Rect S1x8x512x256 := Rect.unit (s := S1x8x512x256) ![0, 5, 0, 0] S1x1x512x256.size inb_S1x8x512x256_S1x1x512x256_0_5_0_0
abbrev r0_19 : Rect S1x8x512x256 := Rect.unit (s := S1x8x512x256) ![0, 6, 0, 0] S1x1x512x256.size inb_S1x8x512x256_S1x1x512x256_0_6_0_0
abbrev r0_20 : Rect S1x8x512x256 := Rect.unit (s := S1x8x512x256) ![0, 7, 0, 0] S1x1x512x256.size inb_S1x8x512x256_S1x1x512x256_0_7_0_0
abbrev r0_21 : Rect S1024x2560 := Rect.unit (s := S1024x2560) ![0, 2304] S1024x128.size inb_S1024x2560_S1024x128_0_2304
abbrev r0_22 : Rect S1x128 := Rect.unit (s := S1x128) ![0, 0] S1x128.size inb_S1x128_S1x128_0_0
abbrev r0_23 : Rect S1024x2560 := Rect.unit (s := S1024x2560) ![0, 2432] S1024x128.size inb_S1024x2560_S1024x128_0_2432
abbrev r0_24 : Rect S1x512x128 := Rect.unit (s := S1x512x128) ![0, 0, 0] S1x512x128.size inb_S1x512x128_S1x512x128_0_0_0
abbrev r0_25 : Rect S1x512x32 := Rect.unit (s := S1x512x32) ![0, 0, 0] S1x512x32.size inb_S1x512x32_S1x512x32_0_0_0

/-! ## What the body leaves in each output window's buffer -/

/-! ### Values of the body that the stores' payloads, spelt out, would write more than once

    Each is a vector the body binds (often a part call's result), stated over the input windows' blocks and
    numbered on from the skeleton's payload functions (`k0_pay56` …, after `k0_pay55`), so that
    `out0_W` and the values after it name it instead of spelling it out (`unfold_out out0_W` opens a canon
    with them, `unfold_payloads` opens them with the payloads); the comment after each is the printed function's
    name for the value (a count appended where that name is bound again). -/

def k0_pay56 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x1024 .bf16 :=
  k0_pay3 (View.ld x0 r0_0) (View.ld x3 r0_1) (View.ld x1 r0_1) (View.ld x2 r0_1) -- `v26`
def k0_pay57 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay4 (View.ld x7 r0_2) -- `v28`
def k0_pay58 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay5 (View.ld x8 r0_2) -- `v30`
def k0_pay59 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay6 (View.ld x9 r0_2) -- `v32`
def k0_pay60 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay7 (View.ld x10 r0_2) -- `v34`
def k0_pay61 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x1024 .f32 :=
  k0_pay25 (k0_pay56 x0 x1 x2 x3 x4 x5 x6 x7 x8 x9 x10) (View.ld x4 r0_10) (View.ld x5 r0_11) -- `v179`
def k0_pay62 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay28 (k0_pay59 x0 x1 x2 x3 x4 x5 x6 x7 x8 x9 x10) (k0_pay60 x0 x1 x2 x3 x4 x5 x6 x7 x8 x9 x10) (k0_pay27 (k0_pay56 x0 x1 x2 x3 x4 x5 x6 x7 x8 x9 x10) (View.ld x4 r0_12)) (iota .tc S512x128 32 [1] iota_S512x128_d1_w32) 32#32 -- `v208`
def k0_pay63 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay29 (k0_pay26 (k0_pay56 x0 x1 x2 x3 x4 x5 x6 x7 x8 x9 x10) (View.ld x4 r0_12)) -- `v209`
def k0_pay64 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : IVec S512x128 1 :=
  k0_pay30 -- `v228`
def k0_pay65 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : IVec S512x128 32 :=
  iota .tc S512x128 32 [1] iota_S512x128_d1_w32 -- `v238`
def k0_pay66 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x256 .f32 :=
  k0_pay31 (k0_pay59 x0 x1 x2 x3 x4 x5 x6 x7 x8 x9 x10) (k0_pay60 x0 x1 x2 x3 x4 x5 x6 x7 x8 x9 x10) (k0_pay62 x0 x1 x2 x3 x4 x5 x6 x7 x8 x9 x10) (k0_pay63 x0 x1 x2 x3 x4 x5 x6 x7 x8 x9 x10) (k0_pay64 x0 x1 x2 x3 x4 x5 x6 x7 x8 x9 x10) 112#32 -- `v237`
def k0_pay67 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay52 (k0_pay56 x0 x1 x2 x3 x4 x5 x6 x7 x8 x9 x10) (View.ld x4 r0_21) -- `v529`
def k0_pay68 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : FVec F S512x128 .f32 :=
  k0_pay54 (k0_pay56 x0 x1 x2 x3 x4 x5 x6 x7 x8 x9 x10) (k0_pay59 x0 x1 x2 x3 x4 x5 x6 x7 x8 x9 x10) (k0_pay60 x0 x1 x2 x3 x4 x5 x6 x7 x8 x9 x10) (View.ld x4 r0_23) -- `v571`

/-- Window 11's staging buffer after the body, from the input windows' blocks: its 1 store as pieces, LAST
    FIRST (`View.canon`; the payloads are the body's own values and those stated above). -/
def out0_11 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay15 (k0_pay57 x0 x1 x2 x3 x4 x5 x6 x7 x8 x9 x10) (k0_pay58 x0 x1 x2 x3 x4 x5 x6 x7 x8 x9 x10) (k0_pay9 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (View.ld x4 r0_3)) (k0_pay10 (k0_pay56 x0 x1 x2 x3 x4 x5 x6 x7 x8 x9 x10) (View.ld x4 r0_3)) (Scalar.select (Scalar.cmpi .eq 64#32 0#32) 1#32 64#32) k0_pay11 k0_pay12 k0_pay13 k0_pay14⟩]

/-- Its stores tile the buffer (checked by evaluation), so they cover it. -/
theorem cover0_11 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 12's staging buffer after the body, from the input windows' blocks: its 1 store as pieces, LAST
    FIRST (`View.canon`; the payloads are the body's own values and those stated above). -/
def out0_12 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay20 (k0_pay57 x0 x1 x2 x3 x4 x5 x6 x7 x8 x9 x10) (k0_pay58 x0 x1 x2 x3 x4 x5 x6 x7 x8 x9 x10) (k0_pay16 (k0_pay56 x0 x1 x2 x3 x4 x5 x6 x7 x8 x9 x10) (View.ld x4 r0_5)) (k0_pay17 (k0_pay56 x0 x1 x2 x3 x4 x5 x6 x7 x8 x9 x10) (View.ld x4 r0_5)) k0_pay18 (k0_pay19 (k0_pay56 x0 x1 x2 x3 x4 x5 x6 x7 x8 x9 x10) (View.ld x4 r0_5)) 32#32⟩]

/-- Its stores tile the buffer (checked by evaluation), so they cover it. -/
theorem cover0_12 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 13's staging buffer after the body, from the input windows' blocks: its 1 store as pieces, LAST
    FIRST (`View.canon`; the payloads are the body's own values and those stated above). -/
def out0_13 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay21 (k0_pay56 x0 x1 x2 x3 x4 x5 x6 x7 x8 x9 x10) (View.ld x4 r0_6)⟩]

/-- Its stores tile the buffer (checked by evaluation), so they cover it. -/
theorem cover0_13 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 14's staging buffer after the body, from the input windows' blocks: its 1 store as pieces, LAST
    FIRST (`View.canon`; the payloads are the body's own values and those stated above). -/
def out0_14 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay22 (k0_pay56 x0 x1 x2 x3 x4 x5 x6 x7 x8 x9 x10) (View.ld x4 r0_7)⟩]

/-- Its stores tile the buffer (checked by evaluation), so they cover it. -/
theorem cover0_14 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 15's staging buffer after the body, from the input windows' blocks: its 1 store as pieces, LAST
    FIRST (`View.canon`; the payloads are the body's own values and those stated above). -/
def out0_15 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay23 (k0_pay56 x0 x1 x2 x3 x4 x5 x6 x7 x8 x9 x10) (View.ld x4 r0_8)⟩]

/-- Its stores tile the buffer (checked by evaluation), so they cover it. -/
theorem cover0_15 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 16's staging buffer after the body, from the input windows' blocks: its 1 store as pieces, LAST
    FIRST (`View.canon`; the payloads are the body's own values and those stated above). -/
def out0_16 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .f32 :=
  View.canon [⟨r0_4, k0_pay24 (k0_pay56 x0 x1 x2 x3 x4 x5 x6 x7 x8 x9 x10) (View.ld x4 r0_9)⟩]

/-- Its stores tile the buffer (checked by evaluation), so they cover it. -/
theorem cover0_16 (p0 : Vec F S1x512x256 .f32) (y : S1x512x256.Idx) :
    ∃ pc ∈ ([⟨r0_4, p0⟩] : List (View.Piece (Elt F) S1x512x256 .f32)), y ∈ pc.1.set :=
  View.cover_of_tiled [⟨r0_4, p0⟩] S1x512x256.size (by rfl) y

/-- Window 17's staging buffer after the body, from the input windows' blocks: its 8 stores as pieces, LAST
    FIRST (`View.canon`; the payloads are the body's own values and those stated above). -/
def out0_17 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x8x512x256 .bf16 :=
  View.canon [⟨r0_20, k0_pay51 (k0_pay61 x0 x1 x2 x3 x4 x5 x6 x7 x8 x9 x10) (k0_pay66 x0 x1 x2 x3 x4 x5 x6 x7 x8 x9 x10) (k0_pay65 x0 x1 x2 x3 x4 x5 x6 x7 x8 x9 x10)⟩,
    ⟨r0_19, k0_pay50 (k0_pay49 (k0_pay61 x0 x1 x2 x3 x4 x5 x6 x7 x8 x9 x10) (k0_pay66 x0 x1 x2 x3 x4 x5 x6 x7 x8 x9 x10) (k0_pay65 x0 x1 x2 x3 x4 x5 x6 x7 x8 x9 x10))⟩,
    ⟨r0_18, k0_pay48 (k0_pay61 x0 x1 x2 x3 x4 x5 x6 x7 x8 x9 x10) (k0_pay47 (k0_pay66 x0 x1 x2 x3 x4 x5 x6 x7 x8 x9 x10) (k0_pay65 x0 x1 x2 x3 x4 x5 x6 x7 x8 x9 x10))⟩,
    ⟨r0_17, k0_pay46 (k0_pay61 x0 x1 x2 x3 x4 x5 x6 x7 x8 x9 x10) (k0_pay43 (k0_pay66 x0 x1 x2 x3 x4 x5 x6 x7 x8 x9 x10)) (k0_pay44 (k0_pay65 x0 x1 x2 x3 x4 x5 x6 x7 x8 x9 x10)) (k0_pay45 (k0_pay65 x0 x1 x2 x3 x4 x5 x6 x7 x8 x9 x10))⟩,
    ⟨r0_16, k0_pay42 (k0_pay61 x0 x1 x2 x3 x4 x5 x6 x7 x8 x9 x10) (k0_pay65 x0 x1 x2 x3 x4 x5 x6 x7 x8 x9 x10) (k0_pay39 (k0_pay66 x0 x1 x2 x3 x4 x5 x6 x7 x8 x9 x10)) 32#32 (k0_pay40 (k0_pay65 x0 x1 x2 x3 x4 x5 x6 x7 x8 x9 x10)) (k0_pay41 (k0_pay65 x0 x1 x2 x3 x4 x5 x6 x7 x8 x9 x10)) (Scalar.extui (Scalar.cmpi .sgt 32#32 0#32)) (Scalar.cmpi .slt 32#32 0#32)⟩,
    ⟨r0_15, k0_pay38 (k0_pay61 x0 x1 x2 x3 x4 x5 x6 x7 x8 x9 x10) (k0_pay65 x0 x1 x2 x3 x4 x5 x6 x7 x8 x9 x10) (k0_pay35 (k0_pay66 x0 x1 x2 x3 x4 x5 x6 x7 x8 x9 x10)) 32#32 (k0_pay36 (k0_pay65 x0 x1 x2 x3 x4 x5 x6 x7 x8 x9 x10)) (k0_pay37 (k0_pay65 x0 x1 x2 x3 x4 x5 x6 x7 x8 x9 x10))⟩,
    ⟨r0_14, k0_pay34 (k0_pay61 x0 x1 x2 x3 x4 x5 x6 x7 x8 x9 x10) (k0_pay66 x0 x1 x2 x3 x4 x5 x6 x7 x8 x9 x10) (k0_pay65 x0 x1 x2 x3 x4 x5 x6 x7 x8 x9 x10)⟩,
    ⟨r0_13, k0_pay33 (k0_pay32 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay62 x0 x1 x2 x3 x4 x5 x6 x7 x8 x9 x10) (k0_pay63 x0 x1 x2 x3 x4 x5 x6 x7 x8 x9 x10) (k0_pay64 x0 x1 x2 x3 x4 x5 x6 x7 x8 x9 x10) 112#32)⟩]

/-- Its stores tile the buffer (checked by evaluation), so they cover it. -/
theorem cover0_17 (p0 : Vec F S1x1x512x256 .bf16) (p1 : Vec F S1x1x512x256 .bf16) (p2 : Vec F S1x1x512x256 .bf16) (p3 : Vec F S1x1x512x256 .bf16) (p4 : Vec F S1x1x512x256 .bf16) (p5 : Vec F S1x1x512x256 .bf16) (p6 : Vec F S1x1x512x256 .bf16) (p7 : Vec F S1x1x512x256 .bf16) (y : S1x8x512x256.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S1x8x512x256 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩] S1x1x512x256.size (by rfl) y

/-- Window 18's staging buffer after the body, from the input windows' blocks: its 1 store as pieces, LAST
    FIRST (`View.canon`; the payloads are the body's own values and those stated above). -/
def out0_18 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x256 .bf16 :=
  View.canon [⟨r0_4, k0_pay2 (k0_pay53 (k0_pay67 x0 x1 x2 x3 x4 x5 x6 x7 x8 x9 x10) (View.ld x6 r0_22)) (k0_pay68 x0 x1 x2 x3 x4 x5 x6 x7 x8 x9 x10)⟩]

/-- Its stores tile the buffer (checked by evaluation), so they cover it. -/
theorem cover0_18 (p0 : Vec F S1x512x256 .bf16) (y : S1x512x256.Idx) :
    ∃ pc ∈ ([⟨r0_4, p0⟩] : List (View.Piece (Elt F) S1x512x256 .bf16)), y ∈ pc.1.set :=
  View.cover_of_tiled [⟨r0_4, p0⟩] S1x512x256.size (by rfl) y

/-- Window 19's staging buffer after the body, from the input windows' blocks: its 1 store as pieces, LAST
    FIRST (`View.canon`; the payloads are the body's own values and those stated above). -/
def out0_19 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x128 .f32 :=
  View.canon [⟨r0_24, k0_pay55 (k0_pay67 x0 x1 x2 x3 x4 x5 x6 x7 x8 x9 x10) (View.ld x6 r0_22)⟩]

/-- Its stores tile the buffer (checked by evaluation), so they cover it. -/
theorem cover0_19 (p0 : Vec F S1x512x128 .f32) (y : S1x512x128.Idx) :
    ∃ pc ∈ ([⟨r0_24, p0⟩] : List (View.Piece (Elt F) S1x512x128 .f32)), y ∈ pc.1.set :=
  View.cover_of_tiled [⟨r0_24, p0⟩] S1x512x128.size (by rfl) y

/-- Window 20's staging buffer after the body, from the input windows' blocks: its 1 store as pieces, LAST
    FIRST (`View.canon`; the payloads are the body's own values and those stated above). -/
def out0_20 (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) : Vec F S1x512x32 .f32 :=
  View.canon [⟨r0_25, k0_pay1 (k0_pay68 x0 x1 x2 x3 x4 x5 x6 x7 x8 x9 x10)⟩]

/-- Its stores tile the buffer (checked by evaluation), so they cover it. -/
theorem cover0_20 (p0 : Vec F S1x512x32 .f32) (y : S1x512x32.Idx) :
    ∃ pc ∈ ([⟨r0_25, p0⟩] : List (View.Piece (Elt F) S1x512x32 .f32)), y ∈ pc.1.set :=
  View.cover_of_tiled [⟨r0_25, p0⟩] S1x512x32.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are run operation by operation, through every part call. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x2560 .bf16) (harg6 : arg6.IsWhole) (arg7 : Memref sig .tc .vmem S512x1024 .bf16) (harg7 : arg7.IsWhole) (arg8 : Memref sig .tc .vmem S1x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512x256 .f32) (harg13 : arg13.IsWhole) (arg14 : Memref sig .tc .vmem S1x512x256 .f32) (harg14 : arg14.IsWhole) (arg15 : Memref sig .tc .vmem S1x512x256 .f32) (harg15 : arg15.IsWhole) (arg16 : Memref sig .tc .vmem S1x512x256 .f32) (harg16 : arg16.IsWhole) (arg17 : Memref sig .tc .vmem S1x512x256 .f32) (harg17 : arg17.IsWhole) (arg18 : Memref sig .tc .vmem S1x512x256 .f32) (harg18 : arg18.IsWhole) (arg19 : Memref sig .tc .vmem S1x8x512x256 .bf16) (harg19 : arg19.IsWhole) (arg20 : Memref sig .tc .vmem S1x512x256 .bf16) (harg20 : arg20.IsWhole) (arg21 : Memref sig .tc .vmem S1x512x128 .f32) (harg21 : arg21.IsWhole) (arg22 : Memref sig .tc .vmem S1x512x32 .f32) (harg22 : arg22.IsWhole)
    (x0 : Vec F S1x512x1024 .f32) (x1 : Vec F S1x1x1024 .f32) (x2 : Vec F S1x1x1024 .f32) (x3 : Vec F S1x1x1024 .f32) (x4 : Vec F S1024x2560 .bf16) (x5 : Vec F S512x1024 .bf16) (x6 : Vec F S1x128 .f32) (x7 : Vec F S512x128 .f32) (x8 : Vec F S512x128 .f32) (x9 : Vec F S512x128 .f32) (x10 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out0_11 x0 x1 x2 x3 x4 x5 x6 x7 x8 x9 x10) ∗ owns (c : Thread nD τ) arg14 fullShare (out0_12 x0 x1 x2 x3 x4 x5 x6 x7 x8 x9 x10) ∗ owns (c : Thread nD τ) arg15 fullShare (out0_13 x0 x1 x2 x3 x4 x5 x6 x7 x8 x9 x10) ∗ owns (c : Thread nD τ) arg16 fullShare (out0_14 x0 x1 x2 x3 x4 x5 x6 x7 x8 x9 x10) ∗ owns (c : Thread nD τ) arg17 fullShare (out0_15 x0 x1 x2 x3 x4 x5 x6 x7 x8 x9 x10) ∗ owns (c : Thread nD τ) arg18 fullShare (out0_16 x0 x1 x2 x3 x4 x5 x6 x7 x8 x9 x10) ∗ owns (c : Thread nD τ) arg19 fullShare (out0_17 x0 x1 x2 x3 x4 x5 x6 x7 x8 x9 x10) ∗ owns (c : Thread nD τ) arg20 fullShare (out0_18 x0 x1 x2 x3 x4 x5 x6 x7 x8 x9 x10) ∗ owns (c : Thread nD τ) arg21 fullShare (out0_19 x0 x1 x2 x3 x4 x5 x6 x7 x8 x9 x10) ∗ owns (c : Thread nD τ) arg22 fullShare (out0_20 x0 x1 x2 x3 x4 x5 x6 x7 x8 x9 x10)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's (`ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data read at that window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, at any float values: the run ends, keeps its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v87_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v87_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v87_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v87_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v87_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v87_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v87_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v87_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v87_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v87_9) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

set_option maxHeartbeats 1000000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v87_0) = (dats m 0 c).arrAt 11 cfg0.N
      ∧ r.2.mem ((c : Thread nD τ).loc main_v87_1) = (dats m 0 c).arrAt 12 cfg0.N
      ∧ r.2.mem ((c : Thread nD τ).loc main_v87_2) = (dats m 0 c).arrAt 13 cfg0.N
      ∧ r.2.mem ((c : Thread nD τ).loc main_v87_3) = (dats m 0 c).arrAt 14 cfg0.N
      ∧ r.2.mem ((c : Thread nD τ).loc main_v87_4) = (dats m 0 c).arrAt 15 cfg0.N
      ∧ r.2.mem ((c : Thread nD τ).loc main_v87_5) = (dats m 0 c).arrAt 16 cfg0.N
      ∧ r.2.mem ((c : Thread nD τ).loc main_v87_6) = (dats m 0 c).arrAt 17 cfg0.N
      ∧ r.2.mem ((c : Thread nD τ).loc main_v87_7) = (dats m 0 c).arrAt 18 cfg0.N
      ∧ r.2.mem ((c : Thread nD τ).loc main_v87_8) = (dats m 0 c).arrAt 19 cfg0.N
      ∧ r.2.mem ((c : Thread nD τ).loc main_v87_9) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel2Ideal.Run

end
-- ==== Proof.InBits.lean ====
/- The input projection as printed for the bits and as printed for the ideal instance are one program, so the run proved
   of the second is the first's. -/
module

public import proofs.«01_k».proof.Defs
public import proofs.«01_k».proof.Proof.Gen.Kernel2
public import proofs.«01_k».proof.Proof.ProjRun

@[expose] public section

set_option maxRecDepth 100000

noncomputable section

namespace Cert.InProj.Bits

open Idealize.ShloMosaic Idealize.ShloMosaic.TcCoe Idealize.SL.Sem

set_option maxHeartbeats 4000000 in
/-- The bodies are one function. -/
theorem body_eq : Cert.Kernel2.cc0_inproj (F := Idealize.ShloMosaic.Bits) = Cert.Kernel2Ideal.cc0_inproj := rfl

set_option maxHeartbeats 4000000 in
/-- So are the tables that call them, at each argument of the body. -/
theorem table_eq : Cert.Kernel2.defs₀ (F := Idealize.ShloMosaic.Bits) = Cert.Kernel2Ideal.defs₀ := by
  unfold Cert.Kernel2.defs₀ Cert.Kernel2Ideal.defs₀
  refine congrArg Defs.onTc ?_
  funext l x
  fin_cases l
  obtain ⟨t, s⟩ := x
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _) _) _) _) _) _) _) _) _

set_option maxHeartbeats 4000000 in
theorem defs_eq : Cert.Kernel2.defs (F := Idealize.ShloMosaic.Bits) = Cert.Kernel2Ideal.defs :=
  congrArg (Pipeline.defs _) table_eq

set_option maxHeartbeats 4000000 in
theorem main_eq : Cert.Kernel2.main (F := Idealize.ShloMosaic.Bits) = Cert.Kernel2Ideal.main := rfl

set_option maxHeartbeats 4000000 in
/-- The kernel runs, keeps its arguments, and leaves its semaphores at zero, at the bits. -/
theorem frame_bits : Cert.quiescent_Kernel2 := fun m g _ => by
  rw [defs_eq, main_eq]
  exact Cert.Kernel2Ideal.Run.frame (F := Idealize.ShloMosaic.Bits) m g

end Cert.InProj.Bits
-- ==== Proof.InForm.lean ====
/- The closed form of the input projection: one token's normalised and modulated row, its projections, and the ten results
   read off them; and the arithmetic by which the kernel's rotary step and its block-diagonal product come to that form. -/
module

public import Idealize.ShloMosaic.Lib.Pointwise

@[expose] public section

set_option maxRecDepth 16384

noncomputable section

namespace Cert.InProj

open Idealize.ShloMosaic Idealize.ShloMosaic.TcCoe

/-- A row's inverse root mean square, over `n` entries, `l` being the word of `n`. -/
def irms {n : ℕ} (l : BitVec 32) (x : Fin n → EReal) : EReal :=
  Ideal.rsqrt (Ideal.div (∑ e, x e * x e) (Ideal.ofBits .f32 l) + Ideal.ofBits .f32 897988541#32)

/-- One token's row: normalised, times the gain, modulated. -/
def hid (x g s t : Fin 1024 → EReal) (d : Fin 1024) : EReal :=
  x d * irms 1149239296#32 x * g d * (1 + s d) + t d

/-- Column `n` of the row's projection. -/
def proj (h : Fin 1024 → EReal) (W : Fin 1024 → Fin 2464 → EReal) (n : ℕ) : EReal :=
  if hn : n < 2464 then ∑ d, h d * W d ⟨n, hn⟩ else 0

theorem proj_of_lt (h : Fin 1024 → EReal) (W : Fin 1024 → Fin 2464 → EReal) (n : ℕ) (hn : n < 2464) :
    proj h W n = ∑ d, h d * W d ⟨n, hn⟩ := dif_pos hn

/-- The rotation angle of position `p` and frequency `j`, `D` being the word of the head's width. -/
def ang (D : BitVec 32) (p j : ℕ) : EReal :=
  FloatOps.sitofp (F := Ideal) FTy.f32 (BitVec.ofNat 32 p) *
    Ideal.pow (Ideal.ofBits FTy.f32 1176256512#32)
      (Ideal.div (-(Ideal.ofBits FTy.f32 1073741824#32 * FloatOps.sitofp (F := Ideal) FTy.f32 (BitVec.ofNat 32 j)))
        (Ideal.ofBits FTy.f32 D))

/-- Entry `j` of a head of width `2 H`, rotated by its position. -/
def rot (D : BitVec 32) (H : ℕ) (y : ℕ → EReal) (p j : ℕ) : EReal :=
  if j < H then y j * Ideal.cos (ang D p j) - y (j + H) * Ideal.sin (ang D p j)
  else y (j - H) * Ideal.sin (ang D p (j - H)) + y j * Ideal.cos (ang D p (j - H))

theorem rot_congr (D : BitVec 32) (H : ℕ) {y z : ℕ → EReal} (p j : ℕ) (hj : j < 2 * H) (h : ∀ i < 2 * H, y i = z i) :
    rot D H y p j = rot D H z p j := by
  unfold rot
  split_ifs with hH
  · rw [h j hj, h (j + H) (by omega)]
  · rw [h j hj, h (j - H) (by omega)]

/-- A rotated entry written with its four columns named. -/
theorem rot_mk {D : BitVec 32} {H p j : ℕ} (Y : ℕ → EReal) (o : ℕ) {a b c d : ℕ} (ha : j < H → a = o + j) (hb : j < H → b = o + (j + H))
    (hc : ¬ j < H → c = o + (j - H)) (hd : ¬ j < H → d = o + j) :
    (if _ : j < H then Y a * Ideal.cos (ang D p j) - Y b * Ideal.sin (ang D p j)
      else Y c * Ideal.sin (ang D p (j - H)) + Y d * Ideal.cos (ang D p (j - H)))
      = rot D H (fun i => Y (o + i)) p j := by
  unfold rot
  split_ifs with h
  · rw [ha h, hb h]
  · rw [hc h, hd h]

/-- The cosine table's lane `l`. -/
def cosT (D : BitVec 32) (H p l : ℕ) : EReal :=
  if l % (2 * H) < H then Ideal.cos (ang D p (l % (2 * H))) else Ideal.cos (ang D p (l % (2 * H) - H))

/-- The signed sine table's lane `l`. -/
def sinT (D : BitVec 32) (H p l : ℕ) : EReal :=
  if l % (2 * H) < H then -Ideal.sin (ang D p (l % (2 * H))) else Ideal.sin (ang D p (l % (2 * H) - H))

/-- A lane's remainder by the head width `d`, as the kernel's integers compute it, compared with half the width. -/
def flag (d h : BitVec 32) (l : ℕ) : BitVec 1 :=
  IntOp.cmpi CmpIPredicate.slt
    (Scalar.select
      (IntOp.andi
        (IntOp.xori
          (IntOp.cmpi CmpIPredicate.slt
            (IntOp.remsi ArithUnit.vector (BitVec.ofNat 32 l)
              (Scalar.select (Scalar.cmpi CmpIPredicate.eq d 0#32) 1#32 d))
            0#32)
          (Scalar.cmpi CmpIPredicate.slt (Scalar.select (Scalar.cmpi CmpIPredicate.eq d 0#32) 1#32 d)
            0#32))
        (IntOp.cmpi CmpIPredicate.ne
          (IntOp.remsi ArithUnit.vector (BitVec.ofNat 32 l)
            (Scalar.select (Scalar.cmpi CmpIPredicate.eq d 0#32) 1#32 d))
          0#32))
      (IntOp.addi
        (IntOp.remsi ArithUnit.vector (BitVec.ofNat 32 l)
          (Scalar.select (Scalar.cmpi CmpIPredicate.eq d 0#32) 1#32 d))
        (Scalar.select (Scalar.cmpi CmpIPredicate.eq d 0#32) 1#32 d))
      (IntOp.remsi ArithUnit.vector (BitVec.ofNat 32 l)
        (Scalar.select (Scalar.cmpi CmpIPredicate.eq d 0#32) 1#32 d)))
    h

theorem flag64 (l : ℕ) (hl : l < 128) : flag 64#32 32#32 l = if l % 64 < 32 then 1#1 else 0#1 :=
  (by decide : ∀ l : Fin 128, flag 64#32 32#32 l.val = if l.val % 64 < 32 then 1#1 else 0#1) ⟨l, hl⟩

theorem flag32 (l : ℕ) (hl : l < 128) : flag 32#32 16#32 l = if l % 32 < 16 then 1#1 else 0#1 :=
  (by decide : ∀ l : Fin 128, flag 32#32 16#32 l.val = if l.val % 32 < 16 then 1#1 else 0#1) ⟨l, hl⟩

/-- A lane's quotient by 32, as the kernel's integers compute it, compared with `k`. -/
def slot (k : BitVec 32) (l : ℕ) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 l) 0#32))
            (BitVec.setWidth 32 (IntOp.cmpi CmpIPredicate.slt (BitVec.ofNat 32 l) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 l) 32#32) 0#32))
      (IntOp.subi (IntOp.divsi ArithUnit.vector (BitVec.ofNat 32 l) 32#32) 1#32)
      (IntOp.divsi ArithUnit.vector (BitVec.ofNat 32 l) 32#32))
    k

theorem slot_eq (k : ℕ) (hk : k < 4) (l : ℕ) (hl : l < 128) : slot (BitVec.ofNat 32 k) l = if l / 32 = k then 1#1 else 0#1 :=
  (by decide : ∀ k : Fin 4, ∀ l : Fin 128, slot (BitVec.ofNat 32 k.val) l.val = if l.val / 32 = k.val then 1#1 else 0#1) ⟨k, hk⟩ ⟨l, hl⟩

/-- One lane of the kernel's rotary step: the lane times the cosine, its partner lane times the signed sine. -/
theorem rot64 (v : ℕ → EReal) (p l : ℕ) (hl : l < 128) :
    v l * cosT 1115684864#32 32 p l
        + Scalar.select (flag 64#32 32#32 l) (v ((l + 128 - 96) % 128)) (v ((l + 128 - 32) % 128)) * sinT 1115684864#32 32 p l
      = rot 1115684864#32 32 (fun j => v (l / 64 * 64 + j)) p (l % 64) := by
  rw [flag64 l hl, cosT, sinT, rot]
  by_cases h : l % 64 < 32
  · rw [if_pos h, if_pos h, if_pos h, if_pos h, show l / 64 * 64 + l % 64 = l by omega,
      show (l + 128 - 96) % 128 = l / 64 * 64 + (l % 64 + 32) by omega, sub_eq_add_neg, ← mul_neg]
    rfl
  · rw [if_neg h, if_neg h, if_neg h, if_neg h, show l / 64 * 64 + l % 64 = l by omega,
      show (l + 128 - 32) % 128 = l / 64 * 64 + (l % 64 - 32) by omega, add_comm]
    rfl

theorem rot32 (v : ℕ → EReal) (p l : ℕ) (hl : l < 128) :
    v l * cosT 1107296256#32 16 p l
        + Scalar.select (flag 32#32 16#32 l) (v ((l + 128 - 112) % 128)) (v ((l + 128 - 16) % 128)) * sinT 1107296256#32 16 p l
      = rot 1107296256#32 16 (fun j => v (l / 32 * 32 + j)) p (l % 32) := by
  rw [flag32 l hl, cosT, sinT, rot]
  by_cases h : l % 32 < 16
  · rw [if_pos h, if_pos h, if_pos h, if_pos h, show l / 32 * 32 + l % 32 = l by omega,
      show (l + 128 - 112) % 128 = l / 32 * 32 + (l % 32 + 16) by omega, sub_eq_add_neg, ← mul_neg]
    rfl
  · rw [if_neg h, if_neg h, if_neg h, if_neg h, show l / 32 * 32 + l % 32 = l by omega,
      show (l + 128 - 16) % 128 = l / 32 * 32 + (l % 32 - 16) by omega, add_comm]
    rfl

/-- The second slab of 128 lanes, counted from the first. -/
theorem two64 (y : ℕ → EReal) (p n : ℕ) (h : ¬ n < 128) :
    rot 1115684864#32 32 (fun j => y (128 + ((n - 128) / 64 * 64 + j))) p ((n - 128) % 64)
      = rot 1115684864#32 32 (fun j => y (n / 64 * 64 + j)) p (n % 64) := by
  have e : (fun j => y (128 + ((n - 128) / 64 * 64 + j))) = fun j => y (n / 64 * 64 + j) := by
    funext j; congr 1; omega
  rw [e, show (n - 128) % 64 = n % 64 by omega]

theorem two32 (y : ℕ → EReal) (p n : ℕ) (h : ¬ n < 128) :
    rot 1107296256#32 16 (fun j => y (128 + ((n - 128) / 32 * 32 + j))) p ((n - 128) % 32)
      = rot 1107296256#32 16 (fun j => y (n / 32 * 32 + j)) p (n % 32) := by
  have e : (fun j => y (128 + ((n - 128) / 32 * 32 + j))) = fun j => y (n / 32 * 32 + j) := by
    funext j; congr 1; omega
  rw [e, show (n - 128) % 32 = n % 32 by omega]

/-- A sum over 512 columns, head by head. -/
theorem sum512 (f : ℕ → EReal) : ∑ y : Fin 512, f y = ∑ h : Fin 8, ∑ j : Fin 64, f (h * 64 + j) := by
  rw [← Fintype.sum_prod_type' (f := fun (h : Fin 8) (j : Fin 64) => f (h * 64 + j))]
  exact (Fintype.sum_equiv (finProdFinEquiv (m := 8) (n := 64)) _ _ fun ⟨h, j⟩ => by
    show f (h.val * 64 + j.val) = f (j.val + 64 * h.val)
    congr 1; ring).symm

/-- A product with a block-diagonal matrix: the sum over the head's own block. -/
theorem sum_diag (y : ℕ → EReal) (u : ℕ → ℕ → EReal) (hd : Fin 8) :
    ∑ k : Fin 512, y k * ((if k.val / 64 = hd.val then (1 : EReal) else 0) * u (k.val / 64) (k.val % 64))
      = ∑ j : Fin 64, u hd j * y (hd * 64 + j) := by
  rw [sum512 (fun k => y k * ((if k / 64 = hd.val then (1 : EReal) else 0) * u (k / 64) (k % 64))),
    Finset.sum_eq_single hd]
  · refine Finset.sum_congr rfl fun j _ => ?_
    rw [show (hd.val * 64 + j.val) / 64 = hd.val by omega, show (hd.val * 64 + j.val) % 64 = j.val by omega, if_pos rfl, one_mul, mul_comm]
  · intro h _ hne
    refine Finset.sum_eq_zero fun j _ => ?_
    rw [if_neg, zero_mul, mul_zero]
    intro e
    exact hne (Fin.ext (by omega))
  · intro h; exact absurd (Finset.mem_univ _) h

/-- Where column `n` of the kernel's projection lies among the layer's columns. -/
def cm (n : ℕ) : ℕ :=
  if n < 1536 then n
  else if n < 2048 then 1536 + (n - 1536) / 64 * 96 + (n - 1536) % 64
  else if n < 2304 then 1536 + (n - 2048) / 32 * 96 + 64 + (n - 2048) % 32
  else if n < 2432 then n
  else 2432 + (n - 2432) % 32

theorem cm_lt (n : ℕ) (h : n < 2560) : cm n < 2464 := by unfold cm; split_ifs <;> omega

/-- The compressed keys and values: the normalised columns 2304 … 2431. -/
def ckv (y : ℕ → EReal) (g : Fin 128 → EReal) (n : Fin 128) : EReal :=
  y (2304 + n) * irms 1124073472#32 (fun e : Fin 128 => y (2304 + e)) * g n

/-- The rotated key part: columns 2432 … 2463. -/
def kr (y : ℕ → EReal) (p n : ℕ) : EReal := rot 1107296256#32 16 (fun j => y (2432 + j)) p n

/-- A retention query or key: columns `o …`, heads of width 64, rotated. -/
def ret (o : ℕ) (y : ℕ → EReal) (p n : ℕ) : EReal := rot 1115684864#32 32 (fun j => y (o + n / 64 * 64 + j)) p (n % 64)

/-- Head `h`'s rotated query part. -/
def qr (y : ℕ → EReal) (p h n : ℕ) : EReal := rot 1107296256#32 16 (fun j => y (1536 + h * 96 + 64 + j)) p n

/-- Head `h`'s query in the compressed space, scaled. -/
def ql (y : ℕ → EReal) (u : Fin 64 → EReal) (h : ℕ) : EReal :=
  (∑ j, u j * y (1536 + h * 96 + j)) * Ideal.ofBits FTy.f32 1037108716#32

/-- The queries the attention reads: the compressed part, then the rotated part in the head's own 32 of 128 lanes. -/
def qcat (y : ℕ → EReal) (U : Fin 128 → Fin 8 → Fin 128 → EReal) (p : ℕ) (h : Fin 8) (n : Fin 256) : EReal :=
  if hn : n.val < 128 then ql y (fun j => U ⟨n, hn⟩ h ⟨j, by omega⟩) h
  else if (n.val - 128) / 32 = h.val % 4 then qr y p h ((n.val - 128) % 32) * Ideal.ofBits FTy.f32 1037108716#32 else 0

/-- The keys the attention reads: the compressed part, then the rotated part four times. -/
def kcat (y : ℕ → EReal) (g : Fin 128 → EReal) (p : ℕ) (n : Fin 256) : EReal :=
  if hn : n.val < 128 then ckv y g ⟨n, hn⟩ else kr y p ((n.val - 128) % 32)

end Cert.InProj
-- ==== Proof.InRef.lean ====
/- The reference of the input projection, read at an index: its ten results in closed form. -/
module

public import proofs.«01_k».proof.Proof.InForm
public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.InRef

open Cert.Reference2Ideal Cert.Reference2Ideal.Gen Cert.Reference2Ideal.Read Cert.InProj
open Idealize.ShloMosaic Idealize.ShloMosaic.TcCoe Idealize.ShloMosaic.Tactic Idealize.SL.Sem

variable (x0 : FVec Ideal S2x8192x1024 .f32) (x1 x2 : FVec Ideal S2x1024 .f32) (x3 : FVec Ideal S1024 .f32) (x4 : FVec Ideal S1024x2464 .f32) (x5 : FVec Ideal S128x8x128 .f32) (x6 : FVec Ideal S128 .f32)

/-- One token's projections. -/
abbrev row (b : Fin 2) (p : Fin 8192) : ℕ → EReal :=
  proj (hid (fun d => x0 (ix3 b p d)) (fun d => x3 (ix1 d)) (fun d => x1 (ix2 b d)) (fun d => x2 (ix2 b d))) fun d n => x4 (ix2 d n)

set_option maxHeartbeats 2000000 in
theorem y_apply (b : Fin 2) (p : Fin 8192) (n : Fin 2464) : val_main_v22 (F := Ideal) x0 x1 x2 x3 x4 (ix3 b p n) = row x0 x1 x2 x3 x4 b p n := by
  unfold val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_cst val_main_cst_0 val_main_cst_1 val_main_cst_2
  pointwise
  rw [row, proj_of_lt _ _ _ n.isLt]
  rfl

set_option maxHeartbeats 2000000 in
theorem rq_apply (b : Fin 2) (p : Fin 8192) (n : Fin 256) : val_main_v224 (F := Ideal) x0 x1 x2 x3 x4 (ix3 b p n) = ret 0 (row x0 x1 x2 x3 x4 b p) p n := by
  have hy := y_apply x0 x1 x2 x3 x4 b p
  unfold val_main_v224 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v23 val_main_v0 val_main_cst_3 val_main_cst_4 val_main_cst_5 val_main_cst_6
  generalize val_main_v22 (F := Ideal) x0 x1 x2 x3 x4 = y at hy ⊢
  pointwise
  simp only [hy]
  exact rot_mk (row x0 x1 x2 x3 x4 b p) (0 + n.val / 64 * 64) (by omega) (by omega) (by omega) (by omega)

set_option maxHeartbeats 2000000 in
theorem kr_apply (b : Fin 2) (p : Fin 8192) (n : Fin 32) : val_main_v199 (F := Ideal) x0 x1 x2 x3 x4 (ix3 b p n) = kr (row x0 x1 x2 x3 x4 b p) p n := by
  have hy := y_apply x0 x1 x2 x3 x4 b p
  unfold val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v31 val_main_v0 val_main_cst_18 val_main_cst_19 val_main_cst_20 val_main_cst_21
  generalize val_main_v22 (F := Ideal) x0 x1 x2 x3 x4 = y at hy ⊢
  pointwise
  simp only [hy]
  exact rot_mk (row x0 x1 x2 x3 x4 b p) (2432) (by omega) (by omega) (by omega) (by omega)

set_option maxHeartbeats 2000000 in
theorem ckv_apply (b : Fin 2) (p : Fin 8192) (n : Fin 128) : val_main_v160 (F := Ideal) x0 x1 x2 x3 x4 x6 (ix3 b p n) = ckv (row x0 x1 x2 x3 x4 b p) (fun d => x6 (ix1 d)) n := by
  have hy := y_apply x0 x1 x2 x3 x4 b p
  unfold val_main_v160 val_main_v159 val_main_v158 val_main_v157 val_main_v156 val_main_v155 val_main_v154 val_main_v153 val_main_v152 val_main_v151 val_main_v150 val_main_v149 val_main_v148 val_main_v30 val_main_cst_15 val_main_cst_16 val_main_cst_17
  generalize val_main_v22 (F := Ideal) x0 x1 x2 x3 x4 = y at hy ⊢
  pointwise
  simp only [hy, ckv, irms]

set_option maxHeartbeats 2000000 in
theorem qr_apply (b : Fin 2) (p : Fin 8192) (h : Fin 8) (n : Fin 32) : val_main_v147 (F := Ideal) x0 x1 x2 x3 x4 (ix4 b p h n) = qr (row x0 x1 x2 x3 x4 b p) p h n := by
  have hy := y_apply x0 x1 x2 x3 x4 b p
  unfold val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v108 val_main_v29 val_main_v0 val_main_cst_11 val_main_cst_12 val_main_cst_13 val_main_cst_14
  generalize val_main_v22 (F := Ideal) x0 x1 x2 x3 x4 = y at hy ⊢
  pointwise
  simp only [hy]
  exact rot_mk (row x0 x1 x2 x3 x4 b p) (1536 + h.val * 96 + 64) (by omega) (by omega) (by omega) (by omega)

set_option maxHeartbeats 2000000 in
theorem ql_apply (b : Fin 2) (p : Fin 8192) (h : Fin 8) (n : Fin 128) : val_main_v204 (F := Ideal) x0 x1 x2 x3 x4 x5 (ix4 b h p n) = ql (row x0 x1 x2 x3 x4 b p) (fun j => x5 (ix3 n h ⟨j, by omega⟩)) h := by
  have hy := y_apply x0 x1 x2 x3 x4 b p
  unfold val_main_v204 val_main_v203 val_main_v202 val_main_v201 val_main_v200 val_main_v109 val_main_v108 val_main_v29 val_main_cst_22
  generalize val_main_v22 (F := Ideal) x0 x1 x2 x3 x4 = y at hy ⊢
  pointwise
  simp only [hy, ql, ← Nat.add_assoc]

set_option maxHeartbeats 2000000 in
theorem rk_apply (b : Fin 2) (p : Fin 8192) (n : Fin 256) : val_main_v225 (F := Ideal) x0 x1 x2 x3 x4 (ix3 b p n) = ret 256 (row x0 x1 x2 x3 x4 b p) p n := by
  have hy := y_apply x0 x1 x2 x3 x4 b p
  unfold val_main_v225 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v24 val_main_v0 val_main_cst_7 val_main_cst_8 val_main_cst_9 val_main_cst_10
  generalize val_main_v22 (F := Ideal) x0 x1 x2 x3 x4 = y at hy ⊢
  pointwise
  simp only [hy]
  exact rot_mk (row x0 x1 x2 x3 x4 b p) (256 + n.val / 64 * 64) (by omega) (by omega) (by omega) (by omega)

set_option maxHeartbeats 2000000 in
theorem rv_apply (b : Fin 2) (p : Fin 8192) (n : Fin 256) : val_main_v25 (F := Ideal) x0 x1 x2 x3 x4 (ix3 b p n) = (row x0 x1 x2 x3 x4 b p) (512 + n) := by
  have hy := y_apply x0 x1 x2 x3 x4 b p
  unfold val_main_v25
  generalize val_main_v22 (F := Ideal) x0 x1 x2 x3 x4 = y at hy ⊢
  pointwise
  simp only [hy]

set_option maxHeartbeats 2000000 in
theorem rg_apply (b : Fin 2) (p : Fin 8192) (n : Fin 256) : val_main_v26 (F := Ideal) x0 x1 x2 x3 x4 (ix3 b p n) = (row x0 x1 x2 x3 x4 b p) (768 + n) := by
  have hy := y_apply x0 x1 x2 x3 x4 b p
  unfold val_main_v26
  generalize val_main_v22 (F := Ideal) x0 x1 x2 x3 x4 = y at hy ⊢
  pointwise
  simp only [hy]

set_option maxHeartbeats 2000000 in
theorem lx_apply (b : Fin 2) (p : Fin 8192) (n : Fin 256) : val_main_v27 (F := Ideal) x0 x1 x2 x3 x4 (ix3 b p n) = (row x0 x1 x2 x3 x4 b p) (1024 + n) := by
  have hy := y_apply x0 x1 x2 x3 x4 b p
  unfold val_main_v27
  generalize val_main_v22 (F := Ideal) x0 x1 x2 x3 x4 = y at hy ⊢
  pointwise
  simp only [hy]

set_option maxHeartbeats 2000000 in
theorem lg_apply (b : Fin 2) (p : Fin 8192) (n : Fin 256) : val_main_v28 (F := Ideal) x0 x1 x2 x3 x4 (ix3 b p n) = (row x0 x1 x2 x3 x4 b p) (1280 + n) := by
  have hy := y_apply x0 x1 x2 x3 x4 b p
  unfold val_main_v28
  generalize val_main_v22 (F := Ideal) x0 x1 x2 x3 x4 = y at hy ⊢
  pointwise
  simp only [hy]

theorem zero_lit : Ideal.ofBits FTy.f32 0#32 = (0 : EReal) := by simp [Ideal.ofBits, Ideal.ieee]

/-- Which of the four slots of 32 lanes is head `h`'s own. -/
theorem mine (h : Fin 8) (l : ℕ) (hl : l < 4) :
    IntOp.cmpi CmpIPredicate.eq
      (Scalar.select
        (IntOp.andi
          (IntOp.cmpi CmpIPredicate.ne
            (IntOp.cmpi CmpIPredicate.slt
              (IntOp.remsi ArithUnit.host (BitVec.ofNat 32 h)
                (Scalar.select (IntOp.cmpi CmpIPredicate.eq 4#32 0#32) (1#32) 4#32))
              0#32)
            (IntOp.cmpi CmpIPredicate.slt
              (Scalar.select (IntOp.cmpi CmpIPredicate.eq 4#32 0#32) (1#32) 4#32)
              0#32))
          (IntOp.cmpi CmpIPredicate.ne
            (IntOp.remsi ArithUnit.host (BitVec.ofNat 32 h)
              (Scalar.select (IntOp.cmpi CmpIPredicate.eq 4#32 0#32) (1#32) 4#32))
            0#32))
        (IntOp.addi
          (IntOp.remsi ArithUnit.host (BitVec.ofNat 32 h)
            (Scalar.select (IntOp.cmpi CmpIPredicate.eq 4#32 0#32) (1#32) 4#32))
          (Scalar.select (IntOp.cmpi CmpIPredicate.eq 4#32 0#32) (1#32) 4#32))
        (IntOp.remsi ArithUnit.host (BitVec.ofNat 32 h)
          (Scalar.select (IntOp.cmpi CmpIPredicate.eq 4#32 0#32) (1#32) 4#32)))
      (BitVec.ofNat 32 l) = if l = h.val % 4 then 1#1 else 0#1 := by
  revert h
  interval_cases l <;> decide

set_option maxHeartbeats 2000000 in
theorem qcat_apply (b : Fin 2) (p : Fin 8192) (h : Fin 8) (n : Fin 256) : val_main_v221 (F := Ideal) x0 x1 x2 x3 x4 x5 (ix4 b h p n) = qcat (row x0 x1 x2 x3 x4 b p) (fun i j k => x5 (ix3 i j k)) p h n := by
  have hq := qr_apply x0 x1 x2 x3 x4 b p h
  have hl := ql_apply x0 x1 x2 x3 x4 x5 b p h
  unfold val_main_v221 val_main_v220 val_main_v219 val_main_v218 val_main_call1_v3 val_main_call1_v2 val_main_call1_v1 val_main_call1_v0 val_main_v217 val_main_v216 val_main_v215 val_main_v214 val_main_v213 val_main_v212 val_main_v211 val_main_v210 val_main_call0_v14 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_v209 val_main_v208 val_main_v207 val_main_v206 val_main_v205 val_main_cst_23 val_main_cst_24 val_main_c val_main_call0_c val_main_call0_c_0 val_main_call0_c_1 val_main_call0_c_2 val_main_call0_c_3
  generalize val_main_v147 (F := Ideal) x0 x1 x2 x3 x4 = y at hq ⊢
  generalize val_main_v204 (F := Ideal) x0 x1 x2 x3 x4 x5 = z at hl ⊢
  pointwise
  simp only [hq, hl, qcat]
  split_ifs with h1 h2
  · rfl
  · have e := mine h ((n.val - 128) / 32) (by omega)
    rw [if_pos h2] at e
    exact (congrArg (fun f => Scalar.select f _ _) e).trans rfl
  · have e := mine h ((n.val - 128) / 32) (by omega)
    rw [if_neg h2] at e
    exact (congrArg (fun f => Scalar.select f _ _) e).trans zero_lit

set_option maxHeartbeats 2000000 in
theorem kcat_apply (b : Fin 2) (p : Fin 8192) (n : Fin 256) : val_main_v223 (F := Ideal) x0 x1 x2 x3 x4 x6 (ix3 b p n) = kcat (row x0 x1 x2 x3 x4 b p) (fun d => x6 (ix1 d)) p n := by
  have hc := ckv_apply x0 x1 x2 x3 x4 x6 b p
  have hk := kr_apply x0 x1 x2 x3 x4 b p
  unfold val_main_v223 val_main_v222
  generalize val_main_v160 (F := Ideal) x0 x1 x2 x3 x4 x6 = y at hc ⊢
  generalize val_main_v199 (F := Ideal) x0 x1 x2 x3 x4 = z at hk ⊢
  pointwise
  simp only [hc, hk, kcat]
  split_ifs <;> first | rfl | exact congrArg (kr _ _) (by omega)

end Cert.Reference2Ideal.InRef
-- ==== Proof.InPiece.lean ====
/- The values the input projection's body stores, read at an index of one row, in closed form. -/
module

public import proofs.«01_k».proof.Proof.ProjRun
public import proofs.«01_k».proof.Proof.InForm
public import Idealize.ShloMosaic.Lib.Pipeline.ValueKit
public import Idealize.ShloMosaic.Lib.Pointwise

@[expose] public section

set_option maxRecDepth 16384

noncomputable section

namespace Cert.Kernel2Ideal.Piece

open Cert.Kernel2Ideal Cert.Kernel2Ideal.Gen Cert.Kernel2Ideal.Run Cert.InProj
open Idealize.ShloMosaic Idealize.ShloMosaic.TcCoe Idealize.ShloMosaic.Tactic Idealize.SL.Sem

/-- The normalised, modulated row. -/
theorem hid_apply (x : Vec Ideal S1x512x1024 .f32) (g s t : Vec Ideal S1x1x1024 .f32) (r : Fin 512) (d : Fin 1024) :
    k0_pay3 x g s t (ix2 r d)
      = hid (fun d => x (ix3 0 r d)) (fun d => g (ix3 0 0 d)) (fun d => s (ix3 0 0 d)) (fun d => t (ix3 0 0 d)) d := by
  unfold k0_pay3
  pointwise
  rfl

section
variable (a : FVec Ideal S512x1024 .bf16) (c s : FVec Ideal S512x128 .f32) (r : Fin 512) (p : ℕ) (y : ℕ → EReal)

/-- The retention's rotated queries. -/
theorem pay15_apply (w : Vec Ideal S1024x256 .bf16) (hy : ∀ k : Fin 256, ∑ x : Fin 1024, a (ix2 r x) * w (ix2 x k) = y k)
    (hc : ∀ l : Fin 128, c (ix2 r l) = cosT 1115684864#32 32 p l) (hs : ∀ l : Fin 128, s (ix2 r l) = sinT 1115684864#32 32 p l) (n : Fin 256) :
    k0_pay15 c s (k0_pay9 a c s w) (k0_pay10 a w) (Scalar.select (Scalar.cmpi .eq 64#32 0#32) 1#32 64#32) k0_pay11 k0_pay12 k0_pay13 k0_pay14 (ix3 0 r n)
      = rot 1115684864#32 32 (fun j => y (n / 64 * 64 + j)) p (n % 64) := by
  unfold k0_pay15 k0_pay9 k0_pay10 k0_pay12 k0_pay13 k0_pay14 k0_pay11 k0_pay8
  pointwise
  simp only [hy, hc, hs]
  split_ifs with h
  · exact rot64 y p n h
  · exact (rot64 (fun k => y (128 + k)) p (n - 128) (by omega)).trans (two64 y p n h)

/-- The retention's rotated keys. -/
theorem pay20_apply (w : Vec Ideal S1024x256 .bf16) (hy : ∀ k : Fin 256, ∑ x : Fin 1024, a (ix2 r x) * w (ix2 x k) = y k)
    (hc : ∀ l : Fin 128, c (ix2 r l) = cosT 1115684864#32 32 p l) (hs : ∀ l : Fin 128, s (ix2 r l) = sinT 1115684864#32 32 p l) (n : Fin 256) :
    k0_pay20 c s (k0_pay16 a w) (k0_pay17 a w) k0_pay18 (k0_pay19 a w) 32#32 (ix3 0 r n)
      = rot 1115684864#32 32 (fun j => y (n / 64 * 64 + j)) p (n % 64) := by
  unfold k0_pay20 k0_pay19 k0_pay18 k0_pay17 k0_pay16
  pointwise
  simp only [hy, hc, hs]
  split_ifs with h
  · exact rot64 y p n h
  · exact (rot64 (fun k => y (128 + k)) p (n - 128) (by omega)).trans (two64 y p n h)

theorem pay21_apply (w : Vec Ideal S1024x256 .bf16) (n : Fin 256) :
    k0_pay21 a w (ix3 0 r n) = ∑ d : Fin 1024, a (ix2 r d) * w (ix2 d n) := by
  unfold k0_pay21; pointwise

theorem pay22_apply (w : Vec Ideal S1024x256 .bf16) (n : Fin 256) :
    k0_pay22 a w (ix3 0 r n) = ∑ d : Fin 1024, a (ix2 r d) * w (ix2 d n) := by
  unfold k0_pay22; pointwise

theorem pay23_apply (w : Vec Ideal S1024x256 .bf16) (n : Fin 256) :
    k0_pay23 a w (ix3 0 r n) = ∑ d : Fin 1024, a (ix2 r d) * w (ix2 d n) := by
  unfold k0_pay23; pointwise

theorem pay24_apply (w : Vec Ideal S1024x256 .bf16) (n : Fin 256) :
    k0_pay24 a w (ix3 0 r n) = ∑ d : Fin 1024, a (ix2 r d) * w (ix2 d n) := by
  unfold k0_pay24; pointwise

/-- The queries in the compressed space. -/
theorem pay25_apply (w : Vec Ideal S1024x512 .bf16) (u : Vec Ideal S512x1024 .bf16) (U : Fin 128 → Fin 8 → Fin 128 → EReal)
    (hy : ∀ k : Fin 512, ∑ x : Fin 1024, a (ix2 r x) * w (ix2 x k) = y k) (hu : ∀ (k : Fin 512) (n : Fin 1024), u (ix2 k n)
      = (if k.val / 64 = n.val / 128 then (1 : EReal) else 0) * U ⟨n % 128, by omega⟩ ⟨k / 64, by omega⟩ ⟨k % 64, by omega⟩)
    (h : Fin 8) (n : Fin 128) :
    k0_pay25 a w u (ix2 r ⟨h * 128 + n, by omega⟩)
      = (∑ j : Fin 64, U n h ⟨j, by omega⟩ * y (h * 64 + j)) * Ideal.ofBits FTy.f32 1037108716#32 := by
  unfold k0_pay25
  pointwise
  simp only [hy, hu]
  refine congrArg (· * _) ?_
  refine (Finset.sum_congr rfl fun k _ => ?_).trans
    ((sum_diag y (fun h' j => if hh : h' < 8 ∧ j < 64 then U n ⟨h', hh.1⟩ ⟨j, by omega⟩ else 0) h).trans
      (Finset.sum_congr rfl fun j _ => ?_))
  · rw [dif_pos ⟨by omega, by omega⟩]
    have e1 : (h.val * 128 + n.val) / 128 = h.val := by omega
    have e2 : (⟨(h.val * 128 + n.val) % 128, by omega⟩ : Fin 128) = n := Fin.ext (by show (h.val * 128 + n.val) % 128 = n.val; omega)
    simp only [e1, e2]
  · rw [dif_pos ⟨h.isLt, j.isLt⟩]

/-- The scaled rotated query parts. -/
theorem pay31_apply (w : Vec Ideal S1024x256 .bf16) (hy : ∀ k : Fin 256, ∑ x : Fin 1024, a (ix2 r x) * w (ix2 x k) = y k)
    (hc : ∀ l : Fin 128, c (ix2 r l) = cosT 1107296256#32 16 p l) (hs : ∀ l : Fin 128, s (ix2 r l) = sinT 1107296256#32 16 p l) (n : Fin 256) :
    k0_pay31 c s (k0_pay28 c s (k0_pay27 a w) (iota .tc S512x128 32 [1] iota_S512x128_d1_w32) 32#32) (k0_pay29 (k0_pay26 a w)) k0_pay30 112#32 (ix2 r n)
      = rot 1107296256#32 16 (fun j => y (n / 32 * 32 + j)) p (n % 32) * Ideal.ofBits FTy.f32 1037108716#32 := by
  unfold k0_pay31 k0_pay28 k0_pay27 k0_pay29 k0_pay26 k0_pay30
  pointwise
  simp only [hy, hc, hs]
  refine congrArg (· * _) ?_
  split_ifs with h
  · exact rot32 y p n h
  · exact (rot32 (fun k => y (128 + k)) p (n - 128) (by omega)).trans (two32 y p n h)

/-- The rotated key part, four times. -/
theorem pay54_apply (w : Vec Ideal S1024x128 .bf16) (hy : ∀ k : Fin 128, ∑ x : Fin 1024, a (ix2 r x) * w (ix2 x k) = y k)
    (hc : ∀ l : Fin 128, c (ix2 r l) = cosT 1107296256#32 16 p l) (hs : ∀ l : Fin 128, s (ix2 r l) = sinT 1107296256#32 16 p l) (n : Fin 128) :
    k0_pay54 a c s w (ix2 r n) = rot 1107296256#32 16 (fun j => y (n / 32 * 32 + j)) p (n % 32) := by
  unfold k0_pay54
  pointwise
  simp only [hy, hc, hs]
  exact rot32 y p n n.isLt

theorem pay52_apply (w : Vec Ideal S1024x128 .bf16) (n : Fin 128) :
    k0_pay52 a w (ix2 r n) = ∑ d : Fin 1024, a (ix2 r d) * w (ix2 d n) := by
  unfold k0_pay52; pointwise

/-- The normalised compressed keys. -/
theorem pay53_apply (q : FVec Ideal S512x128 .f32) (g : Vec Ideal S1x128 .f32) (n : Fin 128) :
    k0_pay53 q g (ix2 r n) = q (ix2 r n) * irms 1124073472#32 (fun e : Fin 128 => q (ix2 r e)) * g (ix2 0 n) := by
  unfold k0_pay53; pointwise; rfl

theorem pay55_apply (q : FVec Ideal S512x128 .f32) (g : Vec Ideal S1x128 .f32) (n : Fin 128) :
    k0_pay55 q g (ix3 0 r n) = k0_pay53 q g (ix2 r n) := by
  unfold k0_pay55; pointwise

theorem pay2_apply (q q' : FVec Ideal S512x128 .f32) (n : Fin 256) :
    k0_pay2 q q' (ix3 0 r n) = if h : n.val < 128 then q (ix2 r ⟨n, h⟩) else q' (ix2 r ⟨n - 128, by omega⟩) := by
  unfold k0_pay2; pointwise

theorem pay1_apply (q : FVec Ideal S512x128 .f32) (n : Fin 32) :
    k0_pay1 q (ix3 0 r n) = q (ix2 r ⟨n, by omega⟩) := by
  unfold k0_pay1; pointwise

end

section
variable (q : FVec Ideal S512x1024 .f32) (v : FVec Ideal S512x256 .f32) (r : Fin 512) (n : Fin 256)

/-- One head's row of the packed queries: the compressed part, then the slab's own 32 lanes. -/
abbrev pack (h : ℕ) (hh : h < 8) : EReal :=
  if hn : n.val < 128 then q (ix2 r ⟨h * 128 + n, by omega⟩)
  else Scalar.select (slot (BitVec.ofNat 32 (h % 4)) (n - 128)) (v (ix2 r ⟨if h < 4 then n - 128 else 128 + (n - 128), by split_ifs <;> omega⟩)) 0

theorem head0 (c s u1 u2 : FVec Ideal S512x128 .f32) (f : IVec S512x128 1) :
    k0_pay33 (k0_pay32 c s q u1 u2 f 112#32) (ix4 0 0 r n) = pack q (k0_pay31 c s u1 u2 f 112#32) r n 0 (by omega) := by
  have e0 : (if 0 < 4 then n.val - 128 else 128 + (n.val - 128)) = n.val - 128 := rfl
  simp only [pack, slot, Nat.zero_mul, Nat.zero_add, Nat.zero_mod, e0]
  unfold k0_pay33 k0_pay32 k0_pay31
  pointwise

theorem head1 : k0_pay34 q v (iota .tc S512x128 32 [1] iota_S512x128_d1_w32) (ix4 0 0 r n) = pack q v r n 1 (by omega) := by
  unfold k0_pay34
  pointwise
  rfl

theorem head2 : k0_pay38 q (iota .tc S512x128 32 [1] iota_S512x128_d1_w32) (k0_pay35 v) 32#32 (k0_pay36 (iota .tc S512x128 32 [1] iota_S512x128_d1_w32)) (k0_pay37 (iota .tc S512x128 32 [1] iota_S512x128_d1_w32)) (ix4 0 0 r n) = pack q v r n 2 (by omega) := by
  unfold k0_pay38 k0_pay35 k0_pay36 k0_pay37
  pointwise
  rfl

theorem head3 : k0_pay42 q (iota .tc S512x128 32 [1] iota_S512x128_d1_w32) (k0_pay39 v) 32#32 (k0_pay40 (iota .tc S512x128 32 [1] iota_S512x128_d1_w32)) (k0_pay41 (iota .tc S512x128 32 [1] iota_S512x128_d1_w32)) (Scalar.extui (Scalar.cmpi .sgt 32#32 0#32)) (Scalar.cmpi .slt 32#32 0#32) (ix4 0 0 r n) = pack q v r n 3 (by omega) := by
  unfold k0_pay42 k0_pay39 k0_pay40 k0_pay41
  pointwise
  rfl

theorem head4 : k0_pay46 q (k0_pay43 v) (k0_pay44 (iota .tc S512x128 32 [1] iota_S512x128_d1_w32)) (k0_pay45 (iota .tc S512x128 32 [1] iota_S512x128_d1_w32)) (ix4 0 0 r n) = pack q v r n 4 (by omega) := by
  unfold k0_pay46 k0_pay43 k0_pay44 k0_pay45
  pointwise
  rfl

theorem head5 : k0_pay48 q (k0_pay47 v (iota .tc S512x128 32 [1] iota_S512x128_d1_w32)) (ix4 0 0 r n) = pack q v r n 5 (by omega) := by
  unfold k0_pay48 k0_pay47
  pointwise
  rfl

theorem head6 : k0_pay50 (k0_pay49 q v (iota .tc S512x128 32 [1] iota_S512x128_d1_w32)) (ix4 0 0 r n) = pack q v r n 6 (by omega) := by
  unfold k0_pay50 k0_pay49
  pointwise
  rfl

theorem head7 : k0_pay51 q v (iota .tc S512x128 32 [1] iota_S512x128_d1_w32) (ix4 0 0 r n) = pack q v r n 7 (by omega) := by
  unfold k0_pay51
  pointwise
  rfl

end

end Cert.Kernel2Ideal.Piece
-- ==== Proof.InRow.lean ====
/- What the input projection's body leaves in each result's block, row by row, in closed form. -/
module

public import proofs.«01_k».proof.Proof.InPiece

@[expose] public section

set_option maxRecDepth 16384

noncomputable section

namespace Cert.Kernel2Ideal.Row

open Cert.Kernel2Ideal Cert.Kernel2Ideal.Gen Cert.Kernel2Ideal.Run Cert.Kernel2Ideal.Piece Cert.InProj
open Idealize.ShloMosaic Idealize.ShloMosaic.TcCoe Idealize.ShloMosaic.Tactic Idealize.SL.Sem

variable (x0 : Vec Ideal S1x512x1024 .f32) (x1 x2 x3 : Vec Ideal S1x1x1024 .f32) (x4 : Vec Ideal S1024x2560 .bf16)
  (x5 : Vec Ideal S512x1024 .bf16) (x6 : Vec Ideal S1x128 .f32) (x7 x8 x9 x10 : Vec Ideal S512x128 .f32)
  (r : Fin 512) (p : ℕ) (Y : ℕ → EReal) (U : Fin 128 → Fin 8 → Fin 128 → EReal) (g : Fin 128 → EReal)

/-- What one row of the blocks holds: the projected columns `Y`, the projection `U`, the gain, the rotation of position `p`. -/
structure Holds : Prop where
  hY : ∀ n : Fin 2560, ∑ d : Fin 1024, hid (fun d => x0 (ix3 0 r d)) (fun d => x3 (ix3 0 0 d)) (fun d => x1 (ix3 0 0 d))
    (fun d => x2 (ix3 0 0 d)) d * x4 (ix2 d n) = Y (cm n)
  hU : ∀ (k : Fin 512) (n : Fin 1024), x5 (ix2 k n)
    = (if k.val / 64 = n.val / 128 then (1 : EReal) else 0) * U ⟨n % 128, by omega⟩ ⟨k / 64, by omega⟩ ⟨k % 64, by omega⟩
  hg : ∀ n : Fin 128, x6 (ix2 0 n) = g n
  h7 : ∀ l : Fin 128, x7 (ix2 r l) = cosT 1115684864#32 32 p l
  h8 : ∀ l : Fin 128, x8 (ix2 r l) = sinT 1115684864#32 32 p l
  h9 : ∀ l : Fin 128, x9 (ix2 r l) = cosT 1107296256#32 16 p l
  h10 : ∀ l : Fin 128, x10 (ix2 r l) = sinT 1107296256#32 16 p l

/-- The normalised, modulated row. -/
theorem a_apply (d : Fin 1024) : k0_pay56 x0 x1 x2 x3 x4 x5 x6 x7 x8 x9 x10 (ix2 r d)
    = hid (fun d => x0 (ix3 0 r d)) (fun d => x3 (ix3 0 0 d)) (fun d => x1 (ix3 0 0 d)) (fun d => x2 (ix3 0 0 d)) d := by
  unfold k0_pay56
  rw [View.ld_unit_lit _ x0 (by decide), View.ld_unit_lit _ x3 (by decide), View.ld_unit_lit _ x1 (by decide), View.ld_unit_lit _ x2 (by decide)]
  exact hid_apply x0 x3 x1 x2 r d

variable {x0 x1 x2 x3 x4 x5 x6 x7 x8 x9 x10 r p Y U g} (H : Holds x0 x1 x2 x3 x4 x5 x6 x7 x8 x9 x10 r p Y U g)
include H

theorem c64 (l : Fin 128) : k0_pay57 x0 x1 x2 x3 x4 x5 x6 x7 x8 x9 x10 (ix2 r l) = cosT 1115684864#32 32 p l := by
  unfold k0_pay57 k0_pay4
  rw [View.ld_unit_lit _ x7 (by decide)]
  pointwise
  exact H.h7 l

theorem s64 (l : Fin 128) : k0_pay58 x0 x1 x2 x3 x4 x5 x6 x7 x8 x9 x10 (ix2 r l) = sinT 1115684864#32 32 p l := by
  unfold k0_pay58 k0_pay5
  rw [View.ld_unit_lit _ x8 (by decide)]
  pointwise
  exact H.h8 l

theorem c32 (l : Fin 128) : k0_pay59 x0 x1 x2 x3 x4 x5 x6 x7 x8 x9 x10 (ix2 r l) = cosT 1107296256#32 16 p l := by
  unfold k0_pay59 k0_pay6
  rw [View.ld_unit_lit _ x9 (by decide)]
  pointwise
  exact H.h9 l

theorem s32 (l : Fin 128) : k0_pay60 x0 x1 x2 x3 x4 x5 x6 x7 x8 x9 x10 (ix2 r l) = sinT 1107296256#32 16 p l := by
  unfold k0_pay60 k0_pay7
  rw [View.ld_unit_lit _ x10 (by decide)]
  pointwise
  exact H.h10 l

theorem slab0 (k : Fin 256) : ∑ d : Fin 1024, k0_pay56 x0 x1 x2 x3 x4 x5 x6 x7 x8 x9 x10 (ix2 r d) * View.ld x4 r0_3 (ix2 d k) = Y (cm (0 + k)) :=
  (Finset.sum_congr rfl fun d _ => congrArg₂ (· * ·) (a_apply x0 x1 x2 x3 x4 x5 x6 x7 x8 x9 x10 r d)
    (View.ld_unit_apply_of x4 ![0, 0] S1024x256.size _ (ix2 d k) (ix2 d ⟨0 + k, by omega⟩)
      (fun a => by fin_cases a; exact (Nat.zero_add _).symm; exact rfl))).trans (H.hY ⟨0 + k, by omega⟩)

theorem slab256 (k : Fin 256) : ∑ d : Fin 1024, k0_pay56 x0 x1 x2 x3 x4 x5 x6 x7 x8 x9 x10 (ix2 r d) * View.ld x4 r0_5 (ix2 d k) = Y (cm (256 + k)) :=
  (Finset.sum_congr rfl fun d _ => congrArg₂ (· * ·) (a_apply x0 x1 x2 x3 x4 x5 x6 x7 x8 x9 x10 r d)
    (View.ld_unit_apply_of x4 ![0, 256] S1024x256.size _ (ix2 d k) (ix2 d ⟨256 + k, by omega⟩)
      (fun a => by fin_cases a; exact (Nat.zero_add _).symm; exact rfl))).trans (H.hY ⟨256 + k, by omega⟩)

theorem slab512 (k : Fin 256) : ∑ d : Fin 1024, k0_pay56 x0 x1 x2 x3 x4 x5 x6 x7 x8 x9 x10 (ix2 r d) * View.ld x4 r0_6 (ix2 d k) = Y (cm (512 + k)) :=
  (Finset.sum_congr rfl fun d _ => congrArg₂ (· * ·) (a_apply x0 x1 x2 x3 x4 x5 x6 x7 x8 x9 x10 r d)
    (View.ld_unit_apply_of x4 ![0, 512] S1024x256.size _ (ix2 d k) (ix2 d ⟨512 + k, by omega⟩)
      (fun a => by fin_cases a; exact (Nat.zero_add _).symm; exact rfl))).trans (H.hY ⟨512 + k, by omega⟩)

theorem slab768 (k : Fin 256) : ∑ d : Fin 1024, k0_pay56 x0 x1 x2 x3 x4 x5 x6 x7 x8 x9 x10 (ix2 r d) * View.ld x4 r0_7 (ix2 d k) = Y (cm (768 + k)) :=
  (Finset.sum_congr rfl fun d _ => congrArg₂ (· * ·) (a_apply x0 x1 x2 x3 x4 x5 x6 x7 x8 x9 x10 r d)
    (View.ld_unit_apply_of x4 ![0, 768] S1024x256.size _ (ix2 d k) (ix2 d ⟨768 + k, by omega⟩)
      (fun a => by fin_cases a; exact (Nat.zero_add _).symm; exact rfl))).trans (H.hY ⟨768 + k, by omega⟩)

theorem slab1024 (k : Fin 256) : ∑ d : Fin 1024, k0_pay56 x0 x1 x2 x3 x4 x5 x6 x7 x8 x9 x10 (ix2 r d) * View.ld x4 r0_8 (ix2 d k) = Y (cm (1024 + k)) :=
  (Finset.sum_congr rfl fun d _ => congrArg₂ (· * ·) (a_apply x0 x1 x2 x3 x4 x5 x6 x7 x8 x9 x10 r d)
    (View.ld_unit_apply_of x4 ![0, 1024] S1024x256.size _ (ix2 d k) (ix2 d ⟨1024 + k, by omega⟩)
      (fun a => by fin_cases a; exact (Nat.zero_add _).symm; exact rfl))).trans (H.hY ⟨1024 + k, by omega⟩)

theorem slab1280 (k : Fin 256) : ∑ d : Fin 1024, k0_pay56 x0 x1 x2 x3 x4 x5 x6 x7 x8 x9 x10 (ix2 r d) * View.ld x4 r0_9 (ix2 d k) = Y (cm (1280 + k)) :=
  (Finset.sum_congr rfl fun d _ => congrArg₂ (· * ·) (a_apply x0 x1 x2 x3 x4 x5 x6 x7 x8 x9 x10 r d)
    (View.ld_unit_apply_of x4 ![0, 1280] S1024x256.size _ (ix2 d k) (ix2 d ⟨1280 + k, by omega⟩)
      (fun a => by fin_cases a; exact (Nat.zero_add _).symm; exact rfl))).trans (H.hY ⟨1280 + k, by omega⟩)

theorem slab1536 (k : Fin 512) : ∑ d : Fin 1024, k0_pay56 x0 x1 x2 x3 x4 x5 x6 x7 x8 x9 x10 (ix2 r d) * View.ld x4 r0_10 (ix2 d k) = Y (cm (1536 + k)) :=
  (Finset.sum_congr rfl fun d _ => congrArg₂ (· * ·) (a_apply x0 x1 x2 x3 x4 x5 x6 x7 x8 x9 x10 r d)
    (View.ld_unit_apply_of x4 ![0, 1536] S1024x512.size _ (ix2 d k) (ix2 d ⟨1536 + k, by omega⟩)
      (fun a => by fin_cases a; exact (Nat.zero_add _).symm; exact rfl))).trans (H.hY ⟨1536 + k, by omega⟩)

theorem slab2048 (k : Fin 256) : ∑ d : Fin 1024, k0_pay56 x0 x1 x2 x3 x4 x5 x6 x7 x8 x9 x10 (ix2 r d) * View.ld x4 r0_12 (ix2 d k) = Y (cm (2048 + k)) :=
  (Finset.sum_congr rfl fun d _ => congrArg₂ (· * ·) (a_apply x0 x1 x2 x3 x4 x5 x6 x7 x8 x9 x10 r d)
    (View.ld_unit_apply_of x4 ![0, 2048] S1024x256.size _ (ix2 d k) (ix2 d ⟨2048 + k, by omega⟩)
      (fun a => by fin_cases a; exact (Nat.zero_add _).symm; exact rfl))).trans (H.hY ⟨2048 + k, by omega⟩)

theorem slab2304 (k : Fin 128) : ∑ d : Fin 1024, k0_pay56 x0 x1 x2 x3 x4 x5 x6 x7 x8 x9 x10 (ix2 r d) * View.ld x4 r0_21 (ix2 d k) = Y (cm (2304 + k)) :=
  (Finset.sum_congr rfl fun d _ => congrArg₂ (· * ·) (a_apply x0 x1 x2 x3 x4 x5 x6 x7 x8 x9 x10 r d)
    (View.ld_unit_apply_of x4 ![0, 2304] S1024x128.size _ (ix2 d k) (ix2 d ⟨2304 + k, by omega⟩)
      (fun a => by fin_cases a; exact (Nat.zero_add _).symm; exact rfl))).trans (H.hY ⟨2304 + k, by omega⟩)

theorem slab2432 (k : Fin 128) : ∑ d : Fin 1024, k0_pay56 x0 x1 x2 x3 x4 x5 x6 x7 x8 x9 x10 (ix2 r d) * View.ld x4 r0_23 (ix2 d k) = Y (cm (2432 + k)) :=
  (Finset.sum_congr rfl fun d _ => congrArg₂ (· * ·) (a_apply x0 x1 x2 x3 x4 x5 x6 x7 x8 x9 x10 r d)
    (View.ld_unit_apply_of x4 ![0, 2432] S1024x128.size _ (ix2 d k) (ix2 d ⟨2432 + k, by omega⟩)
      (fun a => by fin_cases a; exact (Nat.zero_add _).symm; exact rfl))).trans (H.hY ⟨2432 + k, by omega⟩)

theorem out11 (n : Fin 256) : out0_11 x0 x1 x2 x3 x4 x5 x6 x7 x8 x9 x10 (ix3 0 r n) = ret 0 Y p n := by
  unfold out0_11
  rw [View.canon_cons_unit_lit _ _ _ (by decide)]
  refine (pay15_apply _ _ _ r p (fun k => Y (cm (0 + k))) _ (slab0 H) (c64 H) (s64 H) n).trans ?_
  refine rot_congr _ _ p _ (by omega) fun i hi => ?_
  show Y (cm (0 + (n.val / 64 * 64 + i))) = Y (0 + n.val / 64 * 64 + i)
  rw [cm, if_pos (by omega)]
  congr 1; omega

theorem out12 (n : Fin 256) : out0_12 x0 x1 x2 x3 x4 x5 x6 x7 x8 x9 x10 (ix3 0 r n) = ret 256 Y p n := by
  unfold out0_12
  rw [View.canon_cons_unit_lit _ _ _ (by decide)]
  refine (pay20_apply _ _ _ r p (fun k => Y (cm (256 + k))) _ (slab256 H) (c64 H) (s64 H) n).trans ?_
  refine rot_congr _ _ p _ (by omega) fun i hi => ?_
  show Y (cm (256 + (n.val / 64 * 64 + i))) = Y (256 + n.val / 64 * 64 + i)
  rw [cm, if_pos (by omega)]
  congr 1; omega

theorem out13 (n : Fin 256) : out0_13 x0 x1 x2 x3 x4 x5 x6 x7 x8 x9 x10 (ix3 0 r n) = Y (512 + n) := by
  unfold out0_13
  rw [View.canon_cons_unit_lit _ _ _ (by decide), pay21_apply, slab512 H n, cm, if_pos (by omega)]

theorem out14 (n : Fin 256) : out0_14 x0 x1 x2 x3 x4 x5 x6 x7 x8 x9 x10 (ix3 0 r n) = Y (768 + n) := by
  unfold out0_14
  rw [View.canon_cons_unit_lit _ _ _ (by decide), pay22_apply, slab768 H n, cm, if_pos (by omega)]

theorem out15 (n : Fin 256) : out0_15 x0 x1 x2 x3 x4 x5 x6 x7 x8 x9 x10 (ix3 0 r n) = Y (1024 + n) := by
  unfold out0_15
  rw [View.canon_cons_unit_lit _ _ _ (by decide), pay23_apply, slab1024 H n, cm, if_pos (by omega)]

theorem out16 (n : Fin 256) : out0_16 x0 x1 x2 x3 x4 x5 x6 x7 x8 x9 x10 (ix3 0 r n) = Y (1280 + n) := by
  unfold out0_16
  rw [View.canon_cons_unit_lit _ _ _ (by decide), pay24_apply, slab1280 H n, cm, if_pos (by omega)]

/-- The compressed queries of head `h`. -/
theorem q_apply (h : Fin 8) (n : Fin 128) : k0_pay61 x0 x1 x2 x3 x4 x5 x6 x7 x8 x9 x10 (ix2 r ⟨h * 128 + n, by omega⟩) = ql Y (fun j => U n h ⟨j, by omega⟩) h := by
  unfold k0_pay61
  rw [View.ld_unit_lit _ x5 (by decide)]
  refine (pay25_apply _ r (fun k => Y (cm (1536 + k))) _ x5 U (slab1536 H) H.hU h n).trans ?_
  refine congrArg (· * _) (Finset.sum_congr rfl fun j _ => congrArg (_ * ·) (congrArg Y ?_))
  rw [cm, if_neg (by omega), if_pos (by omega)]
  omega

/-- The rotated query parts, head by head in slabs of 32. -/
theorem v_apply (n : Fin 256) : k0_pay66 x0 x1 x2 x3 x4 x5 x6 x7 x8 x9 x10 (ix2 r n) = qr Y p (n / 32) (n % 32) * Ideal.ofBits FTy.f32 1037108716#32 := by
  unfold k0_pay66 k0_pay62 k0_pay63 k0_pay64
  refine (pay31_apply _ _ _ r p (fun k => Y (cm (2048 + k))) _ (slab2048 H) (c32 H) (s32 H) n).trans (congrArg (· * _) ?_)
  refine rot_congr _ _ p _ (by omega) fun i hi => congrArg Y ?_
  rw [cm, if_neg (by omega), if_neg (by omega), if_pos (by omega)]
  omega

/-- One head's packed row is the attention's query row. -/
theorem pack_eq (h : ℕ) (hh : h < 8) (n : Fin 256) :
    pack (k0_pay61 x0 x1 x2 x3 x4 x5 x6 x7 x8 x9 x10) (k0_pay66 x0 x1 x2 x3 x4 x5 x6 x7 x8 x9 x10) r n h hh = qcat Y U p ⟨h, hh⟩ n := by
  unfold pack qcat
  by_cases hn : n.val < 128
  · rw [dif_pos hn, dif_pos hn]
    exact q_apply H ⟨h, hh⟩ ⟨n, hn⟩
  · rw [dif_neg hn, dif_neg hn, slot_eq (h % 4) (by omega) (n - 128) (by omega), v_apply H]
    by_cases e : (n.val - 128) / 32 = h % 4
    · rw [if_pos e, if_pos e]
      have e1 : (if h < 4 then n.val - 128 else 128 + (n.val - 128)) / 32 = h := by split_ifs <;> omega
      have e2 : (if h < 4 then n.val - 128 else 128 + (n.val - 128)) % 32 = (n.val - 128) % 32 := by split_ifs <;> omega
      show qr Y p ((if h < 4 then n.val - 128 else 128 + (n.val - 128)) / 32) ((if h < 4 then n.val - 128 else 128 + (n.val - 128)) % 32) * _ = _
      rw [e1, e2]
    · rw [if_neg e, if_neg e]
      rfl

omit H in
/-- A store of one head's rows, read at an index of the block. -/
theorem tile (w : Vec Ideal S1x1x512x256 .bf16) (h : Fin 8) (r : Fin 512) (n : Fin 256) (k : ℕ) (v : Fin 8 → EReal)
    (hw : ∀ hk : k < 8, w (ix4 0 0 r n) = v ⟨k, hk⟩) :
    View.TileAt (S := S1x8x512x256) (e := .bf16) (Val := Elt Ideal) (ix4 0 h r n) ![0, k, 0, 0] S1x1x512x256.size w (v h) := by
  intro x hx
  have h1 : h.val = k + (x 1).val := hx 1
  have h2 : r.val = 0 + (x 2).val := hx 2
  have h3 : n.val = 0 + (x 3).val := hx 3
  have l0 : (x 0).val < 1 := (x 0).isLt
  have l1 : (x 1).val < 1 := (x 1).isLt
  have ex : x = ix4 0 0 r n := by
    funext a
    fin_cases a
    · exact Fin.ext (by show (x 0).val = 0; omega)
    · exact Fin.ext (by show (x 1).val = 0; omega)
    · exact Fin.ext (by show (x 2).val = r.val; omega)
    · exact Fin.ext (by show (x 3).val = n.val; omega)
  rw [ex, hw (by omega)]
  exact congrArg v (Fin.ext (by show k = h.val; omega))

theorem out17 (h : Fin 8) (n : Fin 256) : out0_17 x0 x1 x2 x3 x4 x5 x6 x7 x8 x9 x10 (ix4 0 h r n) = qcat Y U p h n := by
  unfold out0_17
  refine View.canon_eq_of_allAt _ _ _ (cover0_17 _ _ _ _ _ _ _ _ _) ?_
  refine View.allAt_cons_unit _ _ _ _ _ (tile _ h r n 7 (fun h => qcat Y U p h n) fun hk => (head7 _ _ r n).trans (pack_eq H 7 hk n)) ?_
  refine View.allAt_cons_unit _ _ _ _ _ (tile _ h r n 6 (fun h => qcat Y U p h n) fun hk => (head6 _ _ r n).trans (pack_eq H 6 hk n)) ?_
  refine View.allAt_cons_unit _ _ _ _ _ (tile _ h r n 5 (fun h => qcat Y U p h n) fun hk => (head5 _ _ r n).trans (pack_eq H 5 hk n)) ?_
  refine View.allAt_cons_unit _ _ _ _ _ (tile _ h r n 4 (fun h => qcat Y U p h n) fun hk => (head4 _ _ r n).trans (pack_eq H 4 hk n)) ?_
  refine View.allAt_cons_unit _ _ _ _ _ (tile _ h r n 3 (fun h => qcat Y U p h n) fun hk => (head3 _ _ r n).trans (pack_eq H 3 hk n)) ?_
  refine View.allAt_cons_unit _ _ _ _ _ (tile _ h r n 2 (fun h => qcat Y U p h n) fun hk => (head2 _ _ r n).trans (pack_eq H 2 hk n)) ?_
  refine View.allAt_cons_unit _ _ _ _ _ (tile _ h r n 1 (fun h => qcat Y U p h n) fun hk => (head1 _ _ r n).trans (pack_eq H 1 hk n)) ?_
  refine View.allAt_cons_unit _ _ _ _ _ (tile _ h r n 0 (fun h => qcat Y U p h n) fun hk => (head0 _ r n _ _ _ _ _).trans (pack_eq H 0 hk n)) ?_
  exact View.allAt_nil _ _

/-- The compressed keys. -/
theorem ckv_row (n : Fin 128) : k0_pay53 (k0_pay67 x0 x1 x2 x3 x4 x5 x6 x7 x8 x9 x10) (View.ld x6 r0_22) (ix2 r n) = ckv Y g n := by
  have e : ∀ k : Fin 128, k0_pay67 x0 x1 x2 x3 x4 x5 x6 x7 x8 x9 x10 (ix2 r k) = Y (2304 + k) := fun k => by
    unfold k0_pay67
    rw [pay52_apply, slab2304 H k, cm, if_neg (by omega), if_neg (by omega), if_neg (by omega), if_pos (by omega)]
  rw [View.ld_unit_lit _ x6 (by decide), pay53_apply, ckv, H.hg, e]
  simp only [e]

/-- The rotated key part. -/
theorem kr_row (n : Fin 128) : k0_pay68 x0 x1 x2 x3 x4 x5 x6 x7 x8 x9 x10 (ix2 r n) = kr Y p (n % 32) := by
  unfold k0_pay68
  refine (pay54_apply _ _ _ r p (fun k => Y (cm (2432 + k))) _ (slab2432 H) (c32 H) (s32 H) n).trans ?_
  refine rot_congr _ _ p _ (by omega) fun i hi => congrArg Y ?_
  rw [cm, if_neg (by omega), if_neg (by omega), if_neg (by omega), if_neg (by omega)]
  omega

theorem out18 (n : Fin 256) : out0_18 x0 x1 x2 x3 x4 x5 x6 x7 x8 x9 x10 (ix3 0 r n) = kcat Y g p n := by
  unfold out0_18
  rw [View.canon_cons_unit_lit _ _ _ (by decide), pay2_apply, kcat]
  split_ifs with hn
  · exact ckv_row H ⟨n, hn⟩
  · exact kr_row H ⟨n - 128, by omega⟩

theorem out19 (n : Fin 128) : out0_19 x0 x1 x2 x3 x4 x5 x6 x7 x8 x9 x10 (ix3 0 r n) = ckv Y g n := by
  unfold out0_19
  rw [View.canon_cons_unit_lit _ _ _ (by decide), pay55_apply]
  exact ckv_row H n

theorem out20 (n : Fin 32) : out0_20 x0 x1 x2 x3 x4 x5 x6 x7 x8 x9 x10 (ix3 0 r n) = kr Y p n := by
  unfold out0_20
  rw [View.canon_cons_unit_lit _ _ _ (by decide), pay1_apply]
  refine (kr_row H ⟨n, by omega⟩).trans ?_
  show kr Y p (n.val % 32) = _
  rw [Nat.mod_eq_of_lt n.isLt]

end Cert.Kernel2Ideal.Row
-- ==== Proof.InHost.lean ====
/- The arrays the input projection's pallas_call takes, read at an index. -/
module

public import proofs.«01_k».proof.Proof.ProjRun
public import proofs.«01_k».proof.Proof.InForm
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Host

open Cert.Kernel2Ideal Cert.Kernel2Ideal.Gen Cert.Kernel2Ideal.Run Cert.InProj
open Idealize.ShloMosaic Idealize.ShloMosaic.TcCoe Idealize.ShloMosaic.Tactic Idealize.SL.Sem

variable (m : (ℓ : Loc nD τ sig) → Buf (Elt Ideal) ℓ)

/-- The layer's input. -/
abbrev aX (c : Dev nD) : S2x8192x1024.Idx → EReal := m ((c : Thread nD τ).loc main_arg0)
/-- The modulation's scale and shift. -/
abbrev aS (c : Dev nD) : S2x1024.Idx → EReal := m ((c : Thread nD τ).loc main_arg1)
abbrev aT (c : Dev nD) : S2x1024.Idx → EReal := m ((c : Thread nD τ).loc main_arg2)
/-- The gain. -/
abbrev aG (c : Dev nD) : S1024.Idx → EReal := m ((c : Thread nD τ).loc main_arg3)
/-- The projection `w_in`. -/
abbrev aW (c : Dev nD) : S1024x2464.Idx → EReal := m ((c : Thread nD τ).loc main_arg4)
/-- The projection `w_ukv`. -/
abbrev aU (c : Dev nD) : S128x8x128.Idx → EReal := m ((c : Thread nD τ).loc main_arg5)
/-- The gain of the compressed keys. -/
abbrev aN (c : Dev nD) : S128.Idx → EReal := m ((c : Thread nD τ).loc main_arg6)

theorem sc_host (c : Dev nD) (b : Fin 2) (d : Fin 1024) : V m c main_v83 (ix3 b 0 d) = aS m c (ix2 b d) := by
  entry_read; pointwise

theorem sh_host (c : Dev nD) (b : Fin 2) (d : Fin 1024) : V m c main_v84 (ix3 b 0 d) = aT m c (ix2 b d) := by
  entry_read; pointwise

theorem gain_host (c : Dev nD) (d : Fin 1024) : V m c main_v85 (ix3 0 0 d) = aG m c (ix1 d) := by
  entry_read; pointwise

theorem kvg_host (c : Dev nD) (d : Fin 128) : V m c main_v86 (ix2 0 d) = aN m c (ix1 d) := by
  entry_read; pointwise

/-- One entry of the eight by eight identity. -/
theorem eye (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then (1 : EReal) else 0 := by
  have h : ∀ a b : Fin 8, IntOp.cmpi CmpIPredicate.eq (IntOp.addi (BitVec.ofNat 32 a.val) 0#32) (BitVec.ofNat 32 b.val)
      = if a.val = b.val then 1#1 else 0#1 := by decide
  rw [h ⟨a, ha⟩ ⟨b, hb⟩]
  split_ifs <;> simp [FloatOps.uitofp]

/-- The block-diagonal projection the host prepares. -/
theorem u_host (c : Dev nD) (k : Fin 512) (n : Fin 1024) :
    V m c main_v82 (ix2 k n)
      = (if k.val / 64 = n.val / 128 then (1 : EReal) else 0) * aU m c (ix3 ⟨n % 128, by omega⟩ ⟨k / 64, by omega⟩ ⟨k % 64, by omega⟩) := by
  entry_read
  pointwise
  exact congrArg₂ (· * ·) (eye (k.val / 64) (n.val / 128) (by omega) (by omega)) rfl

/-- The rotary tables. -/
theorem c64_host (c : Dev nD) (p : Fin 8192) (l : Fin 128) : V m c main_v22 (ix2 p l) = cosT 1115684864#32 32 p l := by
  entry_read; pointwise; rfl

theorem s64_host (c : Dev nD) (p : Fin 8192) (l : Fin 128) : V m c main_v27 (ix2 p l) = sinT 1115684864#32 32 p l := by
  entry_read; pointwise; rfl

theorem c32_host (c : Dev nD) (p : Fin 8192) (l : Fin 128) : V m c main_v49 (ix2 p l) = cosT 1107296256#32 16 p l := by
  entry_read; pointwise; rfl

theorem s32_host (c : Dev nD) (p : Fin 8192) (l : Fin 128) : V m c main_v54 (ix2 p l) = sinT 1107296256#32 16 p l := by
  entry_read; pointwise; rfl

set_option maxHeartbeats 4000000 in
/-- The reordered projection as the host line's own operations. -/
theorem w_entry (c : Dev nD) : V m c main_v67 = shapeCast S1024x2560 (truncf .bf16 (concatenate S1x1024x2560 2
    [⟨S1x1024x1536, (extractStridedSlice S1x1024x1536 ![0, 0, 0] (broadcastInDim S1x1024x2464 ![1, 2] bcast_S1024x2464_S1x1024x2464_1_2 (m ((c : Thread nD τ).loc main_arg4))) slices_S1x1024x2464_S1x1024x1536_0_0_0 : FVec Ideal S1x1024x1536 .f32)⟩,
     ⟨S1x1024x512, (shapeCast _ (extractStridedSlice S1x1024x8x64 ![0, 0, 0, 0] (shapeCast _ (extractStridedSlice S1x1024x768 ![0, 0, 1536] (broadcastInDim S1x1024x2464 ![1, 2] bcast_S1024x2464_S1x1024x2464_1_2 (m ((c : Thread nD τ).loc main_arg4))) slices_S1x1024x2464_S1x1024x768_0_0_1536) shapeCasts_S1x1024x768_S1x1024x8x96 : FVec Ideal S1x1024x8x96 .f32) slices_S1x1024x8x96_S1x1024x8x64_0_0_0_0) shapeCasts_S1x1024x8x64_S1x1024x512 : FVec Ideal S1x1024x512 .f32)⟩,
     ⟨S1x1024x256, (shapeCast _ (extractStridedSlice S1x1024x8x32 ![0, 0, 0, 64] (shapeCast _ (extractStridedSlice S1x1024x768 ![0, 0, 1536] (broadcastInDim S1x1024x2464 ![1, 2] bcast_S1024x2464_S1x1024x2464_1_2 (m ((c : Thread nD τ).loc main_arg4))) slices_S1x1024x2464_S1x1024x768_0_0_1536) shapeCasts_S1x1024x768_S1x1024x8x96 : FVec Ideal S1x1024x8x96 .f32) slices_S1x1024x8x96_S1x1024x8x32_0_0_0_64) shapeCasts_S1x1024x8x32_S1x1024x256 : FVec Ideal S1x1024x256 .f32)⟩,
     ⟨S1x1024x128, (extractStridedSlice S1x1024x128 ![0, 0, 2304] (broadcastInDim S1x1024x2464 ![1, 2] bcast_S1024x2464_S1x1024x2464_1_2 (m ((c : Thread nD τ).loc main_arg4))) slices_S1x1024x2464_S1x1024x128_0_0_2304 : FVec Ideal S1x1024x128 .f32)⟩,
     ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩] concatenates_S1x1024x1536_S1x1024x512_S1x1024x256_S1x1024x128_S1x1024x32_S1x1024x32_S1x1024x32_S1x1024x32_S1x1024x2560_d2) bitsLt_bf16_f32) shapeCasts_S1x1024x2560_S1024x2560 := by
  rfl

set_option maxHeartbeats 2000000 in
/-- The reordered projection: column `n` is the layer's column `cm n`. -/
theorem w_host (c : Dev nD) (d : Fin 1024) (n : Fin 2560) :
    V m c main_v67 (ix2 d n) = aW m c (ix2 d ⟨cm n, cm_lt n n.isLt⟩) := by
  rw [w_entry]
  pointwise
  split_ifs <;> refine congrArg (fun k => aW m c (ix2 d k)) (Fin.ext ?_) <;> simp only [cm] <;> split_ifs <;> omega

end Cert.Kernel2Ideal.Host
-- ==== Proof.InTile.lean ====
/- The input projection's result arrays after the run, each as the layer's closed form of the arguments. -/
module

public import proofs.«01_k».proof.Proof.InRow
public import proofs.«01_k».proof.Proof.InHost

@[expose] public section

set_option maxRecDepth 16384

noncomputable section

namespace Cert.Kernel2Ideal.Final

open Cert.Kernel2Ideal Cert.Kernel2Ideal.Gen Cert.Kernel2Ideal.Run Cert.Kernel2Ideal.Host Cert.Kernel2Ideal.Row Cert.InProj
open Idealize.ShloMosaic Idealize.ShloMosaic.TcCoe Idealize.ShloMosaic.Tactic Idealize.SL.Sem

variable (m : (ℓ : Loc nD τ sig) → Buf (Elt Ideal) ℓ)

/-- The projected columns of token `p` of batch element `b`. -/
def yrow (c : Dev nD) (b : Fin 2) (p : Fin 8192) : ℕ → EReal :=
  proj (hid (fun d => aX m c (ix3 b p d)) (fun d => aG m c (ix1 d)) (fun d => aS m c (ix2 b d)) (fun d => aT m c (ix2 b d)))
    fun d n => aW m c (ix2 d n)

/-- Where every window's block lies, at each of the 32 grid points. -/
theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0, 0]
    ∧ win0_4.index t = ![0, 0]
    ∧ win0_5.index t = ![0, 0]
    ∧ win0_6.index t = ![0, 0]
    ∧ win0_7.index t = ![(grid0.coords t 1).val, 0]
    ∧ win0_8.index t = ![(grid0.coords t 1).val, 0]
    ∧ win0_9.index t = ![(grid0.coords t 1).val, 0]
    ∧ win0_10.index t = ![(grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, 0, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0] :=
  (by decide +kernel : ∀ t : Fin grid0.N, _)

/-- The batch element of a grid point. -/
abbrev bt (t : Fin cfg0.N) : Fin 2 := grid0.coords t 0

/-- The position of row `r` of a grid point. -/
def pos (t : Fin cfg0.N) (r : Fin 512) : Fin 8192 := ⟨512 * (grid0.coords t 1).val + r, by
  have h : (grid0.coords t 1).val < 16 := (grid0.coords t 1).isLt
  omega⟩

/-- The block of rows. -/
theorem x_blk (c : Dev nD) (t : Fin cfg0.N) (r : Fin 512) (d : Fin 1024) : iblk m c 0 t (ix3 0 r d) = aX m c (ix3 (bt t) (pos t r) d) := by
  blk_simp [iblk, V]
  blk_ext [V, idx t, pos]
  rfl

theorem emb1 (t : Fin cfg0.N) (d : Fin 1024) : (win0_1.blk t).view.emb (ix3 0 0 d) = ix3 (bt t) 0 d := by
  blk_ext [idx t, pos]
  rfl

theorem emb2 (t : Fin cfg0.N) (d : Fin 1024) : (win0_2.blk t).view.emb (ix3 0 0 d) = ix3 (bt t) 0 d := by
  blk_ext [idx t, pos]
  rfl

theorem emb3 (t : Fin cfg0.N) (d : Fin 1024) : (win0_3.blk t).view.emb (ix3 0 0 d) = ix3 0 0 d := by
  blk_ext [idx t, pos]

theorem emb4 (t : Fin cfg0.N) (d : Fin 1024) (n : Fin 2560) : (win0_4.blk t).view.emb (ix2 d n) = ix2 d n := by
  blk_ext [idx t, pos]

theorem emb5 (t : Fin cfg0.N) (d : Fin 512) (n : Fin 1024) : (win0_5.blk t).view.emb (ix2 d n) = ix2 d n := by
  blk_ext [idx t, pos]

theorem emb6 (t : Fin cfg0.N) (n : Fin 128) : (win0_6.blk t).view.emb (ix2 0 n) = ix2 0 n := by
  blk_ext [idx t, pos]

theorem emb7 (t : Fin cfg0.N) (r : Fin 512) (l : Fin 128) : (win0_7.blk t).view.emb (ix2 r l) = ix2 (pos t r) l := by
  blk_ext [idx t, pos]

theorem emb8 (t : Fin cfg0.N) (r : Fin 512) (l : Fin 128) : (win0_8.blk t).view.emb (ix2 r l) = ix2 (pos t r) l := by
  blk_ext [idx t, pos]

theorem emb9 (t : Fin cfg0.N) (r : Fin 512) (l : Fin 128) : (win0_9.blk t).view.emb (ix2 r l) = ix2 (pos t r) l := by
  blk_ext [idx t, pos]

theorem emb10 (t : Fin cfg0.N) (r : Fin 512) (l : Fin 128) : (win0_10.blk t).view.emb (ix2 r l) = ix2 (pos t r) l := by
  blk_ext [idx t, pos]

theorem emb11 (t : Fin cfg0.N) (r : Fin 512) (n : Fin 256) : (win0_11.blk t).view.emb (ix3 0 r n) = ix3 (bt t) (pos t r) n := by
  blk_ext [idx t, pos]
  rfl

theorem emb12 (t : Fin cfg0.N) (r : Fin 512) (n : Fin 256) : (win0_12.blk t).view.emb (ix3 0 r n) = ix3 (bt t) (pos t r) n := by
  blk_ext [idx t, pos]
  rfl

theorem emb13 (t : Fin cfg0.N) (r : Fin 512) (n : Fin 256) : (win0_13.blk t).view.emb (ix3 0 r n) = ix3 (bt t) (pos t r) n := by
  blk_ext [idx t, pos]
  rfl

theorem emb14 (t : Fin cfg0.N) (r : Fin 512) (n : Fin 256) : (win0_14.blk t).view.emb (ix3 0 r n) = ix3 (bt t) (pos t r) n := by
  blk_ext [idx t, pos]
  rfl

theorem emb15 (t : Fin cfg0.N) (r : Fin 512) (n : Fin 256) : (win0_15.blk t).view.emb (ix3 0 r n) = ix3 (bt t) (pos t r) n := by
  blk_ext [idx t, pos]
  rfl

theorem emb16 (t : Fin cfg0.N) (r : Fin 512) (n : Fin 256) : (win0_16.blk t).view.emb (ix3 0 r n) = ix3 (bt t) (pos t r) n := by
  blk_ext [idx t, pos]
  rfl

theorem emb17 (t : Fin cfg0.N) (h : Fin 8) (r : Fin 512) (n : Fin 256) : (win0_17.blk t).view.emb (ix4 0 h r n) = ix4 (bt t) h (pos t r) n := by
  blk_ext [idx t, pos]
  rfl

theorem emb18 (t : Fin cfg0.N) (r : Fin 512) (n : Fin 256) : (win0_18.blk t).view.emb (ix3 0 r n) = ix3 (bt t) (pos t r) n := by
  blk_ext [idx t, pos]
  rfl

theorem emb19 (t : Fin cfg0.N) (r : Fin 512) (n : Fin 128) : (win0_19.blk t).view.emb (ix3 0 r n) = ix3 (bt t) (pos t r) n := by
  blk_ext [idx t, pos]
  rfl

theorem emb20 (t : Fin cfg0.N) (r : Fin 512) (n : Fin 32) : (win0_20.blk t).view.emb (ix3 0 r n) = ix3 (bt t) (pos t r) n := by
  blk_ext [idx t, pos]
  rfl

set_option maxHeartbeats 4000000 in
/-- What one row of a grid point's blocks holds. -/
theorem holds (c : Dev nD) (t : Fin cfg0.N) (r : Fin 512) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t)
      r (pos t r) (yrow m c (bt t) (pos t r)) (fun i j k => aU m c (ix3 i j k)) (fun n => aN m c (ix1 n)) where
  hY n := by
    have e0 : (fun d => iblk m c 0 t (ix3 0 r d)) = fun d => aX m c (ix3 (bt t) (pos t r) d) := funext fun d => x_blk m c t r d
    have e1 : (fun d => iblk m c 1 t (ix3 0 0 d)) = fun d => aS m c (ix2 (bt t) d) := funext fun d => (congrArg (V m c main_v83) (emb1 t d)).trans (sc_host m c (bt t) d)
    have e2 : (fun d => iblk m c 2 t (ix3 0 0 d)) = fun d => aT m c (ix2 (bt t) d) := funext fun d => (congrArg (V m c main_v84) (emb2 t d)).trans (sh_host m c (bt t) d)
    have e3 : (fun d => iblk m c 3 t (ix3 0 0 d)) = fun d => aG m c (ix1 d) := funext fun d => (congrArg (V m c main_v85) (emb3 t d)).trans (gain_host m c d)
    rw [e0, e1, e2, e3, yrow, proj_of_lt _ _ _ (cm_lt n n.isLt)]
    exact Finset.sum_congr rfl fun d _ => congrArg (_ * ·) ((congrArg (V m c main_v67) (emb4 t d n)).trans (w_host m c d n))
  hU k n := (congrArg (V m c main_v82) (emb5 t k n)).trans (u_host m c k n)
  hg n := (congrArg (V m c main_v86) (emb6 t n)).trans (kvg_host m c n)
  h7 l := (congrArg (V m c main_v22) (emb7 t r l)).trans (c64_host m c (pos t r) l)
  h8 l := (congrArg (V m c main_v27) (emb8 t r l)).trans (s64_host m c (pos t r) l)
  h9 l := (congrArg (V m c main_v49) (emb9 t r l)).trans (c32_host m c (pos t r) l)
  h10 l := (congrArg (V m c main_v54) (emb10 t r l)).trans (s32_host m c (pos t r) l)

/-- An index of a block of one batch element. -/
theorem ix_row {w : ℕ} (y : (⟨3, ![1, 512, w]⟩ : Shape).Idx) : ∃ (r : Fin 512) (n : Fin w), y = ix3 0 r n :=
  ⟨y 1, y 2, by
    funext a
    fin_cases a
    · exact Fin.ext (by have := (y 0).isLt; simpa using this)
    · rfl
    · rfl⟩

/-- Result 0: the retention's rotated queries. -/
def res0 (c : Dev nD) (b : Fin 2) (p : Fin 8192) (n : Fin 256) : EReal := ret 0 (yrow m c b p) p n

theorem place11 (c : Dev nD) (t : Fin cfg0.N) (y : S1x512x256.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res0 m c ((win0_11.blk t).view.emb y 0) ((win0_11.blk t).view.emb y 1) ((win0_11.blk t).view.emb y 2) := by
  obtain ⟨r, n, rfl⟩ := ix_row y
  rw [emb11 t r n]
  exact out11 (holds m c t r) n

theorem final11 (c : Dev nD) : (dats m 0 c).arrAt 11 cfg0.N = fun y : S2x8192x256.Idx => res0 m c (y 0) (y 1) (y 2) := by
  refine (dats m 0 c).arrAt_eq_of_covers 11 _ (by decide +kernel) fun t _ y => ?_
  blk_simp
  rw [after0_11]
  exact place11 m c t y

/-- Result 1: the retention's rotated keys. -/
def res1 (c : Dev nD) (b : Fin 2) (p : Fin 8192) (n : Fin 256) : EReal := ret 256 (yrow m c b p) p n

theorem place12 (c : Dev nD) (t : Fin cfg0.N) (y : S1x512x256.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res1 m c ((win0_12.blk t).view.emb y 0) ((win0_12.blk t).view.emb y 1) ((win0_12.blk t).view.emb y 2) := by
  obtain ⟨r, n, rfl⟩ := ix_row y
  rw [emb12 t r n]
  exact out12 (holds m c t r) n

theorem final12 (c : Dev nD) : (dats m 0 c).arrAt 12 cfg0.N = fun y : S2x8192x256.Idx => res1 m c (y 0) (y 1) (y 2) := by
  refine (dats m 0 c).arrAt_eq_of_covers 12 _ (by decide +kernel) fun t _ y => ?_
  blk_simp
  rw [after0_12]
  exact place12 m c t y

/-- Result 2: the retention's values. -/
def res2 (c : Dev nD) (b : Fin 2) (p : Fin 8192) (n : Fin 256) : EReal := (yrow m c b p) (512 + n)

theorem place13 (c : Dev nD) (t : Fin cfg0.N) (y : S1x512x256.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res2 m c ((win0_13.blk t).view.emb y 0) ((win0_13.blk t).view.emb y 1) ((win0_13.blk t).view.emb y 2) := by
  obtain ⟨r, n, rfl⟩ := ix_row y
  rw [emb13 t r n]
  exact out13 (holds m c t r) n

theorem final13 (c : Dev nD) : (dats m 0 c).arrAt 13 cfg0.N = fun y : S2x8192x256.Idx => res2 m c (y 0) (y 1) (y 2) := by
  refine (dats m 0 c).arrAt_eq_of_covers 13 _ (by decide +kernel) fun t _ y => ?_
  blk_simp
  rw [after0_13]
  exact place13 m c t y

/-- Result 3: the retention's gate. -/
def res3 (c : Dev nD) (b : Fin 2) (p : Fin 8192) (n : Fin 256) : EReal := (yrow m c b p) (768 + n)

theorem place14 (c : Dev nD) (t : Fin cfg0.N) (y : S1x512x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res3 m c ((win0_14.blk t).view.emb y 0) ((win0_14.blk t).view.emb y 1) ((win0_14.blk t).view.emb y 2) := by
  obtain ⟨r, n, rfl⟩ := ix_row y
  rw [emb14 t r n]
  exact out14 (holds m c t r) n

theorem final14 (c : Dev nD) : (dats m 0 c).arrAt 14 cfg0.N = fun y : S2x8192x256.Idx => res3 m c (y 0) (y 1) (y 2) := by
  refine (dats m 0 c).arrAt_eq_of_covers 14 _ (by decide +kernel) fun t _ y => ?_
  blk_simp
  rw [after0_14]
  exact place14 m c t y

/-- Result 4: the recurrence's input. -/
def res4 (c : Dev nD) (b : Fin 2) (p : Fin 8192) (n : Fin 256) : EReal := (yrow m c b p) (1024 + n)

theorem place15 (c : Dev nD) (t : Fin cfg0.N) (y : S1x512x256.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res4 m c ((win0_15.blk t).view.emb y 0) ((win0_15.blk t).view.emb y 1) ((win0_15.blk t).view.emb y 2) := by
  obtain ⟨r, n, rfl⟩ := ix_row y
  rw [emb15 t r n]
  exact out15 (holds m c t r) n

theorem final15 (c : Dev nD) : (dats m 0 c).arrAt 15 cfg0.N = fun y : S2x8192x256.Idx => res4 m c (y 0) (y 1) (y 2) := by
  refine (dats m 0 c).arrAt_eq_of_covers 15 _ (by decide +kernel) fun t _ y => ?_
  blk_simp
  rw [after0_15]
  exact place15 m c t y

/-- Result 5: the recurrence's gate. -/
def res5 (c : Dev nD) (b : Fin 2) (p : Fin 8192) (n : Fin 256) : EReal := (yrow m c b p) (1280 + n)

theorem place16 (c : Dev nD) (t : Fin cfg0.N) (y : S1x512x256.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res5 m c ((win0_16.blk t).view.emb y 0) ((win0_16.blk t).view.emb y 1) ((win0_16.blk t).view.emb y 2) := by
  obtain ⟨r, n, rfl⟩ := ix_row y
  rw [emb16 t r n]
  exact out16 (holds m c t r) n

theorem final16 (c : Dev nD) : (dats m 0 c).arrAt 16 cfg0.N = fun y : S2x8192x256.Idx => res5 m c (y 0) (y 1) (y 2) := by
  refine (dats m 0 c).arrAt_eq_of_covers 16 _ (by decide +kernel) fun t _ y => ?_
  blk_simp
  rw [after0_16]
  exact place16 m c t y

/-- Result 6: the attention's queries. -/
def res6 (c : Dev nD) (b : Fin 2) (h : Fin 8) (p : Fin 8192) (n : Fin 256) : EReal := qcat (yrow m c b p) (fun i j k => aU m c (ix3 i j k)) p h n

theorem place17 (c : Dev nD) (t : Fin cfg0.N) (y : S1x8x512x256.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res6 m c ((win0_17.blk t).view.emb y 0) ((win0_17.blk t).view.emb y 1) ((win0_17.blk t).view.emb y 2) ((win0_17.blk t).view.emb y 3) := by
  obtain ⟨h, r, n, rfl⟩ : ∃ (h : Fin 8) (r : Fin 512) (n : Fin 256), y = ix4 0 h r n :=
    ⟨y 1, y 2, y 3, by
      funext a
      fin_cases a
      · exact Fin.ext (by have := (y 0).isLt; simpa using this)
      · rfl
      · rfl
      · rfl⟩
  rw [emb17 t h r n]
  exact out17 (holds m c t r) h n

theorem final17 (c : Dev nD) : (dats m 0 c).arrAt 17 cfg0.N = fun y : S2x8x8192x256.Idx => res6 m c (y 0) (y 1) (y 2) (y 3) := by
  refine (dats m 0 c).arrAt_eq_of_covers 17 _ (by decide +kernel) fun t _ y => ?_
  blk_simp
  rw [after0_17]
  exact place17 m c t y

/-- Result 7: the attention's keys. -/
def res7 (c : Dev nD) (b : Fin 2) (p : Fin 8192) (n : Fin 256) : EReal := kcat (yrow m c b p) (fun n => aN m c (ix1 n)) p n

theorem place18 (c : Dev nD) (t : Fin cfg0.N) (y : S1x512x256.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res7 m c ((win0_18.blk t).view.emb y 0) ((win0_18.blk t).view.emb y 1) ((win0_18.blk t).view.emb y 2) := by
  obtain ⟨r, n, rfl⟩ := ix_row y
  rw [emb18 t r n]
  exact out18 (holds m c t r) n

theorem final18 (c : Dev nD) : (dats m 0 c).arrAt 18 cfg0.N = fun y : S2x8192x256.Idx => res7 m c (y 0) (y 1) (y 2) := by
  refine (dats m 0 c).arrAt_eq_of_covers 18 _ (by decide +kernel) fun t _ y => ?_
  blk_simp
  rw [after0_18]
  exact place18 m c t y

/-- Result 8: the compressed keys. -/
def res8 (c : Dev nD) (b : Fin 2) (p : Fin 8192) (n : Fin 128) : EReal := ckv (yrow m c b p) (fun n => aN m c (ix1 n)) n

theorem place19 (c : Dev nD) (t : Fin cfg0.N) (y : S1x512x128.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res8 m c ((win0_19.blk t).view.emb y 0) ((win0_19.blk t).view.emb y 1) ((win0_19.blk t).view.emb y 2) := by
  obtain ⟨r, n, rfl⟩ := ix_row y
  rw [emb19 t r n]
  exact out19 (holds m c t r) n

theorem final19 (c : Dev nD) : (dats m 0 c).arrAt 19 cfg0.N = fun y : S2x8192x128.Idx => res8 m c (y 0) (y 1) (y 2) := by
  refine (dats m 0 c).arrAt_eq_of_covers 19 _ (by decide +kernel) fun t _ y => ?_
  blk_simp
  rw [after0_19]
  exact place19 m c t y

/-- Result 9: the rotated key part. -/
def res9 (c : Dev nD) (b : Fin 2) (p : Fin 8192) (n : Fin 32) : EReal := kr (yrow m c b p) p n

theorem place20 (c : Dev nD) (t : Fin cfg0.N) (y : S1x512x32.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res9 m c ((win0_20.blk t).view.emb y 0) ((win0_20.blk t).view.emb y 1) ((win0_20.blk t).view.emb y 2) := by
  obtain ⟨r, n, rfl⟩ := ix_row y
  rw [emb20 t r n]
  exact out20 (holds m c t r) n

theorem final20 (c : Dev nD) : (dats m 0 c).arrAt 20 cfg0.N = fun y : S2x8192x32.Idx => res9 m c (y 0) (y 1) (y 2) := by
  refine (dats m 0 c).arrAt_eq_of_covers 20 _ (by decide +kernel) fun t _ y => ?_
  blk_simp
  rw [after0_20]
  exact place20 m c t y

end Cert.Kernel2Ideal.Final
-- ==== Proof.InProj.lean ====
/- The input projection: its frames, and its run and the reference's ending with the same ten results. -/
module

public import proofs.«01_k».proof.Defs
public import proofs.«01_k».proof.Proof.Gen.Kernel2
public import proofs.«01_k».proof.Proof.InRef
public import proofs.«01_k».proof.Proof.InTile
public import Idealize.ShloMosaic.Lib.Claim

@[expose] public section

set_option maxRecDepth 16384

noncomputable section

namespace Cert.InProj.Values

open Idealize.ShloMosaic Idealize.ShloMosaic.TcCoe Idealize.SL.Sem

/-- The reference runs, keeps its arguments, and declares no semaphore. -/
theorem frame_reference : Cert.quiescent_Reference2Ideal := fun m g _ =>
  (θ_run Cert.Reference2Ideal.defs _ _).mono
    (fun r h => ⟨fun c => (h c).2.2.2.2.2.2.2.2.2.2, sem_eq_zero_of_no_sems (by decide) r.2⟩)
    (Cert.Reference2Ideal.Value.run (F := Ideal) m g)

/-- The kernel runs, keeps its arguments, and leaves its semaphores at zero, at the ideal instance. -/
theorem frame_ideal : Cert.quiescent_Kernel2Ideal := fun m g _ => Cert.Kernel2Ideal.Run.frame (F := Ideal) m g

section
variable (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)

/-- The two programs' memories hold the same arguments. -/
abbrev Same : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)

variable {m m' c} (h : Same m m' c)
include h

/-- The projected columns of a token, on both sides. -/
theorem row_eq (b : Fin 2) (p : Fin 8192) :
    Cert.Reference2Ideal.InRef.row (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p = Cert.Kernel2Ideal.Final.yrow m c b p := by
  obtain ⟨h0, h1, h2, h3, h4, -, -⟩ := h
  rw [h0, h1, h2, h3, h4]
  rfl

theorem eq0 : Cert.Reference2Ideal.Read.val_main_v224 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 11 Cert.Kernel2Ideal.cfg0.N := by
  rw [Cert.Kernel2Ideal.Final.final11 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.rq_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq1 : Cert.Reference2Ideal.Read.val_main_v225 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 12 Cert.Kernel2Ideal.cfg0.N := by
  rw [Cert.Kernel2Ideal.Final.final12 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.rk_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq2 : Cert.Reference2Ideal.Read.val_main_v25 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 13 Cert.Kernel2Ideal.cfg0.N := by
  rw [Cert.Kernel2Ideal.Final.final13 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.rv_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq3 : Cert.Reference2Ideal.Read.val_main_v26 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 14 Cert.Kernel2Ideal.cfg0.N := by
  rw [Cert.Kernel2Ideal.Final.final14 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.rg_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq4 : Cert.Reference2Ideal.Read.val_main_v27 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 15 Cert.Kernel2Ideal.cfg0.N := by
  rw [Cert.Kernel2Ideal.Final.final15 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.lx_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq5 : Cert.Reference2Ideal.Read.val_main_v28 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 16 Cert.Kernel2Ideal.cfg0.N := by
  rw [Cert.Kernel2Ideal.Final.final16 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.lg_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

theorem eq6 : Cert.Reference2Ideal.Read.val_main_v221 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
    = (Cert.Kernel2Ideal.Run.dats m 0 c).arrAt 17 Cert.Kernel2Ideal.cfg0.N := by
  rw [Cert.Kernel2Ideal.Final.final17 m c]
  funext y
  obtain ⟨b, hd, p, n, rfl⟩ : ∃ (b : Fin 2) (hd : Fin 8) (p : Fin 8192) (n : Fin 256), y = ix4 b hd p n :=
    ⟨y 0, y 1, y 2, y 3, by funext a; fin_cases a <;> rfl⟩
  refine (Cert.Reference2Ideal.InRef.qcat_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) b p hd n).trans ?_
  rw [row_eq h b p]
  rw [h.2.2.2.2.2.1]; rfl

theorem eq7 : Cert.Reference2Ideal.Read.val_main_v223 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg6))
    = (Cert.Kernel2Ideal.Run.dats m 0 c).arrAt 18 Cert.Kernel2Ideal.cfg0.N := by
  rw [Cert.Kernel2Ideal.Final.final18 m c]
  funext y
  obtain ⟨b, p, n, rfl⟩ : ∃ (b : Fin 2) (p : Fin 8192) (n : Fin 256), y = ix3 b p n :=
    ⟨y 0, y 1, y 2, by funext a; fin_cases a <;> rfl⟩
  refine (Cert.Reference2Ideal.InRef.kcat_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg6)) b p n).trans ?_
  rw [row_eq h b p]
  rw [h.2.2.2.2.2.2]; rfl

theorem eq8 : Cert.Reference2Ideal.Read.val_main_v160 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg6))
    = (Cert.Kernel2Ideal.Run.dats m 0 c).arrAt 19 Cert.Kernel2Ideal.cfg0.N := by
  rw [Cert.Kernel2Ideal.Final.final19 m c]
  funext y
  obtain ⟨b, p, n, rfl⟩ : ∃ (b : Fin 2) (p : Fin 8192) (n : Fin 128), y = ix3 b p n :=
    ⟨y 0, y 1, y 2, by funext a; fin_cases a <;> rfl⟩
  refine (Cert.Reference2Ideal.InRef.ckv_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg6)) b p n).trans ?_
  rw [row_eq h b p]
  rw [h.2.2.2.2.2.2]; rfl

theorem eq9 : Cert.Reference2Ideal.Read.val_main_v199 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = (Cert.Kernel2Ideal.Run.dats m 0 c).arrAt 20 Cert.Kernel2Ideal.cfg0.N := by
  rw [Cert.Kernel2Ideal.Final.final20 m c]
  funext y
  obtain ⟨b, p, n, rfl⟩ : ∃ (b : Fin 2) (p : Fin 8192) (n : Fin 32), y = ix3 b p n :=
    ⟨y 0, y 1, y 2, by funext a; fin_cases a <;> rfl⟩
  refine (Cert.Reference2Ideal.InRef.kr_apply (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) b p n).trans ?_
  rw [row_eq h b p]
  rfl

end

set_option maxHeartbeats 4000000 in
/-- The value claim: both runs end with the same ten results on every device. -/
theorem algebraic : Cert.algebraic_Kernel2Ideal_Reference2Ideal := by
  intro m g m' g' _ hargs
  refine ⟨fun c => (Cert.Kernel2Ideal.Run.dats m 0 c).arrAt 11 Cert.Kernel2Ideal.cfg0.N,
    fun c => (Cert.Kernel2Ideal.Run.dats m 0 c).arrAt 12 Cert.Kernel2Ideal.cfg0.N,
    fun c => (Cert.Kernel2Ideal.Run.dats m 0 c).arrAt 13 Cert.Kernel2Ideal.cfg0.N,
    fun c => (Cert.Kernel2Ideal.Run.dats m 0 c).arrAt 14 Cert.Kernel2Ideal.cfg0.N,
    fun c => (Cert.Kernel2Ideal.Run.dats m 0 c).arrAt 15 Cert.Kernel2Ideal.cfg0.N,
    fun c => (Cert.Kernel2Ideal.Run.dats m 0 c).arrAt 16 Cert.Kernel2Ideal.cfg0.N,
    fun c => (Cert.Kernel2Ideal.Run.dats m 0 c).arrAt 17 Cert.Kernel2Ideal.cfg0.N,
    fun c => (Cert.Kernel2Ideal.Run.dats m 0 c).arrAt 18 Cert.Kernel2Ideal.cfg0.N,
    fun c => (Cert.Kernel2Ideal.Run.dats m 0 c).arrAt 19 Cert.Kernel2Ideal.cfg0.N,
    fun c => (Cert.Kernel2Ideal.Run.dats m 0 c).arrAt 20 Cert.Kernel2Ideal.cfg0.N,
    Cert.Kernel2Ideal.Run.run_blocks (F := Ideal) m g, ?_⟩
  refine (θ_run Cert.Reference2Ideal.defs _ _).mono (fun r h c => ?_) (Cert.Reference2Ideal.Value.run (F := Ideal) m' g')
  obtain ⟨e0, e1, e2, e3, e4, e5, e6, e7, e8, e9, k⟩ := h c
  exact ⟨e0.trans ((Cert.Reference2Ideal.Read.val_main_v224_eq _).trans (eq0 (hargs c))),
    e1.trans ((Cert.Reference2Ideal.Read.val_main_v225_eq _).trans (eq1 (hargs c))),
    e2.trans ((Cert.Reference2Ideal.Read.val_main_v25_eq _).trans (eq2 (hargs c))),
    e3.trans ((Cert.Reference2Ideal.Read.val_main_v26_eq _).trans (eq3 (hargs c))),
    e4.trans ((Cert.Reference2Ideal.Read.val_main_v27_eq _).trans (eq4 (hargs c))),
    e5.trans ((Cert.Reference2Ideal.Read.val_main_v28_eq _).trans (eq5 (hargs c))),
    e6.trans ((Cert.Reference2Ideal.Read.val_main_v221_eq _).trans (eq6 (hargs c))),
    e7.trans ((Cert.Reference2Ideal.Read.val_main_v223_eq _).trans (eq7 (hargs c))),
    e8.trans ((Cert.Reference2Ideal.Read.val_main_v160_eq _).trans (eq8 (hargs c))),
    e9.trans ((Cert.Reference2Ideal.Read.val_main_v199_eq _).trans (eq9 (hargs c))), k⟩

end Cert.InProj.Values
-- ==== Proof.SmRun.lean ====
/- The sampling group's input projection: its launch, its blocks at a grid point, its run, its frame, and its result arrays after the run. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Run

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S32x8x1024 := Rect.unit (s := S32x8x1024) ![0, 0, 0] S32x8x1024.size inb_S32x8x1024_S32x8x1024_0_0_0
abbrev r0_1 : Rect S1x1x1024 := Rect.unit (s := S1x1x1024) ![0, 0, 0] S1x1x1024.size inb_S1x1x1024_S1x1x1024_0_0_0
abbrev r0_2 : Rect S32x1x1024 := Rect.unit (s := S32x1x1024) ![0, 0, 0] S32x1x1024.size inb_S32x1x1024_S32x1x1024_0_0_0
abbrev r0_3 : Rect S8x128 := Rect.unit (s := S8x128) ![0, 0] S8x128.size inb_S8x128_S8x128_0_0
abbrev r0_4 : Rect S1024x2560 := Rect.unit (s := S1024x2560) ![0, 0] S1024x256.size inb_S1024x2560_S1024x256_0_0
abbrev r0_5 : Rect S32x8x256 := Rect.unit (s := S32x8x256) ![0, 0, 0] S32x8x256.size inb_S32x8x256_S32x8x256_0_0_0
abbrev r0_6 : Rect S1024x2560 := Rect.unit (s := S1024x2560) ![0, 256] S1024x256.size inb_S1024x2560_S1024x256_0_256
abbrev r0_7 : Rect S1024x2560 := Rect.unit (s := S1024x2560) ![0, 512] S1024x256.size inb_S1024x2560_S1024x256_0_512
abbrev r0_8 : Rect S1024x2560 := Rect.unit (s := S1024x2560) ![0, 768] S1024x256.size inb_S1024x2560_S1024x256_0_768
abbrev r0_9 : Rect S1024x2560 := Rect.unit (s := S1024x2560) ![0, 1024] S1024x256.size inb_S1024x2560_S1024x256_0_1024
abbrev r0_10 : Rect S1024x2560 := Rect.unit (s := S1024x2560) ![0, 1280] S1024x256.size inb_S1024x2560_S1024x256_0_1280
abbrev r0_11 : Rect S1024x2560 := Rect.unit (s := S1024x2560) ![0, 1536] S1024x512.size inb_S1024x2560_S1024x512_0_1536
abbrev r0_12 : Rect S512x1024 := Rect.unit (s := S512x1024) ![0, 0] S512x1024.size inb_S512x1024_S512x1024_0_0
abbrev r0_13 : Rect S1024x2560 := Rect.unit (s := S1024x2560) ![0, 2048] S1024x256.size inb_S1024x2560_S1024x256_0_2048
abbrev r0_14 : Rect S32x8x8x256 := Rect.unit (s := S32x8x8x256) ![0, 0, 0, 0] S32x1x8x256.size inb_S32x8x8x256_S32x1x8x256_0_0_0_0
abbrev r0_15 : Rect S32x8x8x256 := Rect.unit (s := S32x8x8x256) ![0, 1, 0, 0] S32x1x8x256.size inb_S32x8x8x256_S32x1x8x256_0_1_0_0
abbrev r0_16 : Rect S32x8x8x256 := Rect.unit (s := S32x8x8x256) ![0, 2, 0, 0] S32x1x8x256.size inb_S32x8x8x256_S32x1x8x256_0_2_0_0
abbrev r0_17 : Rect S32x8x8x256 := Rect.unit (s := S32x8x8x256) ![0, 3, 0, 0] S32x1x8x256.size inb_S32x8x8x256_S32x1x8x256_0_3_0_0
abbrev r0_18 : Rect S32x8x8x256 := Rect.unit (s := S32x8x8x256) ![0, 4, 0, 0] S32x1x8x256.size inb_S32x8x8x256_S32x1x8x256_0_4_0_0
abbrev r0_19 : Rect S32x8x8x256 := Rect.unit (s := S32x8x8x256) ![0, 5, 0, 0] S32x1x8x256.size inb_S32x8x8x256_S32x1x8x256_0_5_0_0
abbrev r0_20 : Rect S32x8x8x256 := Rect.unit (s := S32x8x8x256) ![0, 6, 0, 0] S32x1x8x256.size inb_S32x8x8x256_S32x1x8x256_0_6_0_0
abbrev r0_21 : Rect S32x8x8x256 := Rect.unit (s := S32x8x8x256) ![0, 7, 0, 0] S32x1x8x256.size inb_S32x8x8x256_S32x1x8x256_0_7_0_0
abbrev r0_22 : Rect S1024x2560 := Rect.unit (s := S1024x2560) ![0, 2304] S1024x128.size inb_S1024x2560_S1024x128_0_2304
abbrev r0_23 : Rect S1x128 := Rect.unit (s := S1x128) ![0, 0] S1x128.size inb_S1x128_S1x128_0_0
abbrev r0_24 : Rect S1024x2560 := Rect.unit (s := S1024x2560) ![0, 2432] S1024x128.size inb_S1024x2560_S1024x128_0_2432
abbrev r0_25 : Rect S32x8x128 := Rect.unit (s := S32x8x128) ![0, 0, 0] S32x8x128.size inb_S32x8x128_S32x8x128_0_0_0
abbrev r0_26 : Rect S32x8x32 := Rect.unit (s := S32x8x32) ![0, 0, 0] S32x8x32.size inb_S32x8x32_S32x8x32_0_0_0

/-! ## What the body leaves in each output window's buffer -/

/-! ### Values of the body that the stores' payloads, spelt out, would write more than once

    Each is a vector the body binds (often a part call's result), stated over the input windows' blocks and
    numbered on from the skeleton's payload functions (`k0_pay58` …, after `k0_pay57`), so that
    `out0_W` and the values after it name it instead of spelling it out (`unfold_out out0_W` opens a canon
    with them, `unfold_payloads` opens them with the payloads); the comment after each is the printed function's
    name for the value (a count appended where that name is bound again). -/

def k0_pay58 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x1024 .bf16 :=
  k0_pay5 (View.ld x0 r0_0) (View.ld x3 r0_1) (View.ld x1 r0_2) (View.ld x2 r0_2) -- `v26`
def k0_pay59 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay6 (View.ld x7 r0_3) -- `v32`
def k0_pay60 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S32x8x128 .f32 :=
  k0_pay7 (View.ld x8 r0_3) -- `v37`
def k0_pay61 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay8 (k0_pay60 x0 x1 x2 x3 x4 x5 x6 x7 x8 x9 x10) -- `v38`
def k0_pay62 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay9 (View.ld x9 r0_3) -- `v44`
def k0_pay63 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay10 (View.ld x10 r0_3) -- `v50`
def k0_pay64 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x1024 .f32 :=
  k0_pay26 (k0_pay25 (k0_pay58 x0 x1 x2 x3 x4 x5 x6 x7 x8 x9 x10) (View.ld x4 r0_11)) (View.ld x5 r0_12) -- `v195`
def k0_pay65 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay28 (k0_pay58 x0 x1 x2 x3 x4 x5 x6 x7 x8 x9 x10) (k0_pay62 x0 x1 x2 x3 x4 x5 x6 x7 x8 x9 x10) (k0_pay63 x0 x1 x2 x3 x4 x5 x6 x7 x8 x9 x10) (View.ld x4 r0_13) -- `v224`
def k0_pay66 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay29 (k0_pay58 x0 x1 x2 x3 x4 x5 x6 x7 x8 x9 x10) (View.ld x4 r0_13) -- `v225`
def k0_pay67 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : IVec S256x128 32 :=
  k0_pay30 -- `v230`
def k0_pay68 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : IVec S256x128 1 :=
  k0_pay31 -- `v232`
def k0_pay69 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : IVec S256x128 32 :=
  iota .tc S256x128 32 [1] iota_S256x128_d1_w32 -- `v254`
def k0_pay70 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x256 .f32 :=
  k0_pay32 (k0_pay62 x0 x1 x2 x3 x4 x5 x6 x7 x8 x9 x10) (k0_pay63 x0 x1 x2 x3 x4 x5 x6 x7 x8 x9 x10) (k0_pay65 x0 x1 x2 x3 x4 x5 x6 x7 x8 x9 x10) (k0_pay66 x0 x1 x2 x3 x4 x5 x6 x7 x8 x9 x10) (Scalar.select (Scalar.cmpi .eq 32#32 0#32) 1#32 32#32) (k0_pay67 x0 x1 x2 x3 x4 x5 x6 x7 x8 x9 x10) (k0_pay68 x0 x1 x2 x3 x4 x5 x6 x7 x8 x9 x10) -- `v253`
def k0_pay71 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay54 (k0_pay58 x0 x1 x2 x3 x4 x5 x6 x7 x8 x9 x10) (View.ld x4 r0_22) (View.ld x6 r0_23) -- `v551`
def k0_pay72 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay55 (k0_pay58 x0 x1 x2 x3 x4 x5 x6 x7 x8 x9 x10) (View.ld x4 r0_24) -- `v554`
def k0_pay73 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : IVec S256x128 1 :=
  k0_pay56 -- `v573`
def k0_pay74 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : FVec F S256x128 .f32 :=
  k0_pay57 (k0_pay58 x0 x1 x2 x3 x4 x5 x6 x7 x8 x9 x10) (View.ld x4 r0_24) -- `v574`

/-- Window 11's staging buffer after the body, from the input windows' blocks: its 1 store as pieces, LAST
    FIRST (`View.canon`; the payloads are the body's own values and those stated above). -/
def out0_11 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay14 (k0_pay59 x0 x1 x2 x3 x4 x5 x6 x7 x8 x9 x10) (k0_pay61 x0 x1 x2 x3 x4 x5 x6 x7 x8 x9 x10) (k0_pay12 (k0_pay58 x0 x1 x2 x3 x4 x5 x6 x7 x8 x9 x10) (k0_pay59 x0 x1 x2 x3 x4 x5 x6 x7 x8 x9 x10) (k0_pay60 x0 x1 x2 x3 x4 x5 x6 x7 x8 x9 x10) (View.ld x4 r0_4)) (k0_pay13 (k0_pay58 x0 x1 x2 x3 x4 x5 x6 x7 x8 x9 x10) (View.ld x4 r0_4)) (iota .tc S256x128 32 [1] iota_S256x128_d1_w32)⟩]

/-- Its stores tile the buffer (checked by evaluation), so they cover it. -/
theorem cover0_11 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 12's staging buffer after the body, from the input windows' blocks: its 1 store as pieces, LAST
    FIRST (`View.canon`; the payloads are the body's own values and those stated above). -/
def out0_12 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay20 (k0_pay59 x0 x1 x2 x3 x4 x5 x6 x7 x8 x9 x10) (k0_pay61 x0 x1 x2 x3 x4 x5 x6 x7 x8 x9 x10) (k0_pay15 (k0_pay58 x0 x1 x2 x3 x4 x5 x6 x7 x8 x9 x10) (View.ld x4 r0_6)) (k0_pay16 (k0_pay58 x0 x1 x2 x3 x4 x5 x6 x7 x8 x9 x10) (View.ld x4 r0_6)) (Scalar.select (Scalar.cmpi .eq 64#32 0#32) 1#32 64#32) k0_pay17 k0_pay18 k0_pay19⟩]

/-- Its stores tile the buffer (checked by evaluation), so they cover it. -/
theorem cover0_12 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 13's staging buffer after the body, from the input windows' blocks: its 1 store as pieces, LAST
    FIRST (`View.canon`; the payloads are the body's own values and those stated above). -/
def out0_13 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay21 (k0_pay58 x0 x1 x2 x3 x4 x5 x6 x7 x8 x9 x10) (View.ld x4 r0_7)⟩]

/-- Its stores tile the buffer (checked by evaluation), so they cover it. -/
theorem cover0_13 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 14's staging buffer after the body, from the input windows' blocks: its 1 store as pieces, LAST
    FIRST (`View.canon`; the payloads are the body's own values and those stated above). -/
def out0_14 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay22 (k0_pay58 x0 x1 x2 x3 x4 x5 x6 x7 x8 x9 x10) (View.ld x4 r0_8)⟩]

/-- Its stores tile the buffer (checked by evaluation), so they cover it. -/
theorem cover0_14 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 15's staging buffer after the body, from the input windows' blocks: its 1 store as pieces, LAST
    FIRST (`View.canon`; the payloads are the body's own values and those stated above). -/
def out0_15 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay23 (k0_pay58 x0 x1 x2 x3 x4 x5 x6 x7 x8 x9 x10) (View.ld x4 r0_9)⟩]

/-- Its stores tile the buffer (checked by evaluation), so they cover it. -/
theorem cover0_15 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 16's staging buffer after the body, from the input windows' blocks: its 1 store as pieces, LAST
    FIRST (`View.canon`; the payloads are the body's own values and those stated above). -/
def out0_16 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay24 (k0_pay58 x0 x1 x2 x3 x4 x5 x6 x7 x8 x9 x10) (View.ld x4 r0_10)⟩]

/-- Its stores tile the buffer (checked by evaluation), so they cover it. -/
theorem cover0_16 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 17's staging buffer after the body, from the input windows' blocks: its 8 stores as pieces, LAST
    FIRST (`View.canon`; the payloads are the body's own values and those stated above). -/
def out0_17 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x8x256 .f32 :=
  View.canon [⟨r0_21, k0_pay53 (k0_pay64 x0 x1 x2 x3 x4 x5 x6 x7 x8 x9 x10) (k0_pay70 x0 x1 x2 x3 x4 x5 x6 x7 x8 x9 x10) (k0_pay69 x0 x1 x2 x3 x4 x5 x6 x7 x8 x9 x10)⟩,
    ⟨r0_20, k0_pay52 (k0_pay64 x0 x1 x2 x3 x4 x5 x6 x7 x8 x9 x10) (k0_pay51 (k0_pay70 x0 x1 x2 x3 x4 x5 x6 x7 x8 x9 x10) (k0_pay69 x0 x1 x2 x3 x4 x5 x6 x7 x8 x9 x10))⟩,
    ⟨r0_19, k0_pay50 (k0_pay64 x0 x1 x2 x3 x4 x5 x6 x7 x8 x9 x10) (k0_pay46 (k0_pay70 x0 x1 x2 x3 x4 x5 x6 x7 x8 x9 x10)) (k0_pay47 (k0_pay69 x0 x1 x2 x3 x4 x5 x6 x7 x8 x9 x10)) (k0_pay48 (k0_pay69 x0 x1 x2 x3 x4 x5 x6 x7 x8 x9 x10)) (k0_pay49 (k0_pay69 x0 x1 x2 x3 x4 x5 x6 x7 x8 x9 x10))⟩,
    ⟨r0_18, k0_pay45 (k0_pay64 x0 x1 x2 x3 x4 x5 x6 x7 x8 x9 x10) (k0_pay69 x0 x1 x2 x3 x4 x5 x6 x7 x8 x9 x10) (k0_pay42 (k0_pay70 x0 x1 x2 x3 x4 x5 x6 x7 x8 x9 x10)) 32#32 (k0_pay43 (k0_pay69 x0 x1 x2 x3 x4 x5 x6 x7 x8 x9 x10)) (k0_pay44 (k0_pay69 x0 x1 x2 x3 x4 x5 x6 x7 x8 x9 x10)) (Scalar.extui (Scalar.cmpi .sgt 32#32 0#32))⟩,
    ⟨r0_17, k0_pay41 (k0_pay64 x0 x1 x2 x3 x4 x5 x6 x7 x8 x9 x10) (k0_pay69 x0 x1 x2 x3 x4 x5 x6 x7 x8 x9 x10) (k0_pay39 (k0_pay70 x0 x1 x2 x3 x4 x5 x6 x7 x8 x9 x10)) 32#32 (k0_pay40 (k0_pay69 x0 x1 x2 x3 x4 x5 x6 x7 x8 x9 x10)) 0#32⟩,
    ⟨r0_16, k0_pay38 (k0_pay64 x0 x1 x2 x3 x4 x5 x6 x7 x8 x9 x10) (k0_pay70 x0 x1 x2 x3 x4 x5 x6 x7 x8 x9 x10) (k0_pay69 x0 x1 x2 x3 x4 x5 x6 x7 x8 x9 x10)⟩,
    ⟨r0_15, k0_pay37 (k0_pay36 (k0_pay64 x0 x1 x2 x3 x4 x5 x6 x7 x8 x9 x10) (k0_pay70 x0 x1 x2 x3 x4 x5 x6 x7 x8 x9 x10) (k0_pay69 x0 x1 x2 x3 x4 x5 x6 x7 x8 x9 x10))⟩,
    ⟨r0_14, k0_pay35 (k0_pay64 x0 x1 x2 x3 x4 x5 x6 x7 x8 x9 x10) (k0_pay33 (k0_pay62 x0 x1 x2 x3 x4 x5 x6 x7 x8 x9 x10) (k0_pay63 x0 x1 x2 x3 x4 x5 x6 x7 x8 x9 x10) (k0_pay65 x0 x1 x2 x3 x4 x5 x6 x7 x8 x9 x10) (k0_pay66 x0 x1 x2 x3 x4 x5 x6 x7 x8 x9 x10) (Scalar.select (Scalar.cmpi .eq 32#32 0#32) 1#32 32#32) (k0_pay67 x0 x1 x2 x3 x4 x5 x6 x7 x8 x9 x10) (k0_pay68 x0 x1 x2 x3 x4 x5 x6 x7 x8 x9 x10)) k0_pay34⟩]

/-- Its stores tile the buffer (checked by evaluation), so they cover it. -/
theorem cover0_17 (p0 : Vec F S32x1x8x256 .f32) (p1 : Vec F S32x1x8x256 .f32) (p2 : Vec F S32x1x8x256 .f32) (p3 : Vec F S32x1x8x256 .f32) (p4 : Vec F S32x1x8x256 .f32) (p5 : Vec F S32x1x8x256 .f32) (p6 : Vec F S32x1x8x256 .f32) (p7 : Vec F S32x1x8x256 .f32) (y : S32x8x8x256.Idx) :
    ∃ pc ∈ ([⟨r0_21, p0⟩, ⟨r0_20, p1⟩, ⟨r0_19, p2⟩, ⟨r0_18, p3⟩, ⟨r0_17, p4⟩, ⟨r0_16, p5⟩, ⟨r0_15, p6⟩, ⟨r0_14, p7⟩] : List (View.Piece (Elt F) S32x8x8x256 .f32)), y ∈ pc.1.set :=
  View.cover_of_tiled [⟨r0_21, p0⟩, ⟨r0_20, p1⟩, ⟨r0_19, p2⟩, ⟨r0_18, p3⟩, ⟨r0_17, p4⟩, ⟨r0_16, p5⟩, ⟨r0_15, p6⟩, ⟨r0_14, p7⟩] S32x1x8x256.size (by rfl) y

/-- Window 18's staging buffer after the body, from the input windows' blocks: its 1 store as pieces, LAST
    FIRST (`View.canon`; the payloads are the body's own values and those stated above). -/
def out0_18 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x256 .f32 :=
  View.canon [⟨r0_5, k0_pay4 (k0_pay62 x0 x1 x2 x3 x4 x5 x6 x7 x8 x9 x10) (k0_pay63 x0 x1 x2 x3 x4 x5 x6 x7 x8 x9 x10) (k0_pay71 x0 x1 x2 x3 x4 x5 x6 x7 x8 x9 x10) (k0_pay72 x0 x1 x2 x3 x4 x5 x6 x7 x8 x9 x10) (k0_pay73 x0 x1 x2 x3 x4 x5 x6 x7 x8 x9 x10) (k0_pay74 x0 x1 x2 x3 x4 x5 x6 x7 x8 x9 x10) 16#32⟩]

/-- Its stores tile the buffer (checked by evaluation), so they cover it. -/
theorem cover0_18 (p0 : Vec F S32x8x256 .f32) (y : S32x8x256.Idx) :
    ∃ pc ∈ ([⟨r0_5, p0⟩] : List (View.Piece (Elt F) S32x8x256 .f32)), y ∈ pc.1.set :=
  View.cover_of_tiled [⟨r0_5, p0⟩] S32x8x256.size (by rfl) y

/-- Window 19's staging buffer after the body, from the input windows' blocks: its 1 store as pieces, LAST
    FIRST (`View.canon`; the payloads are the body's own values and those stated above). -/
def out0_19 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x128 .f32 :=
  View.canon [⟨r0_25, k0_pay2 (k0_pay71 x0 x1 x2 x3 x4 x5 x6 x7 x8 x9 x10)⟩]

/-- Its stores tile the buffer (checked by evaluation), so they cover it. -/
theorem cover0_19 (p0 : Vec F S32x8x128 .f32) (y : S32x8x128.Idx) :
    ∃ pc ∈ ([⟨r0_25, p0⟩] : List (View.Piece (Elt F) S32x8x128 .f32)), y ∈ pc.1.set :=
  View.cover_of_tiled [⟨r0_25, p0⟩] S32x8x128.size (by rfl) y

/-- Window 20's staging buffer after the body, from the input windows' blocks: its 1 store as pieces, LAST
    FIRST (`View.canon`; the payloads are the body's own values and those stated above). -/
def out0_20 (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) : Vec F S32x8x32 .f32 :=
  View.canon [⟨r0_26, k0_pay3 (k0_pay62 x0 x1 x2 x3 x4 x5 x6 x7 x8 x9 x10) (k0_pay63 x0 x1 x2 x3 x4 x5 x6 x7 x8 x9 x10) (k0_pay72 x0 x1 x2 x3 x4 x5 x6 x7 x8 x9 x10) (k0_pay73 x0 x1 x2 x3 x4 x5 x6 x7 x8 x9 x10) (k0_pay74 x0 x1 x2 x3 x4 x5 x6 x7 x8 x9 x10) 16#32⟩]

/-- Its stores tile the buffer (checked by evaluation), so they cover it. -/
theorem cover0_20 (p0 : Vec F S32x8x32 .f32) (y : S32x8x32.Idx) :
    ∃ pc ∈ ([⟨r0_26, p0⟩] : List (View.Piece (Elt F) S32x8x32 .f32)), y ∈ pc.1.set :=
  View.cover_of_tiled [⟨r0_26, p0⟩] S32x8x32.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are run operation by operation, through every part call. -/
theorem sound_kernel (c : Dev nD) (E : Set ℕ) (i : grid0.Coords) (arg2 : Memref sig .tc .vmem S32x8x1024 .f32) (harg2 : arg2.IsWhole) (arg3 : Memref sig .tc .vmem S32x1x1024 .f32) (harg3 : arg3.IsWhole) (arg4 : Memref sig .tc .vmem S32x1x1024 .f32) (harg4 : arg4.IsWhole) (arg5 : Memref sig .tc .vmem S1x1x1024 .f32) (harg5 : arg5.IsWhole) (arg6 : Memref sig .tc .vmem S1024x2560 .bf16) (harg6 : arg6.IsWhole) (arg7 : Memref sig .tc .vmem S512x1024 .bf16) (harg7 : arg7.IsWhole) (arg8 : Memref sig .tc .vmem S1x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S32x8x256 .f32) (harg13 : arg13.IsWhole) (arg14 : Memref sig .tc .vmem S32x8x256 .f32) (harg14 : arg14.IsWhole) (arg15 : Memref sig .tc .vmem S32x8x256 .f32) (harg15 : arg15.IsWhole) (arg16 : Memref sig .tc .vmem S32x8x256 .f32) (harg16 : arg16.IsWhole) (arg17 : Memref sig .tc .vmem S32x8x256 .f32) (harg17 : arg17.IsWhole) (arg18 : Memref sig .tc .vmem S32x8x256 .f32) (harg18 : arg18.IsWhole) (arg19 : Memref sig .tc .vmem S32x8x8x256 .f32) (harg19 : arg19.IsWhole) (arg20 : Memref sig .tc .vmem S32x8x256 .f32) (harg20 : arg20.IsWhole) (arg21 : Memref sig .tc .vmem S32x8x128 .f32) (harg21 : arg21.IsWhole) (arg22 : Memref sig .tc .vmem S32x8x32 .f32) (harg22 : arg22.IsWhole)
    (x0 : Vec F S32x8x1024 .f32) (x1 : Vec F S32x1x1024 .f32) (x2 : Vec F S32x1x1024 .f32) (x3 : Vec F S1x1x1024 .f32) (x4 : Vec F S1024x2560 .bf16) (x5 : Vec F S512x1024 .bf16) (x6 : Vec F S1x128 .f32) (x7 : Vec F S8x128 .f32) (x8 : Vec F S8x128 .f32) (x9 : Vec F S8x128 .f32) (x10 : Vec F S8x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out0_11 x0 x1 x2 x3 x4 x5 x6 x7 x8 x9 x10) ∗ owns (c : Thread nD τ) arg14 fullShare (out0_12 x0 x1 x2 x3 x4 x5 x6 x7 x8 x9 x10) ∗ owns (c : Thread nD τ) arg15 fullShare (out0_13 x0 x1 x2 x3 x4 x5 x6 x7 x8 x9 x10) ∗ owns (c : Thread nD τ) arg16 fullShare (out0_14 x0 x1 x2 x3 x4 x5 x6 x7 x8 x9 x10) ∗ owns (c : Thread nD τ) arg17 fullShare (out0_15 x0 x1 x2 x3 x4 x5 x6 x7 x8 x9 x10) ∗ owns (c : Thread nD τ) arg18 fullShare (out0_16 x0 x1 x2 x3 x4 x5 x6 x7 x8 x9 x10) ∗ owns (c : Thread nD τ) arg19 fullShare (out0_17 x0 x1 x2 x3 x4 x5 x6 x7 x8 x9 x10) ∗ owns (c : Thread nD τ) arg20 fullShare (out0_18 x0 x1 x2 x3 x4 x5 x6 x7 x8 x9 x10) ∗ owns (c : Thread nD τ) arg21 fullShare (out0_19 x0 x1 x2 x3 x4 x5 x6 x7 x8 x9 x10) ∗ owns (c : Thread nD τ) arg22 fullShare (out0_20 x0 x1 x2 x3 x4 x5 x6 x7 x8 x9 x10)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's (`ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data read at that window). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, at any float values: the run ends, keeps its arguments, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v89_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v89_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v89_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v89_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v89_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v89_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v89_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v89_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v89_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v89_9) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

set_option maxHeartbeats 1000000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v89_0) = (dats m 0 c).arrAt 11 cfg0.N
      ∧ r.2.mem ((c : Thread nD τ).loc main_v89_1) = (dats m 0 c).arrAt 12 cfg0.N
      ∧ r.2.mem ((c : Thread nD τ).loc main_v89_2) = (dats m 0 c).arrAt 13 cfg0.N
      ∧ r.2.mem ((c : Thread nD τ).loc main_v89_3) = (dats m 0 c).arrAt 14 cfg0.N
      ∧ r.2.mem ((c : Thread nD τ).loc main_v89_4) = (dats m 0 c).arrAt 15 cfg0.N
      ∧ r.2.mem ((c : Thread nD τ).loc main_v89_5) = (dats m 0 c).arrAt 16 cfg0.N
      ∧ r.2.mem ((c : Thread nD τ).loc main_v89_6) = (dats m 0 c).arrAt 17 cfg0.N
      ∧ r.2.mem ((c : Thread nD τ).loc main_v89_7) = (dats m 0 c).arrAt 18 cfg0.N
      ∧ r.2.mem ((c : Thread nD τ).loc main_v89_8) = (dats m 0 c).arrAt 19 cfg0.N
      ∧ r.2.mem ((c : Thread nD τ).loc main_v89_9) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel3Ideal.Run

end
-- ==== Proof.SmBits.lean ====
/- The sampling group's input projection as printed for the bits and as printed for the ideal instance are one program, so the run proved
   of the second is the first's. -/
module

public import proofs.«01_k».proof.Defs
public import proofs.«01_k».proof.Proof.Gen.Kernel3
public import proofs.«01_k».proof.Proof.SmRun

@[expose] public section

set_option maxRecDepth 100000

noncomputable section

namespace Cert.SmProj.Bits

open Idealize.ShloMosaic Idealize.ShloMosaic.TcCoe Idealize.SL.Sem

set_option maxHeartbeats 4000000 in
/-- The bodies are one function. -/
theorem body_eq : Cert.Kernel3.cc0_inproj (F := Idealize.ShloMosaic.Bits) = Cert.Kernel3Ideal.cc0_inproj := rfl

set_option maxHeartbeats 4000000 in
/-- So are the tables that call them, at each argument of the body. -/
theorem table_eq : Cert.Kernel3.defs₀ (F := Idealize.ShloMosaic.Bits) = Cert.Kernel3Ideal.defs₀ := by
  unfold Cert.Kernel3.defs₀ Cert.Kernel3Ideal.defs₀
  refine congrArg Defs.onTc ?_
  funext l x
  fin_cases l
  obtain ⟨t, s⟩ := x
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _) _) _) _) _) _) _) _) _

set_option maxHeartbeats 4000000 in
theorem defs_eq : Cert.Kernel3.defs (F := Idealize.ShloMosaic.Bits) = Cert.Kernel3Ideal.defs :=
  congrArg (Pipeline.defs _) table_eq

set_option maxHeartbeats 4000000 in
theorem main_eq : Cert.Kernel3.main (F := Idealize.ShloMosaic.Bits) = Cert.Kernel3Ideal.main := rfl

set_option maxHeartbeats 4000000 in
/-- The kernel runs, keeps its arguments, and leaves its semaphores at zero, at the bits. -/
theorem frame_bits : Cert.quiescent_Kernel3 := fun m g _ => by
  rw [defs_eq, main_eq]
  exact Cert.Kernel3Ideal.Run.frame (F := Idealize.ShloMosaic.Bits) m g

end Cert.SmProj.Bits
-- ==== Proof.SmRef.lean ====
/- The reference of the sampling group's input projection, read at an index: its ten results in closed form. -/
module

public import proofs.«01_k».proof.Proof.InForm
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.InRef

open Cert.Reference3Ideal Cert.Reference3Ideal.Gen Cert.Reference3Ideal.Read Cert.InProj
open Idealize.ShloMosaic Idealize.ShloMosaic.TcCoe Idealize.ShloMosaic.Tactic Idealize.SL.Sem

variable (x0 : FVec Ideal S128x8x1024 .f32) (x1 x2 : FVec Ideal S128x1024 .f32) (x3 : FVec Ideal S1024 .f32) (x4 : FVec Ideal S1024x2464 .f32) (x5 : FVec Ideal S128x8x128 .f32) (x6 : FVec Ideal S128 .f32)

/-- A token's position, as the host counts it. -/
theorem pos : ∀ p : Fin 8, IntOp.addi 16384#32 (BitVec.ofNat 32 p.val) = BitVec.ofNat 32 (16384 + p.val) := by decide

/-- One token's projections. -/
abbrev row (b : Fin 128) (p : Fin 8) : ℕ → EReal :=
  proj (hid (fun d => x0 (ix3 b p d)) (fun d => x3 (ix1 d)) (fun d => x1 (ix2 b d)) (fun d => x2 (ix2 b d))) fun d n => x4 (ix2 d n)

set_option maxHeartbeats 2000000 in
theorem y_apply (b : Fin 128) (p : Fin 8) (n : Fin 2464) : val_main_v24 (F := Ideal) x0 x1 x2 x3 x4 (ix3 b p n) = row x0 x1 x2 x3 x4 b p n := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst val_main_cst_0 val_main_cst_1 val_main_cst_2
  pointwise
  rw [row, proj_of_lt _ _ _ n.isLt]
  rfl

set_option maxHeartbeats 2000000 in
theorem rq_apply (b : Fin 128) (p : Fin 8) (n : Fin 256) : val_main_v224 (F := Ideal) x0 x1 x2 x3 x4 (ix3 b p n) = ret 0 (row x0 x1 x2 x3 x4 b p) (16384 + p) n := by
  have hy := y_apply x0 x1 x2 x3 x4 b p
  unfold val_main_v224 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v25 val_main_v2 val_main_v1 val_main_v0 val_main_c val_main_cst_3 val_main_cst_4 val_main_cst_5 val_main_cst_6
  generalize val_main_v24 (F := Ideal) x0 x1 x2 x3 x4 = y at hy ⊢
  pointwise
  simp only [hy, pos]
  exact rot_mk (row x0 x1 x2 x3 x4 b p) (0 + n.val / 64 * 64) (by omega) (by omega) (by omega) (by omega)

set_option maxHeartbeats 2000000 in
theorem kr_apply (b : Fin 128) (p : Fin 8) (n : Fin 32) : val_main_v201 (F := Ideal) x0 x1 x2 x3 x4 (ix3 b p n) = kr (row x0 x1 x2 x3 x4 b p) (16384 + p) n := by
  have hy := y_apply x0 x1 x2 x3 x4 b p
  unfold val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v33 val_main_v2 val_main_v1 val_main_v0 val_main_c val_main_cst_18 val_main_cst_19 val_main_cst_20 val_main_cst_21
  generalize val_main_v24 (F := Ideal) x0 x1 x2 x3 x4 = y at hy ⊢
  pointwise
  simp only [hy, pos]
  exact rot_mk (row x0 x1 x2 x3 x4 b p) (2432) (by omega) (by omega) (by omega) (by omega)

set_option maxHeartbeats 2000000 in
theorem ckv_apply (b : Fin 128) (p : Fin 8) (n : Fin 128) : val_main_v162 (F := Ideal) x0 x1 x2 x3 x4 x6 (ix3 b p n) = ckv (row x0 x1 x2 x3 x4 b p) (fun d => x6 (ix1 d)) n := by
  have hy := y_apply x0 x1 x2 x3 x4 b p
  unfold val_main_v162 val_main_v161 val_main_v160 val_main_v159 val_main_v158 val_main_v157 val_main_v156 val_main_v155 val_main_v154 val_main_v153 val_main_v152 val_main_v151 val_main_v150 val_main_v32 val_main_cst_15 val_main_cst_16 val_main_cst_17
  generalize val_main_v24 (F := Ideal) x0 x1 x2 x3 x4 = y at hy ⊢
  pointwise
  simp only [hy, ckv, irms]

set_option maxHeartbeats 2000000 in
theorem qr_apply (b : Fin 128) (p : Fin 8) (h : Fin 8) (n : Fin 32) : val_main_v149 (F := Ideal) x0 x1 x2 x3 x4 (ix4 b p h n) = qr (row x0 x1 x2 x3 x4 b p) (16384 + p) h n := by
  have hy := y_apply x0 x1 x2 x3 x4 b p
  unfold val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v110 val_main_v31 val_main_v2 val_main_v1 val_main_v0 val_main_c val_main_cst_11 val_main_cst_12 val_main_cst_13 val_main_cst_14
  generalize val_main_v24 (F := Ideal) x0 x1 x2 x3 x4 = y at hy ⊢
  pointwise
  simp only [hy, pos]
  exact rot_mk (row x0 x1 x2 x3 x4 b p) (1536 + h.val * 96 + 64) (by omega) (by omega) (by omega) (by omega)

set_option maxHeartbeats 2000000 in
theorem ql_apply (b : Fin 128) (p : Fin 8) (h : Fin 8) (n : Fin 128) : val_main_v206 (F := Ideal) x0 x1 x2 x3 x4 x5 (ix4 b h p n) = ql (row x0 x1 x2 x3 x4 b p) (fun j => x5 (ix3 n h ⟨j, by omega⟩)) h := by
  have hy := y_apply x0 x1 x2 x3 x4 b p
  unfold val_main_v206 val_main_v205 val_main_v204 val_main_v203 val_main_v202 val_main_v111 val_main_v110 val_main_v31 val_main_cst_22
  generalize val_main_v24 (F := Ideal) x0 x1 x2 x3 x4 = y at hy ⊢
  pointwise
  simp only [hy, ql, ← Nat.add_assoc]

set_option maxHeartbeats 2000000 in
theorem rk_apply (b : Fin 128) (p : Fin 8) (n : Fin 256) : val_main_v225 (F := Ideal) x0 x1 x2 x3 x4 (ix3 b p n) = ret 256 (row x0 x1 x2 x3 x4 b p) (16384 + p) n := by
  have hy := y_apply x0 x1 x2 x3 x4 b p
  unfold val_main_v225 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v26 val_main_v2 val_main_v1 val_main_v0 val_main_c val_main_cst_7 val_main_cst_8 val_main_cst_9 val_main_cst_10
  generalize val_main_v24 (F := Ideal) x0 x1 x2 x3 x4 = y at hy ⊢
  pointwise
  simp only [hy, pos]
  exact rot_mk (row x0 x1 x2 x3 x4 b p) (256 + n.val / 64 * 64) (by omega) (by omega) (by omega) (by omega)

set_option maxHeartbeats 2000000 in
theorem rv_apply (b : Fin 128) (p : Fin 8) (n : Fin 256) : val_main_v27 (F := Ideal) x0 x1 x2 x3 x4 (ix3 b p n) = (row x0 x1 x2 x3 x4 b p) (512 + n) := by
  have hy := y_apply x0 x1 x2 x3 x4 b p
  unfold val_main_v27
  generalize val_main_v24 (F := Ideal) x0 x1 x2 x3 x4 = y at hy ⊢
  pointwise
  simp only [hy]

set_option maxHeartbeats 2000000 in
theorem rg_apply (b : Fin 128) (p : Fin 8) (n : Fin 256) : val_main_v28 (F := Ideal) x0 x1 x2 x3 x4 (ix3 b p n) = (row x0 x1 x2 x3 x4 b p) (768 + n) := by
  have hy := y_apply x0 x1 x2 x3 x4 b p
  unfold val_main_v28
  generalize val_main_v24 (F := Ideal) x0 x1 x2 x3 x4 = y at hy ⊢
  pointwise
  simp only [hy]

set_option maxHeartbeats 2000000 in
theorem lx_apply (b : Fin 128) (p : Fin 8) (n : Fin 256) : val_main_v29 (F := Ideal) x0 x1 x2 x3 x4 (ix3 b p n) = (row x0 x1 x2 x3 x4 b p) (1024 + n) := by
  have hy := y_apply x0 x1 x2 x3 x4 b p
  unfold val_main_v29
  generalize val_main_v24 (F := Ideal) x0 x1 x2 x3 x4 = y at hy ⊢
  pointwise
  simp only [hy]

set_option maxHeartbeats 2000000 in
theorem lg_apply (b : Fin 128) (p : Fin 8) (n : Fin 256) : val_main_v30 (F := Ideal) x0 x1 x2 x3 x4 (ix3 b p n) = (row x0 x1 x2 x3 x4 b p) (1280 + n) := by
  have hy := y_apply x0 x1 x2 x3 x4 b p
  unfold val_main_v30
  generalize val_main_v24 (F := Ideal) x0 x1 x2 x3 x4 = y at hy ⊢
  pointwise
  simp only [hy]

theorem zero_lit : Ideal.ofBits FTy.f32 0#32 = (0 : EReal) := by simp [Ideal.ofBits, Ideal.ieee]

/-- Which of the four slots of 32 lanes is head `h`'s own. -/
theorem mine (h : Fin 8) (l : ℕ) (hl : l < 4) :
    IntOp.cmpi CmpIPredicate.eq
      (Scalar.select
        (IntOp.andi
          (IntOp.cmpi CmpIPredicate.ne
            (IntOp.cmpi CmpIPredicate.slt
              (IntOp.remsi ArithUnit.host (BitVec.ofNat 32 h)
                (Scalar.select (IntOp.cmpi CmpIPredicate.eq 4#32 0#32) (1#32) 4#32))
              0#32)
            (IntOp.cmpi CmpIPredicate.slt
              (Scalar.select (IntOp.cmpi CmpIPredicate.eq 4#32 0#32) (1#32) 4#32)
              0#32))
          (IntOp.cmpi CmpIPredicate.ne
            (IntOp.remsi ArithUnit.host (BitVec.ofNat 32 h)
              (Scalar.select (IntOp.cmpi CmpIPredicate.eq 4#32 0#32) (1#32) 4#32))
            0#32))
        (IntOp.addi
          (IntOp.remsi ArithUnit.host (BitVec.ofNat 32 h)
            (Scalar.select (IntOp.cmpi CmpIPredicate.eq 4#32 0#32) (1#32) 4#32))
          (Scalar.select (IntOp.cmpi CmpIPredicate.eq 4#32 0#32) (1#32) 4#32))
        (IntOp.remsi ArithUnit.host (BitVec.ofNat 32 h)
          (Scalar.select (IntOp.cmpi CmpIPredicate.eq 4#32 0#32) (1#32) 4#32)))
      (BitVec.ofNat 32 l) = if l = h.val % 4 then 1#1 else 0#1 := by
  revert h
  interval_cases l <;> decide

set_option maxHeartbeats 2000000 in
theorem qcat_apply (b : Fin 128) (p : Fin 8) (h : Fin 8) (n : Fin 256) : val_main_v222 (F := Ideal) x0 x1 x2 x3 x4 x5 (ix4 b h p n) = qcat (row x0 x1 x2 x3 x4 b p) (fun i j k => x5 (ix3 i j k)) (16384 + p) h n := by
  have hq := qr_apply x0 x1 x2 x3 x4 b p h
  have hl := ql_apply x0 x1 x2 x3 x4 x5 b p h
  unfold val_main_v222 val_main_v221 val_main_v220 val_main_call1_v3 val_main_call1_v2 val_main_call1_v1 val_main_call1_v0 val_main_v219 val_main_v218 val_main_v217 val_main_v216 val_main_v215 val_main_v214 val_main_v213 val_main_v212 val_main_call0_v14 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_v211 val_main_v210 val_main_v209 val_main_v208 val_main_v207 val_main_cst_23 val_main_cst_25 val_main_c_24 val_main_call0_c val_main_call0_c_0 val_main_call0_c_1 val_main_call0_c_2 val_main_call0_c_3
  generalize val_main_v149 (F := Ideal) x0 x1 x2 x3 x4 = y at hq ⊢
  generalize val_main_v206 (F := Ideal) x0 x1 x2 x3 x4 x5 = z at hl ⊢
  pointwise
  simp only [hq, hl, qcat]
  split_ifs with h1 h2
  · rfl
  · have e := mine h ((n.val - 128) / 32) (by omega)
    rw [if_pos h2] at e
    exact (congrArg (fun f => Scalar.select f _ _) e).trans rfl
  · have e := mine h ((n.val - 128) / 32) (by omega)
    rw [if_neg h2] at e
    exact (congrArg (fun f => Scalar.select f _ _) e).trans zero_lit

set_option maxHeartbeats 2000000 in
theorem kcat_apply (b : Fin 128) (p : Fin 8) (n : Fin 256) : val_main_v223 (F := Ideal) x0 x1 x2 x3 x4 x6 (ix3 b p n) = kcat (row x0 x1 x2 x3 x4 b p) (fun d => x6 (ix1 d)) (16384 + p) n := by
  have hc := ckv_apply x0 x1 x2 x3 x4 x6 b p
  have hk := kr_apply x0 x1 x2 x3 x4 b p
  unfold val_main_v223
  generalize val_main_v162 (F := Ideal) x0 x1 x2 x3 x4 x6 = y at hc ⊢
  generalize val_main_v201 (F := Ideal) x0 x1 x2 x3 x4 = z at hk ⊢
  pointwise
  simp only [hc, hk, kcat]
  split_ifs <;> first | rfl | exact congrArg (kr _ _) (by omega)

end Cert.Reference3Ideal.InRef
-- ==== Proof.SmPiece.lean ====
/- The values the sampling group's input projection stores, read at an index of one token, in closed form. -/
module

public import proofs.«01_k».proof.Proof.SmRun
public import proofs.«01_k».proof.Proof.InForm
public import Idealize.ShloMosaic.Lib.Pipeline.ValueKit
public import Idealize.ShloMosaic.Lib.Pointwise

@[expose] public section

set_option maxRecDepth 16384

noncomputable section

namespace Cert.Kernel3Ideal.Piece

open Cert.Kernel3Ideal Cert.Kernel3Ideal.Gen Cert.Kernel3Ideal.Run Cert.InProj
open Idealize.ShloMosaic Idealize.ShloMosaic.TcCoe Idealize.ShloMosaic.Tactic Idealize.SL.Sem

/-- The row of 256 in which a block keeps token `l` of its batch element `b`. -/
abbrev rr (b : Fin 32) (l : Fin 8) : Fin 256 := ⟨b * 8 + l, by omega⟩

variable (b : Fin 32) (l : Fin 8)

/-- The normalised, modulated row. -/
theorem hid_apply (x : Vec Ideal S32x8x1024 .f32) (g : Vec Ideal S1x1x1024 .f32) (s t : Vec Ideal S32x1x1024 .f32) (d : Fin 1024) :
    k0_pay5 x g s t (ix2 (rr b l) d)
      = hid (fun d => x (ix3 b l d)) (fun d => g (ix3 0 0 d)) (fun d => s (ix3 b 0 d)) (fun d => t (ix3 b 0 d)) d := by
  have e1 : (b.val * 8 + l.val) / 8 = b.val := by omega
  have e2 : (b.val * 8 + l.val) % 8 = l.val := by omega
  unfold k0_pay5
  pointwise
  simp only [e1, e2]
  rfl

/-- A rotary table, repeated for every batch element. -/
theorem pay6_apply (x : Vec Ideal S8x128 .f32) (n : Fin 128) : k0_pay6 x (ix2 (rr b l) n) = x (ix2 l n) := by
  have e2 : (b.val * 8 + l.val) % 8 = l.val := by omega
  unfold k0_pay6
  pointwise
  simp only [e2]

theorem pay7_apply (x : Vec Ideal S8x128 .f32) (n : Fin 128) : k0_pay7 x (ix3 b l n) = x (ix2 l n) := by
  unfold k0_pay7
  pointwise

theorem pay9_apply (x : Vec Ideal S8x128 .f32) (n : Fin 128) : k0_pay9 x (ix2 (rr b l) n) = x (ix2 l n) := by
  have e2 : (b.val * 8 + l.val) % 8 = l.val := by omega
  unfold k0_pay9
  pointwise
  simp only [e2]

theorem pay10_apply (x : Vec Ideal S8x128 .f32) (n : Fin 128) : k0_pay10 x (ix2 (rr b l) n) = x (ix2 l n) := by
  have e2 : (b.val * 8 + l.val) % 8 = l.val := by omega
  unfold k0_pay10
  pointwise
  simp only [e2]

section
variable (a : FVec Ideal S256x1024 .bf16) (c s : FVec Ideal S256x128 .f32) (s' : FVec Ideal S32x8x128 .f32) (p : ℕ) (y : ℕ → EReal)

/-- The retention's rotated queries. -/
theorem rq_apply (w : Vec Ideal S1024x256 .bf16) (hy : ∀ k : Fin 256, ∑ x : Fin 1024, a (ix2 (rr b l) x) * w (ix2 x k) = y k)
    (hc : ∀ n : Fin 128, c (ix2 (rr b l) n) = cosT 1115684864#32 32 p n) (hs : ∀ n : Fin 128, s' (ix3 b l n) = sinT 1115684864#32 32 p n) (n : Fin 256) :
    k0_pay14 c (k0_pay8 s') (k0_pay12 a c s' w) (k0_pay13 a w) (iota .tc S256x128 32 [1] iota_S256x128_d1_w32) (ix3 b l n)
      = rot 1115684864#32 32 (fun j => y (n / 64 * 64 + j)) p (n % 64) := by
  have e1 : (b.val * 8 + l.val) / 8 = b.val := by omega
  have e2 : (b.val * 8 + l.val) % 8 = l.val := by omega
  unfold k0_pay14 k0_pay12 k0_pay13 k0_pay11 k0_pay8
  pointwise
  simp only [hy, hc, e1, e2, hs]
  split_ifs with h
  · exact rot64 y p n h
  · exact (rot64 (fun k => y (128 + k)) p (n - 128) (by omega)).trans (two64 y p n h)

/-- The retention's rotated keys. -/
theorem rk_apply (w : Vec Ideal S1024x256 .bf16) (hy : ∀ k : Fin 256, ∑ x : Fin 1024, a (ix2 (rr b l) x) * w (ix2 x k) = y k)
    (hc : ∀ n : Fin 128, c (ix2 (rr b l) n) = cosT 1115684864#32 32 p n) (hs : ∀ n : Fin 128, s' (ix3 b l n) = sinT 1115684864#32 32 p n) (n : Fin 256) :
    k0_pay20 c (k0_pay8 s') (k0_pay15 a w) (k0_pay16 a w) (Scalar.select (Scalar.cmpi .eq 64#32 0#32) 1#32 64#32) k0_pay17 k0_pay18 k0_pay19 (ix3 b l n)
      = rot 1115684864#32 32 (fun j => y (n / 64 * 64 + j)) p (n % 64) := by
  have e1 : (b.val * 8 + l.val) / 8 = b.val := by omega
  have e2 : (b.val * 8 + l.val) % 8 = l.val := by omega
  unfold k0_pay20 k0_pay19 k0_pay18 k0_pay17 k0_pay16 k0_pay15 k0_pay8
  pointwise
  simp only [hy, hc, e1, e2, hs]
  split_ifs with h
  · exact rot64 y p n h
  · exact (rot64 (fun k => y (128 + k)) p (n - 128) (by omega)).trans (two64 y p n h)

theorem pay21_apply (w : Vec Ideal S1024x256 .bf16) (n : Fin 256) :
    k0_pay21 a w (ix3 b l n) = ∑ d : Fin 1024, a (ix2 (rr b l) d) * w (ix2 d n) := by
  unfold k0_pay21; pointwise

theorem pay22_apply (w : Vec Ideal S1024x256 .bf16) (n : Fin 256) :
    k0_pay22 a w (ix3 b l n) = ∑ d : Fin 1024, a (ix2 (rr b l) d) * w (ix2 d n) := by
  unfold k0_pay22; pointwise

theorem pay23_apply (w : Vec Ideal S1024x256 .bf16) (n : Fin 256) :
    k0_pay23 a w (ix3 b l n) = ∑ d : Fin 1024, a (ix2 (rr b l) d) * w (ix2 d n) := by
  unfold k0_pay23; pointwise

theorem pay24_apply (w : Vec Ideal S1024x256 .bf16) (n : Fin 256) :
    k0_pay24 a w (ix3 b l n) = ∑ d : Fin 1024, a (ix2 (rr b l) d) * w (ix2 d n) := by
  unfold k0_pay24; pointwise

/-- The queries in the compressed space. -/
theorem ql_apply (w : Vec Ideal S1024x512 .bf16) (u : Vec Ideal S512x1024 .bf16) (U : Fin 128 → Fin 8 → Fin 128 → EReal)
    (hy : ∀ k : Fin 512, ∑ x : Fin 1024, a (ix2 (rr b l) x) * w (ix2 x k) = y k) (hu : ∀ (k : Fin 512) (n : Fin 1024), u (ix2 k n)
      = (if k.val / 64 = n.val / 128 then (1 : EReal) else 0) * U ⟨n % 128, by omega⟩ ⟨k / 64, by omega⟩ ⟨k % 64, by omega⟩)
    (h : Fin 8) (n : Fin 128) :
    k0_pay26 (k0_pay25 a w) u (ix2 (rr b l) ⟨h * 128 + n, by omega⟩)
      = (∑ j : Fin 64, U n h ⟨j, by omega⟩ * y (h * 64 + j)) * Ideal.ofBits FTy.f32 1037108716#32 := by
  unfold k0_pay26 k0_pay25
  pointwise
  simp only [hy, hu]
  refine congrArg (· * _) ?_
  refine (Finset.sum_congr rfl fun k _ => ?_).trans
    ((sum_diag y (fun h' j => if hh : h' < 8 ∧ j < 64 then U n ⟨h', hh.1⟩ ⟨j, by omega⟩ else 0) h).trans
      (Finset.sum_congr rfl fun j _ => ?_))
  · rw [dif_pos ⟨by omega, by omega⟩]
    have e1 : (h.val * 128 + n.val) / 128 = h.val := by omega
    have e2 : (⟨(h.val * 128 + n.val) % 128, by omega⟩ : Fin 128) = n := Fin.ext (by show (h.val * 128 + n.val) % 128 = n.val; omega)
    simp only [e1, e2]
  · rw [dif_pos ⟨h.isLt, j.isLt⟩]

/-- The scaled rotated query parts. -/
theorem qr_apply (w : Vec Ideal S1024x256 .bf16) (hy : ∀ k : Fin 256, ∑ x : Fin 1024, a (ix2 (rr b l) x) * w (ix2 x k) = y k)
    (hc : ∀ n : Fin 128, c (ix2 (rr b l) n) = cosT 1107296256#32 16 p n) (hs : ∀ n : Fin 128, s (ix2 (rr b l) n) = sinT 1107296256#32 16 p n) (n : Fin 256) :
    k0_pay32 c s (k0_pay28 a c s w) (k0_pay29 a w) (Scalar.select (Scalar.cmpi .eq 32#32 0#32) 1#32 32#32) k0_pay30 k0_pay31 (ix2 (rr b l) n)
      = rot 1107296256#32 16 (fun j => y (n / 32 * 32 + j)) p (n % 32) * Ideal.ofBits FTy.f32 1037108716#32 := by
  unfold k0_pay32 k0_pay28 k0_pay29 k0_pay27 k0_pay31 k0_pay30
  pointwise
  simp only [hy, hc, hs]
  refine congrArg (· * _) ?_
  split_ifs with h
  · exact rot32 y p n h
  · exact (rot32 (fun k => y (128 + k)) p (n - 128) (by omega)).trans (two32 y p n h)

/-- The rotated key part, four times. -/
theorem kr_apply (w : Vec Ideal S1024x128 .bf16) (hy : ∀ k : Fin 128, ∑ x : Fin 1024, a (ix2 (rr b l) x) * w (ix2 x k) = y k)
    (hc : ∀ n : Fin 128, c (ix2 (rr b l) n) = cosT 1107296256#32 16 p n) (hs : ∀ n : Fin 128, s (ix2 (rr b l) n) = sinT 1107296256#32 16 p n) (n : Fin 128) :
    k0_pay1 c s (k0_pay55 a w) k0_pay56 (k0_pay57 a w) 16#32 (ix2 (rr b l) n) = rot 1107296256#32 16 (fun j => y (n / 32 * 32 + j)) p (n % 32) := by
  unfold k0_pay1 k0_pay57 k0_pay56 k0_pay55
  pointwise
  simp only [hy, hc, hs]
  exact rot32 y p n n.isLt

/-- The normalised compressed keys. -/
theorem ckv_apply (w : Vec Ideal S1024x128 .bf16) (g : Vec Ideal S1x128 .f32)
    (hy : ∀ k : Fin 128, ∑ x : Fin 1024, a (ix2 (rr b l) x) * w (ix2 x k) = y k) (n : Fin 128) :
    k0_pay54 a w g (ix2 (rr b l) n) = y n * irms 1124073472#32 (fun e : Fin 128 => y e) * g (ix2 0 n) := by
  unfold k0_pay54; pointwise
  simp only [hy]
  rfl

theorem pay2_apply (q : FVec Ideal S256x128 .f32) (n : Fin 128) : k0_pay2 q (ix3 b l n) = q (ix2 (rr b l) n) := by
  unfold k0_pay2; pointwise

theorem pay4_apply (q q' : FVec Ideal S256x128 .f32) (f : IVec S256x128 1) (q'' : FVec Ideal S256x128 .f32) (i : BitVec 32) (n : Fin 256) :
    k0_pay4 c s q q' f q'' i (ix3 b l n)
      = if h : n.val < 128 then q (ix2 (rr b l) ⟨n, h⟩) else k0_pay1 c s q' f q'' i (ix2 (rr b l) ⟨n - 128, by omega⟩) := by
  unfold k0_pay4
  generalize k0_pay1 c s q' f q'' i = z
  pointwise

theorem pay3_apply (q' : FVec Ideal S256x128 .f32) (f : IVec S256x128 1) (q'' : FVec Ideal S256x128 .f32) (i : BitVec 32) (n : Fin 32) :
    k0_pay3 c s q' f q'' i (ix3 b l n) = k0_pay1 c s q' f q'' i (ix2 (rr b l) ⟨n, by omega⟩) := by
  unfold k0_pay3
  generalize k0_pay1 c s q' f q'' i = z
  pointwise

end

section
variable (q : FVec Ideal S256x1024 .f32) (v : FVec Ideal S256x256 .f32) (n : Fin 256)

/-- One head's row of the packed queries: the compressed part, then the slab's own 32 lanes. -/
abbrev pack (h : ℕ) (hh : h < 8) : EReal :=
  if hn : n.val < 128 then q (ix2 (rr b l) ⟨h * 128 + n, by omega⟩)
  else Scalar.select (slot (BitVec.ofNat 32 (h % 4)) (n - 128)) (v (ix2 (rr b l) ⟨if h < 4 then n - 128 else 128 + (n - 128), by split_ifs <;> omega⟩)) 0

theorem head0 (c s u1 u2 : FVec Ideal S256x128 .f32) (z : BitVec 32) (i : IVec S256x128 32) (f : IVec S256x128 1) :
    k0_pay35 q (k0_pay33 c s u1 u2 z i f) k0_pay34 (ix4 b 0 l n) = pack b l q (k0_pay32 c s u1 u2 z i f) n 0 (by omega) := by
  have e0 : (if 0 < 4 then n.val - 128 else 128 + (n.val - 128)) = n.val - 128 := rfl
  simp only [pack, slot, Nat.zero_mul, Nat.zero_add, Nat.zero_mod, e0]
  unfold k0_pay35 k0_pay33 k0_pay34
  generalize k0_pay32 c s u1 u2 z i f = v
  pointwise

theorem head1 : k0_pay37 (k0_pay36 q v (iota .tc S256x128 32 [1] iota_S256x128_d1_w32)) (ix4 b 0 l n) = pack b l q v n 1 (by omega) := by
  unfold k0_pay37 k0_pay36
  pointwise
  rfl

theorem head2 : k0_pay38 q v (iota .tc S256x128 32 [1] iota_S256x128_d1_w32) (ix4 b 0 l n) = pack b l q v n 2 (by omega) := by
  unfold k0_pay38
  pointwise
  rfl

theorem head3 : k0_pay41 q (iota .tc S256x128 32 [1] iota_S256x128_d1_w32) (k0_pay39 v) 32#32 (k0_pay40 (iota .tc S256x128 32 [1] iota_S256x128_d1_w32)) 0#32 (ix4 b 0 l n) = pack b l q v n 3 (by omega) := by
  unfold k0_pay41 k0_pay39 k0_pay40
  pointwise
  rfl

theorem head4 : k0_pay45 q (iota .tc S256x128 32 [1] iota_S256x128_d1_w32) (k0_pay42 v) 32#32 (k0_pay43 (iota .tc S256x128 32 [1] iota_S256x128_d1_w32)) (k0_pay44 (iota .tc S256x128 32 [1] iota_S256x128_d1_w32)) (Scalar.extui (Scalar.cmpi .sgt 32#32 0#32)) (ix4 b 0 l n) = pack b l q v n 4 (by omega) := by
  unfold k0_pay45 k0_pay42 k0_pay43 k0_pay44
  pointwise
  rfl

theorem head5 : k0_pay50 q (k0_pay46 v) (k0_pay47 (iota .tc S256x128 32 [1] iota_S256x128_d1_w32)) (k0_pay48 (iota .tc S256x128 32 [1] iota_S256x128_d1_w32)) (k0_pay49 (iota .tc S256x128 32 [1] iota_S256x128_d1_w32)) (ix4 b 0 l n) = pack b l q v n 5 (by omega) := by
  unfold k0_pay50 k0_pay46 k0_pay47 k0_pay48 k0_pay49
  pointwise
  rfl

theorem head6 : k0_pay52 q (k0_pay51 v (iota .tc S256x128 32 [1] iota_S256x128_d1_w32)) (ix4 b 0 l n) = pack b l q v n 6 (by omega) := by
  unfold k0_pay52 k0_pay51
  pointwise
  rfl

theorem head7 : k0_pay53 q v (iota .tc S256x128 32 [1] iota_S256x128_d1_w32) (ix4 b 0 l n) = pack b l q v n 7 (by omega) := by
  unfold k0_pay53
  pointwise
  rfl

end

end Cert.Kernel3Ideal.Piece
-- ==== Proof.SmRow.lean ====
/- What the sampling group's input projection's body leaves in each result's block, row by row, in closed form. -/
module

public import proofs.«01_k».proof.Proof.SmPiece

@[expose] public section

set_option maxRecDepth 16384

noncomputable section

namespace Cert.Kernel3Ideal.Row

open Cert.Kernel3Ideal Cert.Kernel3Ideal.Gen Cert.Kernel3Ideal.Run Cert.Kernel3Ideal.Piece Cert.InProj
open Idealize.ShloMosaic Idealize.ShloMosaic.TcCoe Idealize.ShloMosaic.Tactic Idealize.SL.Sem

variable (x0 : Vec Ideal S32x8x1024 .f32) (x1 x2 : Vec Ideal S32x1x1024 .f32) (x3 : Vec Ideal S1x1x1024 .f32) (x4 : Vec Ideal S1024x2560 .bf16)
  (x5 : Vec Ideal S512x1024 .bf16) (x6 : Vec Ideal S1x128 .f32) (x7 x8 x9 x10 : Vec Ideal S8x128 .f32)
  (b : Fin 32) (l : Fin 8) (p : ℕ) (Y : ℕ → EReal) (U : Fin 128 → Fin 8 → Fin 128 → EReal) (g : Fin 128 → EReal)

/-- What one row of the blocks holds: the projected columns `Y`, the projection `U`, the gain, the rotation of position `p`. -/
structure Holds : Prop where
  hY : ∀ n : Fin 2560, ∑ d : Fin 1024, hid (fun d => x0 (ix3 b l d)) (fun d => x3 (ix3 0 0 d)) (fun d => x1 (ix3 b 0 d))
    (fun d => x2 (ix3 b 0 d)) d * x4 (ix2 d n) = Y (cm n)
  hU : ∀ (k : Fin 512) (n : Fin 1024), x5 (ix2 k n)
    = (if k.val / 64 = n.val / 128 then (1 : EReal) else 0) * U ⟨n % 128, by omega⟩ ⟨k / 64, by omega⟩ ⟨k % 64, by omega⟩
  hg : ∀ n : Fin 128, x6 (ix2 0 n) = g n
  h7 : ∀ n : Fin 128, x7 (ix2 l n) = cosT 1115684864#32 32 p n
  h8 : ∀ n : Fin 128, x8 (ix2 l n) = sinT 1115684864#32 32 p n
  h9 : ∀ n : Fin 128, x9 (ix2 l n) = cosT 1107296256#32 16 p n
  h10 : ∀ n : Fin 128, x10 (ix2 l n) = sinT 1107296256#32 16 p n

/-- The normalised, modulated row. -/
theorem a_apply (d : Fin 1024) : k0_pay58 x0 x1 x2 x3 x4 x5 x6 x7 x8 x9 x10 (ix2 (rr b l) d)
    = hid (fun d => x0 (ix3 b l d)) (fun d => x3 (ix3 0 0 d)) (fun d => x1 (ix3 b 0 d)) (fun d => x2 (ix3 b 0 d)) d := by
  unfold k0_pay58
  rw [View.ld_unit_lit _ x0 (by decide), View.ld_unit_lit _ x3 (by decide), View.ld_unit_lit _ x1 (by decide), View.ld_unit_lit _ x2 (by decide)]
  exact hid_apply b l x0 x3 x1 x2 d

variable {x0 x1 x2 x3 x4 x5 x6 x7 x8 x9 x10 b l p Y U g} (H : Holds x0 x1 x2 x3 x4 x5 x6 x7 x8 x9 x10 b l p Y U g)
include H

theorem c64 (n : Fin 128) : k0_pay59 x0 x1 x2 x3 x4 x5 x6 x7 x8 x9 x10 (ix2 (rr b l) n) = cosT 1115684864#32 32 p n := by
  unfold k0_pay59
  rw [View.ld_unit_lit _ x7 (by decide), pay6_apply]
  exact H.h7 n

theorem s64 (n : Fin 128) : k0_pay60 x0 x1 x2 x3 x4 x5 x6 x7 x8 x9 x10 (ix3 b l n) = sinT 1115684864#32 32 p n := by
  unfold k0_pay60
  rw [View.ld_unit_lit _ x8 (by decide), pay7_apply]
  exact H.h8 n

theorem c32 (n : Fin 128) : k0_pay62 x0 x1 x2 x3 x4 x5 x6 x7 x8 x9 x10 (ix2 (rr b l) n) = cosT 1107296256#32 16 p n := by
  unfold k0_pay62
  rw [View.ld_unit_lit _ x9 (by decide), pay9_apply]
  exact H.h9 n

theorem s32 (n : Fin 128) : k0_pay63 x0 x1 x2 x3 x4 x5 x6 x7 x8 x9 x10 (ix2 (rr b l) n) = sinT 1107296256#32 16 p n := by
  unfold k0_pay63
  rw [View.ld_unit_lit _ x10 (by decide), pay10_apply]
  exact H.h10 n

theorem slab0 (k : Fin 256) : ∑ d : Fin 1024, k0_pay58 x0 x1 x2 x3 x4 x5 x6 x7 x8 x9 x10 (ix2 (rr b l) d) * View.ld x4 r0_4 (ix2 d k) = Y (cm (0 + k)) :=
  (Finset.sum_congr rfl fun d _ => congrArg₂ (· * ·) (a_apply x0 x1 x2 x3 x4 x5 x6 x7 x8 x9 x10 b l d)
    (View.ld_unit_apply_of x4 ![0, 0] S1024x256.size _ (ix2 d k) (ix2 d ⟨0 + k, by omega⟩)
      (fun a => by fin_cases a; exact (Nat.zero_add _).symm; exact rfl))).trans (H.hY ⟨0 + k, by omega⟩)

theorem slab256 (k : Fin 256) : ∑ d : Fin 1024, k0_pay58 x0 x1 x2 x3 x4 x5 x6 x7 x8 x9 x10 (ix2 (rr b l) d) * View.ld x4 r0_6 (ix2 d k) = Y (cm (256 + k)) :=
  (Finset.sum_congr rfl fun d _ => congrArg₂ (· * ·) (a_apply x0 x1 x2 x3 x4 x5 x6 x7 x8 x9 x10 b l d)
    (View.ld_unit_apply_of x4 ![0, 256] S1024x256.size _ (ix2 d k) (ix2 d ⟨256 + k, by omega⟩)
      (fun a => by fin_cases a; exact (Nat.zero_add _).symm; exact rfl))).trans (H.hY ⟨256 + k, by omega⟩)

theorem slab512 (k : Fin 256) : ∑ d : Fin 1024, k0_pay58 x0 x1 x2 x3 x4 x5 x6 x7 x8 x9 x10 (ix2 (rr b l) d) * View.ld x4 r0_7 (ix2 d k) = Y (cm (512 + k)) :=
  (Finset.sum_congr rfl fun d _ => congrArg₂ (· * ·) (a_apply x0 x1 x2 x3 x4 x5 x6 x7 x8 x9 x10 b l d)
    (View.ld_unit_apply_of x4 ![0, 512] S1024x256.size _ (ix2 d k) (ix2 d ⟨512 + k, by omega⟩)
      (fun a => by fin_cases a; exact (Nat.zero_add _).symm; exact rfl))).trans (H.hY ⟨512 + k, by omega⟩)

theorem slab768 (k : Fin 256) : ∑ d : Fin 1024, k0_pay58 x0 x1 x2 x3 x4 x5 x6 x7 x8 x9 x10 (ix2 (rr b l) d) * View.ld x4 r0_8 (ix2 d k) = Y (cm (768 + k)) :=
  (Finset.sum_congr rfl fun d _ => congrArg₂ (· * ·) (a_apply x0 x1 x2 x3 x4 x5 x6 x7 x8 x9 x10 b l d)
    (View.ld_unit_apply_of x4 ![0, 768] S1024x256.size _ (ix2 d k) (ix2 d ⟨768 + k, by omega⟩)
      (fun a => by fin_cases a; exact (Nat.zero_add _).symm; exact rfl))).trans (H.hY ⟨768 + k, by omega⟩)

theorem slab1024 (k : Fin 256) : ∑ d : Fin 1024, k0_pay58 x0 x1 x2 x3 x4 x5 x6 x7 x8 x9 x10 (ix2 (rr b l) d) * View.ld x4 r0_9 (ix2 d k) = Y (cm (1024 + k)) :=
  (Finset.sum_congr rfl fun d _ => congrArg₂ (· * ·) (a_apply x0 x1 x2 x3 x4 x5 x6 x7 x8 x9 x10 b l d)
    (View.ld_unit_apply_of x4 ![0, 1024] S1024x256.size _ (ix2 d k) (ix2 d ⟨1024 + k, by omega⟩)
      (fun a => by fin_cases a; exact (Nat.zero_add _).symm; exact rfl))).trans (H.hY ⟨1024 + k, by omega⟩)

theorem slab1280 (k : Fin 256) : ∑ d : Fin 1024, k0_pay58 x0 x1 x2 x3 x4 x5 x6 x7 x8 x9 x10 (ix2 (rr b l) d) * View.ld x4 r0_10 (ix2 d k) = Y (cm (1280 + k)) :=
  (Finset.sum_congr rfl fun d _ => congrArg₂ (· * ·) (a_apply x0 x1 x2 x3 x4 x5 x6 x7 x8 x9 x10 b l d)
    (View.ld_unit_apply_of x4 ![0, 1280] S1024x256.size _ (ix2 d k) (ix2 d ⟨1280 + k, by omega⟩)
      (fun a => by fin_cases a; exact (Nat.zero_add _).symm; exact rfl))).trans (H.hY ⟨1280 + k, by omega⟩)

theorem slab1536 (k : Fin 512) : ∑ d : Fin 1024, k0_pay58 x0 x1 x2 x3 x4 x5 x6 x7 x8 x9 x10 (ix2 (rr b l) d) * View.ld x4 r0_11 (ix2 d k) = Y (cm (1536 + k)) :=
  (Finset.sum_congr rfl fun d _ => congrArg₂ (· * ·) (a_apply x0 x1 x2 x3 x4 x5 x6 x7 x8 x9 x10 b l d)
    (View.ld_unit_apply_of x4 ![0, 1536] S1024x512.size _ (ix2 d k) (ix2 d ⟨1536 + k, by omega⟩)
      (fun a => by fin_cases a; exact (Nat.zero_add _).symm; exact rfl))).trans (H.hY ⟨1536 + k, by omega⟩)

theorem slab2048 (k : Fin 256) : ∑ d : Fin 1024, k0_pay58 x0 x1 x2 x3 x4 x5 x6 x7 x8 x9 x10 (ix2 (rr b l) d) * View.ld x4 r0_13 (ix2 d k) = Y (cm (2048 + k)) :=
  (Finset.sum_congr rfl fun d _ => congrArg₂ (· * ·) (a_apply x0 x1 x2 x3 x4 x5 x6 x7 x8 x9 x10 b l d)
    (View.ld_unit_apply_of x4 ![0, 2048] S1024x256.size _ (ix2 d k) (ix2 d ⟨2048 + k, by omega⟩)
      (fun a => by fin_cases a; exact (Nat.zero_add _).symm; exact rfl))).trans (H.hY ⟨2048 + k, by omega⟩)

theorem slab2304 (k : Fin 128) : ∑ d : Fin 1024, k0_pay58 x0 x1 x2 x3 x4 x5 x6 x7 x8 x9 x10 (ix2 (rr b l) d) * View.ld x4 r0_22 (ix2 d k) = Y (cm (2304 + k)) :=
  (Finset.sum_congr rfl fun d _ => congrArg₂ (· * ·) (a_apply x0 x1 x2 x3 x4 x5 x6 x7 x8 x9 x10 b l d)
    (View.ld_unit_apply_of x4 ![0, 2304] S1024x128.size _ (ix2 d k) (ix2 d ⟨2304 + k, by omega⟩)
      (fun a => by fin_cases a; exact (Nat.zero_add _).symm; exact rfl))).trans (H.hY ⟨2304 + k, by omega⟩)

theorem slab2432 (k : Fin 128) : ∑ d : Fin 1024, k0_pay58 x0 x1 x2 x3 x4 x5 x6 x7 x8 x9 x10 (ix2 (rr b l) d) * View.ld x4 r0_24 (ix2 d k) = Y (cm (2432 + k)) :=
  (Finset.sum_congr rfl fun d _ => congrArg₂ (· * ·) (a_apply x0 x1 x2 x3 x4 x5 x6 x7 x8 x9 x10 b l d)
    (View.ld_unit_apply_of x4 ![0, 2432] S1024x128.size _ (ix2 d k) (ix2 d ⟨2432 + k, by omega⟩)
      (fun a => by fin_cases a; exact (Nat.zero_add _).symm; exact rfl))).trans (H.hY ⟨2432 + k, by omega⟩)

theorem out11 (n : Fin 256) : out0_11 x0 x1 x2 x3 x4 x5 x6 x7 x8 x9 x10 (ix3 b l n) = ret 0 Y p n := by
  unfold out0_11 k0_pay61
  rw [View.canon_cons_unit_lit _ _ _ (by decide)]
  refine (rq_apply b l _ _ _ p (fun k => Y (cm (0 + k))) _ (slab0 H) (c64 H) (s64 H) n).trans ?_
  refine rot_congr _ _ p _ (by omega) fun i hi => ?_
  show Y (cm (0 + (n.val / 64 * 64 + i))) = Y (0 + n.val / 64 * 64 + i)
  rw [cm, if_pos (by omega)]
  congr 1; omega

theorem out12 (n : Fin 256) : out0_12 x0 x1 x2 x3 x4 x5 x6 x7 x8 x9 x10 (ix3 b l n) = ret 256 Y p n := by
  unfold out0_12 k0_pay61
  rw [View.canon_cons_unit_lit _ _ _ (by decide)]
  refine (rk_apply b l _ _ _ p (fun k => Y (cm (256 + k))) _ (slab256 H) (c64 H) (s64 H) n).trans ?_
  refine rot_congr _ _ p _ (by omega) fun i hi => ?_
  show Y (cm (256 + (n.val / 64 * 64 + i))) = Y (256 + n.val / 64 * 64 + i)
  rw [cm, if_pos (by omega)]
  congr 1; omega

theorem out13 (n : Fin 256) : out0_13 x0 x1 x2 x3 x4 x5 x6 x7 x8 x9 x10 (ix3 b l n) = Y (512 + n) := by
  unfold out0_13
  rw [View.canon_cons_unit_lit _ _ _ (by decide), pay21_apply, slab512 H n, cm, if_pos (by omega)]

theorem out14 (n : Fin 256) : out0_14 x0 x1 x2 x3 x4 x5 x6 x7 x8 x9 x10 (ix3 b l n) = Y (768 + n) := by
  unfold out0_14
  rw [View.canon_cons_unit_lit _ _ _ (by decide), pay22_apply, slab768 H n, cm, if_pos (by omega)]

theorem out15 (n : Fin 256) : out0_15 x0 x1 x2 x3 x4 x5 x6 x7 x8 x9 x10 (ix3 b l n) = Y (1024 + n) := by
  unfold out0_15
  rw [View.canon_cons_unit_lit _ _ _ (by decide), pay23_apply, slab1024 H n, cm, if_pos (by omega)]

theorem out16 (n : Fin 256) : out0_16 x0 x1 x2 x3 x4 x5 x6 x7 x8 x9 x10 (ix3 b l n) = Y (1280 + n) := by
  unfold out0_16
  rw [View.canon_cons_unit_lit _ _ _ (by decide), pay24_apply, slab1280 H n, cm, if_pos (by omega)]

/-- The compressed queries of head `h`. -/
theorem q_apply (h : Fin 8) (n : Fin 128) : k0_pay64 x0 x1 x2 x3 x4 x5 x6 x7 x8 x9 x10 (ix2 (rr b l) ⟨h * 128 + n, by omega⟩) = ql Y (fun j => U n h ⟨j, by omega⟩) h := by
  unfold k0_pay64
  rw [View.ld_unit_lit _ x5 (by decide)]
  refine (Piece.ql_apply b l _ (fun k => Y (cm (1536 + k))) _ x5 U (slab1536 H) H.hU h n).trans ?_
  refine congrArg (· * _) (Finset.sum_congr rfl fun j _ => congrArg (_ * ·) (congrArg Y ?_))
  rw [cm, if_neg (by omega), if_pos (by omega)]
  omega

/-- The rotated query parts, head by head in slabs of 32. -/
theorem v_apply (n : Fin 256) : k0_pay70 x0 x1 x2 x3 x4 x5 x6 x7 x8 x9 x10 (ix2 (rr b l) n) = qr Y p (n / 32) (n % 32) * Ideal.ofBits FTy.f32 1037108716#32 := by
  unfold k0_pay70 k0_pay65 k0_pay66 k0_pay67 k0_pay68
  refine (Piece.qr_apply b l _ _ _ p (fun k => Y (cm (2048 + k))) _ (slab2048 H) (c32 H) (s32 H) n).trans (congrArg (· * _) ?_)
  refine rot_congr _ _ p _ (by omega) fun i hi => congrArg Y ?_
  rw [cm, if_neg (by omega), if_neg (by omega), if_pos (by omega)]
  omega

/-- One head's packed row is the attention's query row. -/
theorem pack_eq (h : ℕ) (hh : h < 8) (n : Fin 256) :
    pack b l (k0_pay64 x0 x1 x2 x3 x4 x5 x6 x7 x8 x9 x10) (k0_pay70 x0 x1 x2 x3 x4 x5 x6 x7 x8 x9 x10) n h hh = qcat Y U p ⟨h, hh⟩ n := by
  unfold pack qcat
  by_cases hn : n.val < 128
  · rw [dif_pos hn, dif_pos hn]
    exact q_apply H ⟨h, hh⟩ ⟨n, hn⟩
  · rw [dif_neg hn, dif_neg hn, slot_eq (h % 4) (by omega) (n - 128) (by omega), v_apply H]
    by_cases e : (n.val - 128) / 32 = h % 4
    · rw [if_pos e, if_pos e]
      have e1 : (if h < 4 then n.val - 128 else 128 + (n.val - 128)) / 32 = h := by split_ifs <;> omega
      have e2 : (if h < 4 then n.val - 128 else 128 + (n.val - 128)) % 32 = (n.val - 128) % 32 := by split_ifs <;> omega
      show qr Y p ((if h < 4 then n.val - 128 else 128 + (n.val - 128)) / 32) ((if h < 4 then n.val - 128 else 128 + (n.val - 128)) % 32) * _ = _
      rw [e1, e2]
    · rw [if_neg e, if_neg e]
      rfl

omit H in
/-- A store of one head's rows, read at an index of the block. -/
theorem tile (w : Vec Ideal S32x1x8x256 .f32) (h : Fin 8) (b : Fin 32) (l : Fin 8) (n : Fin 256) (k : ℕ) (v : Fin 8 → EReal)
    (hw : ∀ hk : k < 8, w (ix4 b 0 l n) = v ⟨k, hk⟩) :
    View.TileAt (S := S32x8x8x256) (e := .f32) (Val := Elt Ideal) (ix4 b h l n) ![0, k, 0, 0] S32x1x8x256.size w (v h) := by
  intro x hx
  have h0 : b.val = 0 + (x 0).val := hx 0
  have h1 : h.val = k + (x 1).val := hx 1
  have h2 : l.val = 0 + (x 2).val := hx 2
  have h3 : n.val = 0 + (x 3).val := hx 3
  have l1 : (x 1).val < 1 := (x 1).isLt
  have ex : x = ix4 b 0 l n := by
    funext a
    fin_cases a
    · exact Fin.ext (by show (x 0).val = b.val; omega)
    · exact Fin.ext (by show (x 1).val = 0; omega)
    · exact Fin.ext (by show (x 2).val = l.val; omega)
    · exact Fin.ext (by show (x 3).val = n.val; omega)
  rw [ex, hw (by omega)]
  exact congrArg v (Fin.ext (by show k = h.val; omega))

theorem out17 (h : Fin 8) (n : Fin 256) : out0_17 x0 x1 x2 x3 x4 x5 x6 x7 x8 x9 x10 (ix4 b h l n) = qcat Y U p h n := by
  unfold out0_17
  refine View.canon_eq_of_allAt _ _ _ (cover0_17 _ _ _ _ _ _ _ _ _) ?_
  refine View.allAt_cons_unit _ _ _ _ _ (tile _ h b l n 7 (fun h => qcat Y U p h n) fun hk => (head7 b l _ _ n).trans (pack_eq H 7 hk n)) ?_
  refine View.allAt_cons_unit _ _ _ _ _ (tile _ h b l n 6 (fun h => qcat Y U p h n) fun hk => (head6 b l _ _ n).trans (pack_eq H 6 hk n)) ?_
  refine View.allAt_cons_unit _ _ _ _ _ (tile _ h b l n 5 (fun h => qcat Y U p h n) fun hk => (head5 b l _ _ n).trans (pack_eq H 5 hk n)) ?_
  refine View.allAt_cons_unit _ _ _ _ _ (tile _ h b l n 4 (fun h => qcat Y U p h n) fun hk => (head4 b l _ _ n).trans (pack_eq H 4 hk n)) ?_
  refine View.allAt_cons_unit _ _ _ _ _ (tile _ h b l n 3 (fun h => qcat Y U p h n) fun hk => (head3 b l _ _ n).trans (pack_eq H 3 hk n)) ?_
  refine View.allAt_cons_unit _ _ _ _ _ (tile _ h b l n 2 (fun h => qcat Y U p h n) fun hk => (head2 b l _ _ n).trans (pack_eq H 2 hk n)) ?_
  refine View.allAt_cons_unit _ _ _ _ _ (tile _ h b l n 1 (fun h => qcat Y U p h n) fun hk => (head1 b l _ _ n).trans (pack_eq H 1 hk n)) ?_
  refine View.allAt_cons_unit _ _ _ _ _ (tile _ h b l n 0 (fun h => qcat Y U p h n) fun hk => (head0 b l _ n _ _ _ _ _ _ _).trans (pack_eq H 0 hk n)) ?_
  exact View.allAt_nil _ _

/-- The compressed keys. -/
theorem ckv_row (n : Fin 128) : k0_pay71 x0 x1 x2 x3 x4 x5 x6 x7 x8 x9 x10 (ix2 (rr b l) n) = ckv Y g n := by
  have e : ∀ k : Fin 128, Y (cm (2304 + k)) = Y (2304 + k) := fun k => by
    rw [cm, if_neg (by omega), if_neg (by omega), if_neg (by omega), if_pos (by omega)]
  unfold k0_pay71
  rw [View.ld_unit_lit _ x6 (by decide)]
  refine (Piece.ckv_apply b l _ (fun k => Y (cm (2304 + k))) _ x6 (slab2304 H) n).trans ?_
  simp only [ckv, H.hg, e]

/-- The rotated key part. -/
theorem kr_row (n : Fin 128) : k0_pay1 (k0_pay62 x0 x1 x2 x3 x4 x5 x6 x7 x8 x9 x10) (k0_pay63 x0 x1 x2 x3 x4 x5 x6 x7 x8 x9 x10) (k0_pay72 x0 x1 x2 x3 x4 x5 x6 x7 x8 x9 x10) (k0_pay73 x0 x1 x2 x3 x4 x5 x6 x7 x8 x9 x10) (k0_pay74 x0 x1 x2 x3 x4 x5 x6 x7 x8 x9 x10) 16#32 (ix2 (rr b l) n) = kr Y p (n % 32) := by
  unfold k0_pay72 k0_pay73 k0_pay74
  refine (Piece.kr_apply b l _ _ _ p (fun k => Y (cm (2432 + k))) _ (slab2432 H) (c32 H) (s32 H) n).trans ?_
  refine rot_congr _ _ p _ (by omega) fun i hi => congrArg Y ?_
  rw [cm, if_neg (by omega), if_neg (by omega), if_neg (by omega), if_neg (by omega)]
  omega

theorem out18 (n : Fin 256) : out0_18 x0 x1 x2 x3 x4 x5 x6 x7 x8 x9 x10 (ix3 b l n) = kcat Y g p n := by
  unfold out0_18
  rw [View.canon_cons_unit_lit _ _ _ (by decide), pay4_apply, kcat]
  split_ifs with hn
  · exact ckv_row H ⟨n, hn⟩
  · exact kr_row H ⟨n - 128, by omega⟩

theorem out19 (n : Fin 128) : out0_19 x0 x1 x2 x3 x4 x5 x6 x7 x8 x9 x10 (ix3 b l n) = ckv Y g n := by
  unfold out0_19
  rw [View.canon_cons_unit_lit _ _ _ (by decide), pay2_apply]
  exact ckv_row H n

theorem out20 (n : Fin 32) : out0_20 x0 x1 x2 x3 x4 x5 x6 x7 x8 x9 x10 (ix3 b l n) = kr Y p n := by
  unfold out0_20
  rw [View.canon_cons_unit_lit _ _ _ (by decide), pay3_apply]
  refine (kr_row H ⟨n, by omega⟩).trans ?_
  show kr Y p (n.val % 32) = _
  rw [Nat.mod_eq_of_lt n.isLt]

end Cert.Kernel3Ideal.Row
-- ==== Proof.SmHost.lean ====
/- The arrays the sampling group's input projection's pallas_call takes, read at an index. -/
module

public import proofs.«01_k».proof.Proof.SmRun
public import proofs.«01_k».proof.Proof.InForm
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Host

open Cert.Kernel3Ideal Cert.Kernel3Ideal.Gen Cert.Kernel3Ideal.Run Cert.InProj
open Idealize.ShloMosaic Idealize.ShloMosaic.TcCoe Idealize.ShloMosaic.Tactic Idealize.SL.Sem

variable (m : (ℓ : Loc nD τ sig) → Buf (Elt Ideal) ℓ)

/-- The layer's input. -/
abbrev aX (c : Dev nD) : S128x8x1024.Idx → EReal := m ((c : Thread nD τ).loc main_arg0)
/-- The modulation's scale and shift. -/
abbrev aS (c : Dev nD) : S128x1024.Idx → EReal := m ((c : Thread nD τ).loc main_arg1)
abbrev aT (c : Dev nD) : S128x1024.Idx → EReal := m ((c : Thread nD τ).loc main_arg2)
/-- The gain. -/
abbrev aG (c : Dev nD) : S1024.Idx → EReal := m ((c : Thread nD τ).loc main_arg3)
/-- The projection `w_in`. -/
abbrev aW (c : Dev nD) : S1024x2464.Idx → EReal := m ((c : Thread nD τ).loc main_arg4)
/-- The projection `w_ukv`. -/
abbrev aU (c : Dev nD) : S128x8x128.Idx → EReal := m ((c : Thread nD τ).loc main_arg5)
/-- The gain of the compressed keys. -/
abbrev aN (c : Dev nD) : S128.Idx → EReal := m ((c : Thread nD τ).loc main_arg6)

theorem sc_host (c : Dev nD) (b : Fin 128) (d : Fin 1024) : V m c main_v85 (ix3 b 0 d) = aS m c (ix2 b d) := by
  entry_read; pointwise

theorem sh_host (c : Dev nD) (b : Fin 128) (d : Fin 1024) : V m c main_v86 (ix3 b 0 d) = aT m c (ix2 b d) := by
  entry_read; pointwise

theorem gain_host (c : Dev nD) (d : Fin 1024) : V m c main_v87 (ix3 0 0 d) = aG m c (ix1 d) := by
  entry_read; pointwise

theorem kvg_host (c : Dev nD) (d : Fin 128) : V m c main_v88 (ix2 0 d) = aN m c (ix1 d) := by
  entry_read; pointwise

/-- One entry of the eight by eight identity. -/
theorem eye (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then (1 : EReal) else 0 := by
  have h : ∀ a b : Fin 8, IntOp.cmpi CmpIPredicate.eq (IntOp.addi (BitVec.ofNat 32 a.val) 0#32) (BitVec.ofNat 32 b.val)
      = if a.val = b.val then 1#1 else 0#1 := by decide
  rw [h ⟨a, ha⟩ ⟨b, hb⟩]
  split_ifs <;> simp [FloatOps.uitofp]

/-- The block-diagonal projection the host prepares. -/
theorem u_host (c : Dev nD) (k : Fin 512) (n : Fin 1024) :
    V m c main_v84 (ix2 k n)
      = (if k.val / 64 = n.val / 128 then (1 : EReal) else 0) * aU m c (ix3 ⟨n % 128, by omega⟩ ⟨k / 64, by omega⟩ ⟨k % 64, by omega⟩) := by
  entry_read
  pointwise
  exact congrArg₂ (· * ·) (eye (k.val / 64) (n.val / 128) (by omega) (by omega)) rfl

/-- A token's position, as the host counts it. -/
theorem pos : ∀ p : Fin 8, IntOp.addi 16384#32 (BitVec.ofNat 32 p.val) = BitVec.ofNat 32 (16384 + p.val) := by decide

/-- The rotary tables. -/
theorem c64_host (c : Dev nD) (p : Fin 8) (l : Fin 128) : V m c main_v24 (ix2 p l) = cosT 1115684864#32 32 (16384 + p) l := by
  entry_read; pointwise; simp only [pos]; rfl

theorem s64_host (c : Dev nD) (p : Fin 8) (l : Fin 128) : V m c main_v29 (ix2 p l) = sinT 1115684864#32 32 (16384 + p) l := by
  entry_read; pointwise; simp only [pos]; rfl

theorem c32_host (c : Dev nD) (p : Fin 8) (l : Fin 128) : V m c main_v51 (ix2 p l) = cosT 1107296256#32 16 (16384 + p) l := by
  entry_read; pointwise; simp only [pos]; rfl

theorem s32_host (c : Dev nD) (p : Fin 8) (l : Fin 128) : V m c main_v56 (ix2 p l) = sinT 1107296256#32 16 (16384 + p) l := by
  entry_read; pointwise; simp only [pos]; rfl

set_option maxHeartbeats 4000000 in
/-- The reordered projection as the host line's own operations. -/
theorem w_entry (c : Dev nD) : V m c main_v69 = shapeCast S1024x2560 (truncf .bf16 (concatenate S1x1024x2560 2
    [⟨S1x1024x1536, (extractStridedSlice S1x1024x1536 ![0, 0, 0] (broadcastInDim S1x1024x2464 ![1, 2] bcast_S1024x2464_S1x1024x2464_1_2 (m ((c : Thread nD τ).loc main_arg4))) slices_S1x1024x2464_S1x1024x1536_0_0_0 : FVec Ideal S1x1024x1536 .f32)⟩,
     ⟨S1x1024x512, (shapeCast _ (extractStridedSlice S1x1024x8x64 ![0, 0, 0, 0] (shapeCast _ (extractStridedSlice S1x1024x768 ![0, 0, 1536] (broadcastInDim S1x1024x2464 ![1, 2] bcast_S1024x2464_S1x1024x2464_1_2 (m ((c : Thread nD τ).loc main_arg4))) slices_S1x1024x2464_S1x1024x768_0_0_1536) shapeCasts_S1x1024x768_S1x1024x8x96 : FVec Ideal S1x1024x8x96 .f32) slices_S1x1024x8x96_S1x1024x8x64_0_0_0_0) shapeCasts_S1x1024x8x64_S1x1024x512 : FVec Ideal S1x1024x512 .f32)⟩,
     ⟨S1x1024x256, (shapeCast _ (extractStridedSlice S1x1024x8x32 ![0, 0, 0, 64] (shapeCast _ (extractStridedSlice S1x1024x768 ![0, 0, 1536] (broadcastInDim S1x1024x2464 ![1, 2] bcast_S1024x2464_S1x1024x2464_1_2 (m ((c : Thread nD τ).loc main_arg4))) slices_S1x1024x2464_S1x1024x768_0_0_1536) shapeCasts_S1x1024x768_S1x1024x8x96 : FVec Ideal S1x1024x8x96 .f32) slices_S1x1024x8x96_S1x1024x8x32_0_0_0_64) shapeCasts_S1x1024x8x32_S1x1024x256 : FVec Ideal S1x1024x256 .f32)⟩,
     ⟨S1x1024x128, (extractStridedSlice S1x1024x128 ![0, 0, 2304] (broadcastInDim S1x1024x2464 ![1, 2] bcast_S1024x2464_S1x1024x2464_1_2 (m ((c : Thread nD τ).loc main_arg4))) slices_S1x1024x2464_S1x1024x128_0_0_2304 : FVec Ideal S1x1024x128 .f32)⟩,
     ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩, ⟨S1x1024x32, (extractStridedSlice S1x1024x32 ![0, 0, 2432] (broadcastInDim S1x1024x2464 ![1, 2] bcast_S1024x2464_S1x1024x2464_1_2 (m ((c : Thread nD τ).loc main_arg4))) slices_S1x1024x2464_S1x1024x32_0_0_2432 : FVec Ideal S1x1024x32 .f32)⟩] concatenates_S1x1024x1536_S1x1024x512_S1x1024x256_S1x1024x128_S1x1024x32_S1x1024x32_S1x1024x32_S1x1024x32_S1x1024x2560_d2) bitsLt_bf16_f32) shapeCasts_S1x1024x2560_S1024x2560 := by
  rfl

set_option maxHeartbeats 2000000 in
/-- The reordered projection: column `n` is the layer's column `cm n`. -/
theorem w_host (c : Dev nD) (d : Fin 1024) (n : Fin 2560) :
    V m c main_v69 (ix2 d n) = aW m c (ix2 d ⟨cm n, cm_lt n n.isLt⟩) := by
  rw [w_entry]
  pointwise
  split_ifs <;> refine congrArg (fun k => aW m c (ix2 d k)) (Fin.ext ?_) <;> simp only [cm] <;> split_ifs <;> omega

end Cert.Kernel3Ideal.Host
-- ==== Proof.SmTile.lean ====
/- The sampling group's input projection's result arrays after the run, each as the layer's closed form of the arguments. -/
module

public import proofs.«01_k».proof.Proof.SmRow
public import proofs.«01_k».proof.Proof.SmHost

@[expose] public section

set_option maxRecDepth 16384

noncomputable section

namespace Cert.Kernel3Ideal.Final

open Cert.Kernel3Ideal Cert.Kernel3Ideal.Gen Cert.Kernel3Ideal.Run Cert.Kernel3Ideal.Host Cert.Kernel3Ideal.Row Cert.InProj
open Idealize.ShloMosaic Idealize.ShloMosaic.TcCoe Idealize.ShloMosaic.Tactic Idealize.SL.Sem

variable (m : (ℓ : Loc nD τ sig) → Buf (Elt Ideal) ℓ)

/-- The projected columns of token `p` of batch element `b`. -/
def yrow (c : Dev nD) (b : Fin 128) (p : Fin 8) : ℕ → EReal :=
  proj (hid (fun d => aX m c (ix3 b p d)) (fun d => aG m c (ix1 d)) (fun d => aS m c (ix2 b d)) (fun d => aT m c (ix2 b d)))
    fun d n => aW m c (ix2 d n)

/-- Where every window's block lies, at each of the four grid points. -/
theorem idx : ∀ t : Fin cfg0.N, win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0, 0]
    ∧ win0_4.index t = ![0, 0]
    ∧ win0_5.index t = ![0, 0]
    ∧ win0_6.index t = ![0, 0]
    ∧ win0_7.index t = ![(grid0.coords t 1).val, 0]
    ∧ win0_8.index t = ![(grid0.coords t 1).val, 0]
    ∧ win0_9.index t = ![(grid0.coords t 1).val, 0]
    ∧ win0_10.index t = ![(grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, 0, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0] :=
  (by decide +kernel : ∀ t : Fin grid0.N, _)

/-- The batch element a grid point keeps in row `b` of its blocks. -/
def bt (t : Fin cfg0.N) (b : Fin 32) : Fin 128 := ⟨32 * (grid0.coords t 0).val + b, by
  have h : (grid0.coords t 0).val < 4 := (grid0.coords t 0).isLt
  omega⟩

/-- The position of row `l` of a grid point. -/
def pos (t : Fin cfg0.N) (l : Fin 8) : Fin 8 := ⟨8 * (grid0.coords t 1).val + l, by
  have h : (grid0.coords t 1).val < 1 := (grid0.coords t 1).isLt
  omega⟩

/-- The block of rows. -/
theorem x_blk (c : Dev nD) (t : Fin cfg0.N) (b : Fin 32) (l : Fin 8) (d : Fin 1024) : iblk m c 0 t (ix3 b l d) = aX m c (ix3 (bt t b) (pos t l) d) := by
  blk_simp [iblk, V]
  blk_ext [V, idx t, pos, bt]

theorem emb1 (t : Fin cfg0.N) (b : Fin 32) (d : Fin 1024) : (win0_1.blk t).view.emb (ix3 b 0 d) = ix3 (bt t b) 0 d := by
  blk_ext [idx t, pos, bt]

theorem emb2 (t : Fin cfg0.N) (b : Fin 32) (d : Fin 1024) : (win0_2.blk t).view.emb (ix3 b 0 d) = ix3 (bt t b) 0 d := by
  blk_ext [idx t, pos, bt]

theorem emb3 (t : Fin cfg0.N) (d : Fin 1024) : (win0_3.blk t).view.emb (ix3 0 0 d) = ix3 0 0 d := by
  blk_ext [idx t, pos, bt]

theorem emb4 (t : Fin cfg0.N) (d : Fin 1024) (n : Fin 2560) : (win0_4.blk t).view.emb (ix2 d n) = ix2 d n := by
  blk_ext [idx t, pos, bt]

theorem emb5 (t : Fin cfg0.N) (d : Fin 512) (n : Fin 1024) : (win0_5.blk t).view.emb (ix2 d n) = ix2 d n := by
  blk_ext [idx t, pos, bt]

theorem emb6 (t : Fin cfg0.N) (n : Fin 128) : (win0_6.blk t).view.emb (ix2 0 n) = ix2 0 n := by
  blk_ext [idx t, pos, bt]

theorem emb7 (t : Fin cfg0.N) (l : Fin 8) (n : Fin 128) : (win0_7.blk t).view.emb (ix2 l n) = ix2 (pos t l) n := by
  blk_ext [idx t, pos, bt]

theorem emb8 (t : Fin cfg0.N) (l : Fin 8) (n : Fin 128) : (win0_8.blk t).view.emb (ix2 l n) = ix2 (pos t l) n := by
  blk_ext [idx t, pos, bt]

theorem emb9 (t : Fin cfg0.N) (l : Fin 8) (n : Fin 128) : (win0_9.blk t).view.emb (ix2 l n) = ix2 (pos t l) n := by
  blk_ext [idx t, pos, bt]

theorem emb10 (t : Fin cfg0.N) (l : Fin 8) (n : Fin 128) : (win0_10.blk t).view.emb (ix2 l n) = ix2 (pos t l) n := by
  blk_ext [idx t, pos, bt]

theorem emb11 (t : Fin cfg0.N) (b : Fin 32) (l : Fin 8) (n : Fin 256) : (win0_11.blk t).view.emb (ix3 b l n) = ix3 (bt t b) (pos t l) n := by
  blk_ext [idx t, pos, bt]

theorem emb12 (t : Fin cfg0.N) (b : Fin 32) (l : Fin 8) (n : Fin 256) : (win0_12.blk t).view.emb (ix3 b l n) = ix3 (bt t b) (pos t l) n := by
  blk_ext [idx t, pos, bt]

theorem emb13 (t : Fin cfg0.N) (b : Fin 32) (l : Fin 8) (n : Fin 256) : (win0_13.blk t).view.emb (ix3 b l n) = ix3 (bt t b) (pos t l) n := by
  blk_ext [idx t, pos, bt]

theorem emb14 (t : Fin cfg0.N) (b : Fin 32) (l : Fin 8) (n : Fin 256) : (win0_14.blk t).view.emb (ix3 b l n) = ix3 (bt t b) (pos t l) n := by
  blk_ext [idx t, pos, bt]

theorem emb15 (t : Fin cfg0.N) (b : Fin 32) (l : Fin 8) (n : Fin 256) : (win0_15.blk t).view.emb (ix3 b l n) = ix3 (bt t b) (pos t l) n := by
  blk_ext [idx t, pos, bt]

theorem emb16 (t : Fin cfg0.N) (b : Fin 32) (l : Fin 8) (n : Fin 256) : (win0_16.blk t).view.emb (ix3 b l n) = ix3 (bt t b) (pos t l) n := by
  blk_ext [idx t, pos, bt]

theorem emb17 (t : Fin cfg0.N) (b : Fin 32) (h : Fin 8) (l : Fin 8) (n : Fin 256) : (win0_17.blk t).view.emb (ix4 b h l n) = ix4 (bt t b) h (pos t l) n := by
  blk_ext [idx t, pos, bt]

theorem emb18 (t : Fin cfg0.N) (b : Fin 32) (l : Fin 8) (n : Fin 256) : (win0_18.blk t).view.emb (ix3 b l n) = ix3 (bt t b) (pos t l) n := by
  blk_ext [idx t, pos, bt]

theorem emb19 (t : Fin cfg0.N) (b : Fin 32) (l : Fin 8) (n : Fin 128) : (win0_19.blk t).view.emb (ix3 b l n) = ix3 (bt t b) (pos t l) n := by
  blk_ext [idx t, pos, bt]

theorem emb20 (t : Fin cfg0.N) (b : Fin 32) (l : Fin 8) (n : Fin 32) : (win0_20.blk t).view.emb (ix3 b l n) = ix3 (bt t b) (pos t l) n := by
  blk_ext [idx t, pos, bt]

set_option maxHeartbeats 4000000 in
/-- What one row of a grid point's blocks holds. -/
theorem holds (c : Dev nD) (t : Fin cfg0.N) (b : Fin 32) (l : Fin 8) :
    Holds (iblk m c 0 t) (iblk m c 1 t) (iblk m c 2 t) (iblk m c 3 t) (iblk m c 4 t) (iblk m c 5 t) (iblk m c 6 t) (iblk m c 7 t) (iblk m c 8 t) (iblk m c 9 t) (iblk m c 10 t)
      b l (16384 + pos t l) (yrow m c (bt t b) (pos t l)) (fun i j k => aU m c (ix3 i j k)) (fun n => aN m c (ix1 n)) where
  hY n := by
    have e0 : (fun d => iblk m c 0 t (ix3 b l d)) = fun d => aX m c (ix3 (bt t b) (pos t l) d) := funext fun d => x_blk m c t b l d
    have e1 : (fun d => iblk m c 1 t (ix3 b 0 d)) = fun d => aS m c (ix2 (bt t b) d) := funext fun d => (congrArg (V m c main_v85) (emb1 t b d)).trans (sc_host m c (bt t b) d)
    have e2 : (fun d => iblk m c 2 t (ix3 b 0 d)) = fun d => aT m c (ix2 (bt t b) d) := funext fun d => (congrArg (V m c main_v86) (emb2 t b d)).trans (sh_host m c (bt t b) d)
    have e3 : (fun d => iblk m c 3 t (ix3 0 0 d)) = fun d => aG m c (ix1 d) := funext fun d => (congrArg (V m c main_v87) (emb3 t d)).trans (gain_host m c d)
    rw [e0, e1, e2, e3, yrow, proj_of_lt _ _ _ (cm_lt n n.isLt)]
    exact Finset.sum_congr rfl fun d _ => congrArg (_ * ·) ((congrArg (V m c main_v69) (emb4 t d n)).trans (w_host m c d n))
  hU k n := (congrArg (V m c main_v84) (emb5 t k n)).trans (u_host m c k n)
  hg n := (congrArg (V m c main_v88) (emb6 t n)).trans (kvg_host m c n)
  h7 n := (congrArg (V m c main_v24) (emb7 t l n)).trans (c64_host m c (pos t l) n)
  h8 n := (congrArg (V m c main_v29) (emb8 t l n)).trans (s64_host m c (pos t l) n)
  h9 n := (congrArg (V m c main_v51) (emb9 t l n)).trans (c32_host m c (pos t l) n)
  h10 n := (congrArg (V m c main_v56) (emb10 t l n)).trans (s32_host m c (pos t l) n)

/-- An index of a block of one batch. -/
theorem ix_row {w : ℕ} (y : (⟨3, ![32, 8, w]⟩ : Shape).Idx) : ∃ (b : Fin 32) (l : Fin 8) (n : Fin w), y = ix3 b l n :=
  ⟨y 0, y 1, y 2, by funext a; fin_cases a <;> rfl⟩

/-- Result 0: the retention's rotated queries. -/
def res0 (c : Dev nD) (b : Fin 128) (p : Fin 8) (n : Fin 256) : EReal := ret 0 (yrow m c b p) (16384 + p) n

theorem place11 (c : Dev nD) (t : Fin cfg0.N) (y : S32x8x256.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res0 m c ((win0_11.blk t).view.emb y 0) ((win0_11.blk t).view.emb y 1) ((win0_11.blk t).view.emb y 2) := by
  obtain ⟨b, l, n, rfl⟩ := ix_row y
  rw [emb11 t b l n]
  exact out11 (holds m c t b l) n

theorem final11 (c : Dev nD) : (dats m 0 c).arrAt 11 cfg0.N = fun y : S128x8x256.Idx => res0 m c (y 0) (y 1) (y 2) := by
  refine (dats m 0 c).arrAt_eq_of_covers 11 _ (by decide +kernel) fun t _ y => ?_
  blk_simp
  rw [after0_11]
  exact place11 m c t y

/-- Result 1: the retention's rotated keys. -/
def res1 (c : Dev nD) (b : Fin 128) (p : Fin 8) (n : Fin 256) : EReal := ret 256 (yrow m c b p) (16384 + p) n

theorem place12 (c : Dev nD) (t : Fin cfg0.N) (y : S32x8x256.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res1 m c ((win0_12.blk t).view.emb y 0) ((win0_12.blk t).view.emb y 1) ((win0_12.blk t).view.emb y 2) := by
  obtain ⟨b, l, n, rfl⟩ := ix_row y
  rw [emb12 t b l n]
  exact out12 (holds m c t b l) n

theorem final12 (c : Dev nD) : (dats m 0 c).arrAt 12 cfg0.N = fun y : S128x8x256.Idx => res1 m c (y 0) (y 1) (y 2) := by
  refine (dats m 0 c).arrAt_eq_of_covers 12 _ (by decide +kernel) fun t _ y => ?_
  blk_simp
  rw [after0_12]
  exact place12 m c t y

/-- Result 2: the retention's values. -/
def res2 (c : Dev nD) (b : Fin 128) (p : Fin 8) (n : Fin 256) : EReal := (yrow m c b p) (512 + n)

theorem place13 (c : Dev nD) (t : Fin cfg0.N) (y : S32x8x256.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res2 m c ((win0_13.blk t).view.emb y 0) ((win0_13.blk t).view.emb y 1) ((win0_13.blk t).view.emb y 2) := by
  obtain ⟨b, l, n, rfl⟩ := ix_row y
  rw [emb13 t b l n]
  exact out13 (holds m c t b l) n

theorem final13 (c : Dev nD) : (dats m 0 c).arrAt 13 cfg0.N = fun y : S128x8x256.Idx => res2 m c (y 0) (y 1) (y 2) := by
  refine (dats m 0 c).arrAt_eq_of_covers 13 _ (by decide +kernel) fun t _ y => ?_
  blk_simp
  rw [after0_13]
  exact place13 m c t y

/-- Result 3: the retention's gate. -/
def res3 (c : Dev nD) (b : Fin 128) (p : Fin 8) (n : Fin 256) : EReal := (yrow m c b p) (768 + n)

theorem place14 (c : Dev nD) (t : Fin cfg0.N) (y : S32x8x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res3 m c ((win0_14.blk t).view.emb y 0) ((win0_14.blk t).view.emb y 1) ((win0_14.blk t).view.emb y 2) := by
  obtain ⟨b, l, n, rfl⟩ := ix_row y
  rw [emb14 t b l n]
  exact out14 (holds m c t b l) n

theorem final14 (c : Dev nD) : (dats m 0 c).arrAt 14 cfg0.N = fun y : S128x8x256.Idx => res3 m c (y 0) (y 1) (y 2) := by
  refine (dats m 0 c).arrAt_eq_of_covers 14 _ (by decide +kernel) fun t _ y => ?_
  blk_simp
  rw [after0_14]
  exact place14 m c t y

/-- Result 4: the recurrence's input. -/
def res4 (c : Dev nD) (b : Fin 128) (p : Fin 8) (n : Fin 256) : EReal := (yrow m c b p) (1024 + n)

theorem place15 (c : Dev nD) (t : Fin cfg0.N) (y : S32x8x256.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res4 m c ((win0_15.blk t).view.emb y 0) ((win0_15.blk t).view.emb y 1) ((win0_15.blk t).view.emb y 2) := by
  obtain ⟨b, l, n, rfl⟩ := ix_row y
  rw [emb15 t b l n]
  exact out15 (holds m c t b l) n

theorem final15 (c : Dev nD) : (dats m 0 c).arrAt 15 cfg0.N = fun y : S128x8x256.Idx => res4 m c (y 0) (y 1) (y 2) := by
  refine (dats m 0 c).arrAt_eq_of_covers 15 _ (by decide +kernel) fun t _ y => ?_
  blk_simp
  rw [after0_15]
  exact place15 m c t y

/-- Result 5: the recurrence's gate. -/
def res5 (c : Dev nD) (b : Fin 128) (p : Fin 8) (n : Fin 256) : EReal := (yrow m c b p) (1280 + n)

theorem place16 (c : Dev nD) (t : Fin cfg0.N) (y : S32x8x256.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res5 m c ((win0_16.blk t).view.emb y 0) ((win0_16.blk t).view.emb y 1) ((win0_16.blk t).view.emb y 2) := by
  obtain ⟨b, l, n, rfl⟩ := ix_row y
  rw [emb16 t b l n]
  exact out16 (holds m c t b l) n

theorem final16 (c : Dev nD) : (dats m 0 c).arrAt 16 cfg0.N = fun y : S128x8x256.Idx => res5 m c (y 0) (y 1) (y 2) := by
  refine (dats m 0 c).arrAt_eq_of_covers 16 _ (by decide +kernel) fun t _ y => ?_
  blk_simp
  rw [after0_16]
  exact place16 m c t y

/-- Result 6: the attention's queries. -/
def res6 (c : Dev nD) (b : Fin 128) (h : Fin 8) (p : Fin 8) (n : Fin 256) : EReal := qcat (yrow m c b p) (fun i j k => aU m c (ix3 i j k)) (16384 + p) h n

theorem place17 (c : Dev nD) (t : Fin cfg0.N) (y : S32x8x8x256.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res6 m c ((win0_17.blk t).view.emb y 0) ((win0_17.blk t).view.emb y 1) ((win0_17.blk t).view.emb y 2) ((win0_17.blk t).view.emb y 3) := by
  obtain ⟨b, h, l, n, rfl⟩ : ∃ (b : Fin 32) (h : Fin 8) (l : Fin 8) (n : Fin 256), y = ix4 b h l n :=
    ⟨y 0, y 1, y 2, y 3, by funext a; fin_cases a <;> rfl⟩
  rw [emb17 t b h l n]
  exact out17 (holds m c t b l) h n

theorem final17 (c : Dev nD) : (dats m 0 c).arrAt 17 cfg0.N = fun y : S128x8x8x256.Idx => res6 m c (y 0) (y 1) (y 2) (y 3) := by
  refine (dats m 0 c).arrAt_eq_of_covers 17 _ (by decide +kernel) fun t _ y => ?_
  blk_simp
  rw [after0_17]
  exact place17 m c t y

/-- Result 7: the attention's keys. -/
def res7 (c : Dev nD) (b : Fin 128) (p : Fin 8) (n : Fin 256) : EReal := kcat (yrow m c b p) (fun n => aN m c (ix1 n)) (16384 + p) n

theorem place18 (c : Dev nD) (t : Fin cfg0.N) (y : S32x8x256.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res7 m c ((win0_18.blk t).view.emb y 0) ((win0_18.blk t).view.emb y 1) ((win0_18.blk t).view.emb y 2) := by
  obtain ⟨b, l, n, rfl⟩ := ix_row y
  rw [emb18 t b l n]
  exact out18 (holds m c t b l) n

theorem final18 (c : Dev nD) : (dats m 0 c).arrAt 18 cfg0.N = fun y : S128x8x256.Idx => res7 m c (y 0) (y 1) (y 2) := by
  refine (dats m 0 c).arrAt_eq_of_covers 18 _ (by decide +kernel) fun t _ y => ?_
  blk_simp
  rw [after0_18]
  exact place18 m c t y

/-- Result 8: the compressed keys. -/
def res8 (c : Dev nD) (b : Fin 128) (p : Fin 8) (n : Fin 128) : EReal := ckv (yrow m c b p) (fun n => aN m c (ix1 n)) n

theorem place19 (c : Dev nD) (t : Fin cfg0.N) (y : S32x8x128.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res8 m c ((win0_19.blk t).view.emb y 0) ((win0_19.blk t).view.emb y 1) ((win0_19.blk t).view.emb y 2) := by
  obtain ⟨b, l, n, rfl⟩ := ix_row y
  rw [emb19 t b l n]
  exact out19 (holds m c t b l) n

theorem final19 (c : Dev nD) : (dats m 0 c).arrAt 19 cfg0.N = fun y : S128x8x128.Idx => res8 m c (y 0) (y 1) (y 2) := by
  refine (dats m 0 c).arrAt_eq_of_covers 19 _ (by decide +kernel) fun t _ y => ?_
  blk_simp
  rw [after0_19]
  exact place19 m c t y

/-- Result 9: the rotated key part. -/
def res9 (c : Dev nD) (b : Fin 128) (p : Fin 8) (n : Fin 32) : EReal := kr (yrow m c b p) (16384 + p) n

theorem place20 (c : Dev nD) (t : Fin cfg0.N) (y : S32x8x32.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = res9 m c ((win0_20.blk t).view.emb y 0) ((win0_20.blk t).view.emb y 1) ((win0_20.blk t).view.emb y 2) := by
  obtain ⟨b, l, n, rfl⟩ := ix_row y
  rw [emb20 t b l n]
  exact out20 (holds m c t b l) n

theorem final20 (c : Dev nD) : (dats m 0 c).arrAt 20 cfg0.N = fun y : S128x8x32.Idx => res9 m c (y 0) (y 1) (y 2) := by
  refine (dats m 0 c).arrAt_eq_of_covers 20 _ (by decide +kernel) fun t _ y => ?_
  blk_simp
  rw [after0_20]
  exact place20 m c t y

end Cert.Kernel3Ideal.Final
-- ==== Proof.SmProj.lean ====
/- The sampling group's input projection: its frames, and its run and the reference's ending with the same ten results. -/
module

public import proofs.«01_k».proof.Defs
public import proofs.«01_k».proof.Proof.Gen.Kernel3
public import proofs.«01_k».proof.Proof.SmRef
public import proofs.«01_k».proof.Proof.SmTile
public import Idealize.ShloMosaic.Lib.Claim

@[expose] public section

set_option maxRecDepth 16384

noncomputable section

namespace Cert.SmProj.Values

open Idealize.ShloMosaic Idealize.ShloMosaic.TcCoe Idealize.SL.Sem

/-- The reference runs, keeps its arguments, and declares no semaphore. -/
theorem frame_reference : Cert.quiescent_Reference3Ideal := fun m g _ =>
  (θ_run Cert.Reference3Ideal.defs _ _).mono
    (fun r h => ⟨fun c => (h c).2.2.2.2.2.2.2.2.2.2, sem_eq_zero_of_no_sems (by decide) r.2⟩)
    (Cert.Reference3Ideal.Value.run (F := Ideal) m g)

/-- The kernel runs, keeps its arguments, and leaves its semaphores at zero, at the ideal instance. -/
theorem frame_ideal : Cert.quiescent_Kernel3Ideal := fun m g _ => Cert.Kernel3Ideal.Run.frame (F := Ideal) m g

section
variable (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)

/-- The two programs' memories hold the same arguments. -/
abbrev Same : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
  ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)

variable {m m' c} (h : Same m m' c)
include h

/-- The projected columns of a token, on both sides. -/
theorem row_eq (b : Fin 128) (p : Fin 8) :
    Cert.Reference3Ideal.InRef.row (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p = Cert.Kernel3Ideal.Final.yrow m c b p := by
  obtain ⟨h0, h1, h2, h3, h4, -, -⟩ := h
  rw [h0, h1, h2, h3, h4]
  rfl

theorem eq0 : Cert.Reference3Ideal.Read.val_main_v224 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 11 Cert.Kernel3Ideal.cfg0.N := by
  rw [Cert.Kernel3Ideal.Final.final11 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.rq_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq1 : Cert.Reference3Ideal.Read.val_main_v225 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 12 Cert.Kernel3Ideal.cfg0.N := by
  rw [Cert.Kernel3Ideal.Final.final12 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.rk_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq2 : Cert.Reference3Ideal.Read.val_main_v27 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 13 Cert.Kernel3Ideal.cfg0.N := by
  rw [Cert.Kernel3Ideal.Final.final13 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.rv_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq3 : Cert.Reference3Ideal.Read.val_main_v28 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 14 Cert.Kernel3Ideal.cfg0.N := by
  rw [Cert.Kernel3Ideal.Final.final14 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.rg_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq4 : Cert.Reference3Ideal.Read.val_main_v29 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 15 Cert.Kernel3Ideal.cfg0.N := by
  rw [Cert.Kernel3Ideal.Final.final15 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.lx_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq5 : Cert.Reference3Ideal.Read.val_main_v30 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 16 Cert.Kernel3Ideal.cfg0.N := by
  rw [Cert.Kernel3Ideal.Final.final16 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.lg_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

theorem eq6 : Cert.Reference3Ideal.Read.val_main_v222 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
    = (Cert.Kernel3Ideal.Run.dats m 0 c).arrAt 17 Cert.Kernel3Ideal.cfg0.N := by
  rw [Cert.Kernel3Ideal.Final.final17 m c]
  funext y
  obtain ⟨b, hd, p, n, rfl⟩ : ∃ (b : Fin 128) (hd : Fin 8) (p : Fin 8) (n : Fin 256), y = ix4 b hd p n :=
    ⟨y 0, y 1, y 2, y 3, by funext a; fin_cases a <;> rfl⟩
  refine (Cert.Reference3Ideal.InRef.qcat_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) b p hd n).trans ?_
  rw [row_eq h b p]
  rw [h.2.2.2.2.2.1]; rfl

theorem eq7 : Cert.Reference3Ideal.Read.val_main_v223 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6))
    = (Cert.Kernel3Ideal.Run.dats m 0 c).arrAt 18 Cert.Kernel3Ideal.cfg0.N := by
  rw [Cert.Kernel3Ideal.Final.final18 m c]
  funext y
  obtain ⟨b, p, n, rfl⟩ : ∃ (b : Fin 128) (p : Fin 8) (n : Fin 256), y = ix3 b p n :=
    ⟨y 0, y 1, y 2, by funext a; fin_cases a <;> rfl⟩
  refine (Cert.Reference3Ideal.InRef.kcat_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) b p n).trans ?_
  rw [row_eq h b p]
  rw [h.2.2.2.2.2.2]; rfl

theorem eq8 : Cert.Reference3Ideal.Read.val_main_v162 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6))
    = (Cert.Kernel3Ideal.Run.dats m 0 c).arrAt 19 Cert.Kernel3Ideal.cfg0.N := by
  rw [Cert.Kernel3Ideal.Final.final19 m c]
  funext y
  obtain ⟨b, p, n, rfl⟩ : ∃ (b : Fin 128) (p : Fin 8) (n : Fin 128), y = ix3 b p n :=
    ⟨y 0, y 1, y 2, by funext a; fin_cases a <;> rfl⟩
  refine (Cert.Reference3Ideal.InRef.ckv_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) b p n).trans ?_
  rw [row_eq h b p]
  rw [h.2.2.2.2.2.2]; rfl

theorem eq9 : Cert.Reference3Ideal.Read.val_main_v201 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = (Cert.Kernel3Ideal.Run.dats m 0 c).arrAt 20 Cert.Kernel3Ideal.cfg0.N := by
  rw [Cert.Kernel3Ideal.Final.final20 m c]
  funext y
  obtain ⟨b, p, n, rfl⟩ : ∃ (b : Fin 128) (p : Fin 8) (n : Fin 32), y = ix3 b p n :=
    ⟨y 0, y 1, y 2, by funext a; fin_cases a <;> rfl⟩
  refine (Cert.Reference3Ideal.InRef.kr_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) b p n).trans ?_
  rw [row_eq h b p]
  rfl

end

set_option maxHeartbeats 4000000 in
/-- The value claim: both runs end with the same ten results on every device. -/
theorem algebraic : Cert.algebraic_Kernel3Ideal_Reference3Ideal := by
  intro m g m' g' _ hargs
  refine ⟨fun c => (Cert.Kernel3Ideal.Run.dats m 0 c).arrAt 11 Cert.Kernel3Ideal.cfg0.N,
    fun c => (Cert.Kernel3Ideal.Run.dats m 0 c).arrAt 12 Cert.Kernel3Ideal.cfg0.N,
    fun c => (Cert.Kernel3Ideal.Run.dats m 0 c).arrAt 13 Cert.Kernel3Ideal.cfg0.N,
    fun c => (Cert.Kernel3Ideal.Run.dats m 0 c).arrAt 14 Cert.Kernel3Ideal.cfg0.N,
    fun c => (Cert.Kernel3Ideal.Run.dats m 0 c).arrAt 15 Cert.Kernel3Ideal.cfg0.N,
    fun c => (Cert.Kernel3Ideal.Run.dats m 0 c).arrAt 16 Cert.Kernel3Ideal.cfg0.N,
    fun c => (Cert.Kernel3Ideal.Run.dats m 0 c).arrAt 17 Cert.Kernel3Ideal.cfg0.N,
    fun c => (Cert.Kernel3Ideal.Run.dats m 0 c).arrAt 18 Cert.Kernel3Ideal.cfg0.N,
    fun c => (Cert.Kernel3Ideal.Run.dats m 0 c).arrAt 19 Cert.Kernel3Ideal.cfg0.N,
    fun c => (Cert.Kernel3Ideal.Run.dats m 0 c).arrAt 20 Cert.Kernel3Ideal.cfg0.N,
    Cert.Kernel3Ideal.Run.run_blocks (F := Ideal) m g, ?_⟩
  refine (θ_run Cert.Reference3Ideal.defs _ _).mono (fun r h c => ?_) (Cert.Reference3Ideal.Value.run (F := Ideal) m' g')
  obtain ⟨e0, e1, e2, e3, e4, e5, e6, e7, e8, e9, k⟩ := h c
  exact ⟨e0.trans ((Cert.Reference3Ideal.Read.val_main_v224_eq _).trans (eq0 (hargs c))),
    e1.trans ((Cert.Reference3Ideal.Read.val_main_v225_eq _).trans (eq1 (hargs c))),
    e2.trans ((Cert.Reference3Ideal.Read.val_main_v27_eq _).trans (eq2 (hargs c))),
    e3.trans ((Cert.Reference3Ideal.Read.val_main_v28_eq _).trans (eq3 (hargs c))),
    e4.trans ((Cert.Reference3Ideal.Read.val_main_v29_eq _).trans (eq4 (hargs c))),
    e5.trans ((Cert.Reference3Ideal.Read.val_main_v30_eq _).trans (eq5 (hargs c))),
    e6.trans ((Cert.Reference3Ideal.Read.val_main_v222_eq _).trans (eq6 (hargs c))),
    e7.trans ((Cert.Reference3Ideal.Read.val_main_v223_eq _).trans (eq7 (hargs c))),
    e8.trans ((Cert.Reference3Ideal.Read.val_main_v162_eq _).trans (eq8 (hargs c))),
    e9.trans ((Cert.Reference3Ideal.Read.val_main_v201_eq _).trans (eq9 (hargs c))), k⟩

end Cert.SmProj.Values
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Tile
public import proofs.«01_k».proof.Proof.RefEq
public import proofs.«01_k».proof.Proof.Pre
public import proofs.«01_k».proof.Proof.InBits
public import proofs.«01_k».proof.Proof.InProj
public import proofs.«01_k».proof.Proof.SmBits
public import proofs.«01_k».proof.Proof.SmProj
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem
open Cert.Pre_finite_inputs.Read

/-- Of the precondition: the queries and keys of every device are real. -/
theorem finite (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    Attn.Finite (Cert.KernelIdeal.Tile.fQ m c) (Cert.KernelIdeal.Tile.fK m c) :=
  ⟨fun _ _ _ _ => q_real _ _ _ _ (h c).1 _, fun _ _ _ => k_real _ _ _ _ (h c).2 _⟩

/-- The reference runs, keeps its arguments, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's array and the reference's are one closed form over equal arguments. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hf : Attn.Finite (Cert.KernelIdeal.Tile.fQ m c) (Cert.KernelIdeal.Tile.fK m c))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v40 m' c = (Cert.KernelIdeal.Gen.dats m 0 c).arrAt 4 Cert.KernelIdeal.cfg0.N := by
  rw [Cert.ReferenceIdeal.Stages.res_eq, h0, h1, h2, h3, Cert.KernelIdeal.Tile.final m c hf]
  exact Cert.ReferenceIdeal.Stages.res_fun _ _ _ _

/-- The value claim: both runs end with the same result on every device. -/
theorem algebraic : Cert.algebraic_KernelIdeal_ReferenceIdeal_pre_finite_inputs := by
  intro m g m' g' hpre hargs
  refine ⟨fun c => (Cert.KernelIdeal.Gen.dats m 0 c).arrAt 4 Cert.KernelIdeal.cfg0.N,
    Cert.KernelIdeal.Value.run_blocks (F := Ideal) m g, ?_⟩
  refine (θ_run Cert.ReferenceIdeal.defs _ _).mono (fun r h c => ⟨(h c).1.trans ?_, (h c).2⟩)
    (Cert.ReferenceIdeal.Value.run (F := Ideal) m' g')
  exact values m m' c (finite m hpre c) (hargs c).1 (hargs c).2.1 (hargs c).2.2.1 (hargs c).2.2.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, facts,
    fun m g _ => Cert.Kernel.Gen.frame (F := Bits) m g,
    fun m g _ => Cert.KernelIdeal.Gen.frame (F := Ideal) m g,
    fun m g _ => Cert.KernelIdeal.Gen.frame (F := Ideal) m g,
    fun m g _ => frame_reference m g,
    fun m g _ => frame_reference m g,
    Cert.InProj.Bits.frame_bits,
    Cert.InProj.Values.frame_ideal,
    Cert.InProj.Values.frame_reference,
    Cert.SmProj.Bits.frame_bits,
    Cert.SmProj.Values.frame_ideal,
    Cert.SmProj.Values.frame_reference,
    trivial,
    algebraic,
    trivial,
    Cert.InProj.Values.algebraic,
    trivial,
    Cert.SmProj.Values.algebraic⟩

end Cert.Proof

end
